-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S16 : Shape := ⟨1, ![16]⟩
abbrev S_ : Shape := ⟨0, ![]⟩
abbrev S1 : Shape := ⟨1, ![1]⟩
abbrev S16x1 : Shape := ⟨2, ![16, 1]⟩
abbrev S34 : Shape := ⟨1, ![34]⟩
abbrev S65536x1024 : Shape := ⟨2, ![65536, 1024]⟩
abbrev S15x2 : Shape := ⟨2, ![15, 2]⟩
abbrev S1x1 : Shape := ⟨2, ![1, 1]⟩
abbrev S1024x1024 : Shape := ⟨2, ![1024, 1024]⟩

abbrev nBuf : Space → Nat
  | .hbm => 140
  | .vmem => 0
  | .smem => 1
  | _ => 0

abbrev hbmTy0_0 (i : Nat) : BufTy := match i % 128 with
  | 0 => ⟨S4096x1024, .f32⟩
  | 1 => ⟨S16, .i32⟩
  | 2 => ⟨S16, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S1, .i32⟩
  | 15 => ⟨S_, .i32⟩
  | 16 => ⟨S16, .i32⟩
  | 17 => ⟨S16, .i32⟩
  | 18 => ⟨S16, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S16, .i32⟩
  | 26 => ⟨S16, .i32⟩
  | 27 => ⟨S_, .i32⟩
  | 28 => ⟨S16, .i32⟩
  | 29 => ⟨S16, .i1⟩
  | 30 => ⟨S_, .i32⟩
  | 31 => ⟨S16, .i32⟩
  | 32 => ⟨S16, .i1⟩
  | 33 => ⟨S_, .i32⟩
  | 34 => ⟨S_, .i1⟩
  | 35 => ⟨S16, .i1⟩
  | 36 => ⟨S16, .i1⟩
  | 37 => ⟨S16, .i1⟩
  | 38 => ⟨S16, .i32⟩
  | 39 => ⟨S16, .i32⟩
  | 40 => ⟨S16, .i32⟩
  | 41 => ⟨S_, .i32⟩
  | 42 => ⟨S16, .i32⟩
  | 43 => ⟨S16, .i1⟩
  | 44 => ⟨S_, .i32⟩
  | 45 => ⟨S16, .i32⟩
  | 46 => ⟨S16, .i32⟩
  | 47 => ⟨S16, .i32⟩
  | 48 => ⟨S16x1, .i32⟩
  | 49 => ⟨S16, .i32⟩
  | 50 => ⟨S16, .i32⟩
  | 51 => ⟨S16, .i32⟩
  | 52 => ⟨S16, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S16, .i32⟩
  | 60 => ⟨S16, .i32⟩
  | 61 => ⟨S_, .i32⟩
  | 62 => ⟨S16, .i32⟩
  | 63 => ⟨S16, .i1⟩
  | 64 => ⟨S_, .i32⟩
  | 65 => ⟨S16, .i32⟩
  | 66 => ⟨S16, .i1⟩
  | 67 => ⟨S_, .i32⟩
  | 68 => ⟨S_, .i1⟩
  | 69 => ⟨S16, .i1⟩
  | 70 => ⟨S16, .i1⟩
  | 71 => ⟨S16, .i1⟩
  | 72 => ⟨S16, .i32⟩
  | 73 => ⟨S16, .i32⟩
  | 74 => ⟨S16, .i32⟩
  | 75 => ⟨S_, .i32⟩
  | 76 => ⟨S16, .i32⟩
  | 77 => ⟨S16, .i1⟩
  | 78 => ⟨S_, .i32⟩
  | 79 => ⟨S16, .i32⟩
  | 80 => ⟨S16, .i32⟩
  | 81 => ⟨S16, .i32⟩
  | 82 => ⟨S16x1, .i32⟩
  | 83 => ⟨S16, .i32⟩
  | 84 => ⟨S_, .i32⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i1⟩
  | 97 => ⟨S_, .i32⟩
  | 98 => ⟨S_, .i1⟩
  | 99 => ⟨S_, .i1⟩
  | 100 => ⟨S_, .i1⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S1, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i1⟩
  | 123 => ⟨S_, .i32⟩
  | 124 => ⟨S_, .i1⟩
  | 125 => ⟨S_, .i1⟩
  | 126 => ⟨S_, .i1⟩
  | 127 => ⟨S_, .i32⟩
  | _ => ⟨S4096x1024, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S1, .i32⟩
  | 7 => ⟨S_, .i32⟩
  | 8 => ⟨S1, .i32⟩
  | 9 => ⟨S1, .i32⟩
  | 10 => ⟨S34, .i32⟩
  | 11 => ⟨S65536x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .smem, ⟨0, _⟩ => ⟨S34, .i32⟩
  | _, _ => ⟨S4096x1024, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  (ofTc nBuf bufTy 1 122 bufScoped semScoped dmaSemScoped tileCredit tileCredit_eq_zero tileCredit_pos).withBarriers [(0, 0)]

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_3 : Ref sig .tc := ⟨.hbm, 9, rfl⟩
abbrev main_v5 : Ref sig .tc := ⟨.hbm, 10, rfl⟩
abbrev main_c_4 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_5 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v13 : Ref sig .tc := ⟨.hbm, 40, rfl⟩
abbrev main_c_6 : Ref sig .tc := ⟨.hbm, 41, rfl⟩
abbrev main_v14 : Ref sig .tc := ⟨.hbm, 42, rfl⟩
abbrev main_v15 : Ref sig .tc := ⟨.hbm, 43, rfl⟩
abbrev main_c_7 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_8 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_c_1 : Ref sig .tc := ⟨.hbm, 61, rfl⟩
abbrev main_call1_v5 : Ref sig .tc := ⟨.hbm, 62, rfl⟩
abbrev main_call1_v6 : Ref sig .tc := ⟨.hbm, 63, rfl⟩
abbrev main_call1_c_2 : Ref sig .tc := ⟨.hbm, 64, rfl⟩
abbrev main_call1_v7 : Ref sig .tc := ⟨.hbm, 65, rfl⟩
abbrev main_call1_v8 : Ref sig .tc := ⟨.hbm, 66, rfl⟩
abbrev main_call1_c_3 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_v24 : Ref sig .tc := ⟨.hbm, 74, rfl⟩
abbrev main_c_9 : Ref sig .tc := ⟨.hbm, 75, rfl⟩
abbrev main_v25 : Ref sig .tc := ⟨.hbm, 76, rfl⟩
abbrev main_v26 : Ref sig .tc := ⟨.hbm, 77, rfl⟩
abbrev main_c_10 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_c_11 : Ref sig .tc := ⟨.hbm, 84, rfl⟩
abbrev main_v32 : Ref sig .tc := ⟨.hbm, 85, rfl⟩
abbrev main_c_12 : Ref sig .tc := ⟨.hbm, 86, rfl⟩
abbrev main_call2_v0 : Ref sig .tc := ⟨.hbm, 87, rfl⟩
abbrev main_call2_c : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_c_1 : Ref sig .tc := ⟨.hbm, 93, rfl⟩
abbrev main_call2_v4 : Ref sig .tc := ⟨.hbm, 94, rfl⟩
abbrev main_call2_c_2 : Ref sig .tc := ⟨.hbm, 95, rfl⟩
abbrev main_call2_v5 : Ref sig .tc := ⟨.hbm, 96, rfl⟩
abbrev main_call2_c_3 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_v33 : Ref sig .tc := ⟨.hbm, 102, rfl⟩
abbrev main_c_13 : Ref sig .tc := ⟨.hbm, 103, rfl⟩
abbrev main_v34 : Ref sig .tc := ⟨.hbm, 104, rfl⟩
abbrev main_c_14 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_c_15 : Ref sig .tc := ⟨.hbm, 110, rfl⟩
abbrev main_v39 : Ref sig .tc := ⟨.hbm, 111, rfl⟩
abbrev main_c_16 : Ref sig .tc := ⟨.hbm, 112, rfl⟩
abbrev main_call3_v0 : Ref sig .tc := ⟨.hbm, 113, rfl⟩
abbrev main_call3_c : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_c_1 : Ref sig .tc := ⟨.hbm, 119, rfl⟩
abbrev main_call3_v4 : Ref sig .tc := ⟨.hbm, 120, rfl⟩
abbrev main_call3_c_2 : Ref sig .tc := ⟨.hbm, 121, rfl⟩
abbrev main_call3_v5 : Ref sig .tc := ⟨.hbm, 122, rfl⟩
abbrev main_call3_c_3 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_v40 : Ref sig .tc := ⟨.hbm, 128, rfl⟩
abbrev main_c_17 : Ref sig .tc := ⟨.hbm, 129, rfl⟩
abbrev main_v41 : Ref sig .tc := ⟨.hbm, 130, rfl⟩
abbrev main_c_18 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v3 : BitVec 32 := Scalar.muli v1 c1_i32_0
  let v4 : BitVec 32 := Scalar.addi c0_i32 v3
  v4.toNat

def k0_dev2 (v0 : BitVec 32) : Nat :=
  let c0_i32_3 : BitVec 32 := 0#32
  let c1_i32_2 : BitVec 32 := 1#32
  let v5 : BitVec 32 := Scalar.muli v0 c1_i32_2
  let v6 : BitVec 32 := Scalar.addi c0_i32_3 v5
  v6.toNat

def k0_off1 (v7 : BitVec 32) : Fin 2 → Nat :=
  let c4096_i32 : BitVec 32 := 4096#32
  let v8 : BitVec 32 := Scalar.muli v7 c4096_i32
  let c0_i32_4 : BitVec 32 := 0#32
  ![v8.toNat, 0]

def k0_off2 (v10 : BitVec 32) : Fin 2 → Nat :=
  let c4096_i32_6 : BitVec 32 := 4096#32
  let v11 : BitVec 32 := Scalar.muli v10 c4096_i32_6
  let c0_i32_7 : BitVec 32 := 0#32
  let v12 : BitVec 32 := Scalar.addi v11 c0_i32_7
  let c0_i32_8 : BitVec 32 := 0#32
  let v13 : BitVec 32 := Scalar.addi v12 c0_i32_8
  let c0_i32_220 : BitVec 32 := 0#32
  ![v13.toNat, 0]

def k0_dev3 (v0 : BitVec 32) : Nat :=
  let c0_i32_219 : BitVec 32 := 0#32
  let c1_i32_218 : BitVec 32 := 1#32
  let v250 : BitVec 32 := Scalar.muli v0 c1_i32_218
  let v251 : BitVec 32 := Scalar.addi c0_i32_219 v250
  v251.toNat
def k0_off3 (v14 : BitVec 32) : Fin 2 → Nat :=
  let c4096_i32_9 : BitVec 32 := 4096#32
  let v15 : BitVec 32 := Scalar.muli v14 c4096_i32_9
  let c2048_i32 : BitVec 32 := 2048#32
  let v16 : BitVec 32 := Scalar.addi v15 c2048_i32
  let c0_i32_10 : BitVec 32 := 0#32
  let v17 : BitVec 32 := Scalar.addi v16 c0_i32_10
  let c0_i32_229 : BitVec 32 := 0#32
  ![v17.toNat, 0]

def k0_dev4 (v1 : BitVec 32) : Nat :=
  let c0_i32_228 : BitVec 32 := 0#32
  let c1_i32_227 : BitVec 32 := 1#32
  let v258 : BitVec 32 := Scalar.muli v1 c1_i32_227
  let v259 : BitVec 32 := Scalar.addi c0_i32_228 v258
  v259.toNat
def k0_off4 (v18 : BitVec 32) : Fin 2 → Nat :=
  let c4096_i32_12 : BitVec 32 := 4096#32
  let v19 : BitVec 32 := Scalar.muli v18 c4096_i32_12
  let c0_i32_13 : BitVec 32 := 0#32
  let v20 : BitVec 32 := Scalar.addi v19 c0_i32_13
  let c1024_i32 : BitVec 32 := 1024#32
  let v21 : BitVec 32 := Scalar.addi v20 c1024_i32
  let c0_i32_238 : BitVec 32 := 0#32
  ![v21.toNat, 0]

def k0_dev5 (v0 : BitVec 32) : Nat :=
  let c0_i32_237 : BitVec 32 := 0#32
  let c1_i32_236 : BitVec 32 := 1#32
  let v266 : BitVec 32 := Scalar.muli v0 c1_i32_236
  let v267 : BitVec 32 := Scalar.addi c0_i32_237 v266
  v267.toNat
def k0_off5 (v22 : BitVec 32) : Fin 2 → Nat :=
  let c4096_i32_15 : BitVec 32 := 4096#32
  let v23 : BitVec 32 := Scalar.muli v22 c4096_i32_15
  let c2048_i32_16 : BitVec 32 := 2048#32
  let v24 : BitVec 32 := Scalar.addi v23 c2048_i32_16
  let c1024_i32_17 : BitVec 32 := 1024#32
  let v25 : BitVec 32 := Scalar.addi v24 c1024_i32_17
  let c0_i32_247 : BitVec 32 := 0#32
  ![v25.toNat, 0]

def k0_dev6 (v1 : BitVec 32) : Nat :=
  let c0_i32_246 : BitVec 32 := 0#32
  let c1_i32_245 : BitVec 32 := 1#32
  let v274 : BitVec 32 := Scalar.muli v1 c1_i32_245
  let v275 : BitVec 32 := Scalar.addi c0_i32_246 v274
  v275.toNat
def k0_off6 (v10 : BitVec 32) : Fin 2 → Nat :=
  let c4096_i32_6 : BitVec 32 := 4096#32
  let v11 : BitVec 32 := Scalar.muli v10 c4096_i32_6
  let c0_i32_7 : BitVec 32 := 0#32
  let v12 : BitVec 32 := Scalar.addi v11 c0_i32_7
  let c0_i32_8 : BitVec 32 := 0#32
  let v13 : BitVec 32 := Scalar.addi v12 c0_i32_8
  let c0_i32_255 : BitVec 32 := 0#32
  ![v13.toNat, 0]
def k0_off7 (v26 : BitVec 32) : Fin 2 → Nat :=
  let c4096_i32_18 : BitVec 32 := 4096#32
  let v27 : BitVec 32 := Scalar.muli v26 c4096_i32_18
  let c0_i32_19 : BitVec 32 := 0#32
  let v28 : BitVec 32 := Scalar.addi v27 c0_i32_19
  let c0_i32_20 : BitVec 32 := 0#32
  let v29 : BitVec 32 := Scalar.addi v28 c0_i32_20
  let c0_i32_264 : BitVec 32 := 0#32
  ![v29.toNat, 0]

def k0_dev7 (v0 : BitVec 32) : Nat :=
  let c0_i32_263 : BitVec 32 := 0#32
  let c1_i32_262 : BitVec 32 := 1#32
  let v288 : BitVec 32 := Scalar.muli v0 c1_i32_262
  let v289 : BitVec 32 := Scalar.addi c0_i32_263 v288
  v289.toNat
def k0_off8 (v14 : BitVec 32) : Fin 2 → Nat :=
  let c4096_i32_9 : BitVec 32 := 4096#32
  let v15 : BitVec 32 := Scalar.muli v14 c4096_i32_9
  let c2048_i32 : BitVec 32 := 2048#32
  let v16 : BitVec 32 := Scalar.addi v15 c2048_i32
  let c0_i32_10 : BitVec 32 := 0#32
  let v17 : BitVec 32 := Scalar.addi v16 c0_i32_10
  let c0_i32_272 : BitVec 32 := 0#32
  ![v17.toNat, 0]
def k0_off9 (v30 : BitVec 32) : Fin 2 → Nat :=
  let c4096_i32_21 : BitVec 32 := 4096#32
  let v31 : BitVec 32 := Scalar.muli v30 c4096_i32_21
  let c2048_i32_22 : BitVec 32 := 2048#32
  let v32 : BitVec 32 := Scalar.addi v31 c2048_i32_22
  let c0_i32_23 : BitVec 32 := 0#32
  let v33 : BitVec 32 := Scalar.addi v32 c0_i32_23
  let c0_i32_281 : BitVec 32 := 0#32
  ![v33.toNat, 0]

def k0_dev8 (v1 : BitVec 32) : Nat :=
  let c0_i32_280 : BitVec 32 := 0#32
  let c1_i32_279 : BitVec 32 := 1#32
  let v302 : BitVec 32 := Scalar.muli v1 c1_i32_279
  let v303 : BitVec 32 := Scalar.addi c0_i32_280 v302
  v303.toNat
def k0_off10 (v18 : BitVec 32) : Fin 2 → Nat :=
  let c4096_i32_12 : BitVec 32 := 4096#32
  let v19 : BitVec 32 := Scalar.muli v18 c4096_i32_12
  let c0_i32_13 : BitVec 32 := 0#32
  let v20 : BitVec 32 := Scalar.addi v19 c0_i32_13
  let c1024_i32 : BitVec 32 := 1024#32
  let v21 : BitVec 32 := Scalar.addi v20 c1024_i32
  let c0_i32_289 : BitVec 32 := 0#32
  ![v21.toNat, 0]
def k0_off11 (v34 : BitVec 32) : Fin 2 → Nat :=
  let c4096_i32_25 : BitVec 32 := 4096#32
  let v35 : BitVec 32 := Scalar.muli v34 c4096_i32_25
  let c0_i32_26 : BitVec 32 := 0#32
  let v36 : BitVec 32 := Scalar.addi v35 c0_i32_26
  let c1024_i32_27 : BitVec 32 := 1024#32
  let v37 : BitVec 32 := Scalar.addi v36 c1024_i32_27
  let c0_i32_298 : BitVec 32 := 0#32
  ![v37.toNat, 0]

def k0_dev9 (v0 : BitVec 32) : Nat :=
  let c0_i32_297 : BitVec 32 := 0#32
  let c1_i32_296 : BitVec 32 := 1#32
  let v316 : BitVec 32 := Scalar.muli v0 c1_i32_296
  let v317 : BitVec 32 := Scalar.addi c0_i32_297 v316
  v317.toNat
def k0_off12 (v22 : BitVec 32) : Fin 2 → Nat :=
  let c4096_i32_15 : BitVec 32 := 4096#32
  let v23 : BitVec 32 := Scalar.muli v22 c4096_i32_15
  let c2048_i32_16 : BitVec 32 := 2048#32
  let v24 : BitVec 32 := Scalar.addi v23 c2048_i32_16
  let c1024_i32_17 : BitVec 32 := 1024#32
  let v25 : BitVec 32 := Scalar.addi v24 c1024_i32_17
  let c0_i32_306 : BitVec 32 := 0#32
  ![v25.toNat, 0]
def k0_off13 (v38 : BitVec 32) : Fin 2 → Nat :=
  let c4096_i32_29 : BitVec 32 := 4096#32
  let v39 : BitVec 32 := Scalar.muli v38 c4096_i32_29
  let c2048_i32_30 : BitVec 32 := 2048#32
  let v40 : BitVec 32 := Scalar.addi v39 c2048_i32_30
  let c1024_i32_31 : BitVec 32 := 1024#32
  let v41 : BitVec 32 := Scalar.addi v40 c1024_i32_31
  let c0_i32_315 : BitVec 32 := 0#32
  ![v41.toNat, 0]

def k0_dev10 (v1 : BitVec 32) : Nat :=
  let c0_i32_314 : BitVec 32 := 0#32
  let c1_i32_313 : BitVec 32 := 1#32
  let v330 : BitVec 32 := Scalar.muli v1 c1_i32_313
  let v331 : BitVec 32 := Scalar.addi c0_i32_314 v330
  v331.toNat
def k0_off14 (v26 : BitVec 32) : Fin 2 → Nat :=
  let c4096_i32_18 : BitVec 32 := 4096#32
  let v27 : BitVec 32 := Scalar.muli v26 c4096_i32_18
  let c0_i32_19 : BitVec 32 := 0#32
  let v28 : BitVec 32 := Scalar.addi v27 c0_i32_19
  let c0_i32_20 : BitVec 32 := 0#32
  let v29 : BitVec 32 := Scalar.addi v28 c0_i32_20
  let c0_i32_323 : BitVec 32 := 0#32
  ![v29.toNat, 0]
def k0_off15 (v42 : BitVec 32) : Fin 2 → Nat :=
  let c4096_i32_32 : BitVec 32 := 4096#32
  let v43 : BitVec 32 := Scalar.muli v42 c4096_i32_32
  let c0_i32_33 : BitVec 32 := 0#32
  let v44 : BitVec 32 := Scalar.addi v43 c0_i32_33
  let c0_i32_34 : BitVec 32 := 0#32
  let v45 : BitVec 32 := Scalar.addi v44 c0_i32_34
  let c0_i32_331 : BitVec 32 := 0#32
  ![v45.toNat, 0]

def k0_dev11 (v0 : BitVec 32) : Nat :=
  let c0_i32_330 : BitVec 32 := 0#32
  let c1_i32_329 : BitVec 32 := 1#32
  let v344 : BitVec 32 := Scalar.muli v0 c1_i32_329
  let v345 : BitVec 32 := Scalar.addi c0_i32_330 v344
  v345.toNat
def k0_off16 (v30 : BitVec 32) : Fin 2 → Nat :=
  let c4096_i32_21 : BitVec 32 := 4096#32
  let v31 : BitVec 32 := Scalar.muli v30 c4096_i32_21
  let c2048_i32_22 : BitVec 32 := 2048#32
  let v32 : BitVec 32 := Scalar.addi v31 c2048_i32_22
  let c0_i32_23 : BitVec 32 := 0#32
  let v33 : BitVec 32 := Scalar.addi v32 c0_i32_23
  let c0_i32_339 : BitVec 32 := 0#32
  ![v33.toNat, 0]
def k0_off17 (v46 : BitVec 32) : Fin 2 → Nat :=
  let c4096_i32_35 : BitVec 32 := 4096#32
  let v47 : BitVec 32 := Scalar.muli v46 c4096_i32_35
  let c2048_i32_36 : BitVec 32 := 2048#32
  let v48 : BitVec 32 := Scalar.addi v47 c2048_i32_36
  let c0_i32_37 : BitVec 32 := 0#32
  let v49 : BitVec 32 := Scalar.addi v48 c0_i32_37
  let c0_i32_347 : BitVec 32 := 0#32
  ![v49.toNat, 0]

def k0_dev12 (v1 : BitVec 32) : Nat :=
  let c0_i32_346 : BitVec 32 := 0#32
  let c1_i32_345 : BitVec 32 := 1#32
  let v358 : BitVec 32 := Scalar.muli v1 c1_i32_345
  let v359 : BitVec 32 := Scalar.addi c0_i32_346 v358
  v359.toNat
def k0_off18 (v34 : BitVec 32) : Fin 2 → Nat :=
  let c4096_i32_25 : BitVec 32 := 4096#32
  let v35 : BitVec 32 := Scalar.muli v34 c4096_i32_25
  let c0_i32_26 : BitVec 32 := 0#32
  let v36 : BitVec 32 := Scalar.addi v35 c0_i32_26
  let c1024_i32_27 : BitVec 32 := 1024#32
  let v37 : BitVec 32 := Scalar.addi v36 c1024_i32_27
  let c0_i32_355 : BitVec 32 := 0#32
  ![v37.toNat, 0]
def k0_off19 (v50 : BitVec 32) : Fin 2 → Nat :=
  let c4096_i32_39 : BitVec 32 := 4096#32
  let v51 : BitVec 32 := Scalar.muli v50 c4096_i32_39
  let c0_i32_40 : BitVec 32 := 0#32
  let v52 : BitVec 32 := Scalar.addi v51 c0_i32_40
  let c1024_i32_41 : BitVec 32 := 1024#32
  let v53 : BitVec 32 := Scalar.addi v52 c1024_i32_41
  let c0_i32_363 : BitVec 32 := 0#32
  ![v53.toNat, 0]

def k0_dev13 (v0 : BitVec 32) : Nat :=
  let c0_i32_362 : BitVec 32 := 0#32
  let c1_i32_361 : BitVec 32 := 1#32
  let v372 : BitVec 32 := Scalar.muli v0 c1_i32_361
  let v373 : BitVec 32 := Scalar.addi c0_i32_362 v372
  v373.toNat
def k0_off20 (v38 : BitVec 32) : Fin 2 → Nat :=
  let c4096_i32_29 : BitVec 32 := 4096#32
  let v39 : BitVec 32 := Scalar.muli v38 c4096_i32_29
  let c2048_i32_30 : BitVec 32 := 2048#32
  let v40 : BitVec 32 := Scalar.addi v39 c2048_i32_30
  let c1024_i32_31 : BitVec 32 := 1024#32
  let v41 : BitVec 32 := Scalar.addi v40 c1024_i32_31
  let c0_i32_371 : BitVec 32 := 0#32
  ![v41.toNat, 0]
def k0_off21 (v54 : BitVec 32) : Fin 2 → Nat :=
  let c4096_i32_43 : BitVec 32 := 4096#32
  let v55 : BitVec 32 := Scalar.muli v54 c4096_i32_43
  let c2048_i32_44 : BitVec 32 := 2048#32
  let v56 : BitVec 32 := Scalar.addi v55 c2048_i32_44
  let c1024_i32_45 : BitVec 32 := 1024#32
  let v57 : BitVec 32 := Scalar.addi v56 c1024_i32_45
  let c0_i32_379 : BitVec 32 := 0#32
  ![v57.toNat, 0]

def k0_dev14 (v1 : BitVec 32) : Nat :=
  let c0_i32_378 : BitVec 32 := 0#32
  let c1_i32_377 : BitVec 32 := 1#32
  let v386 : BitVec 32 := Scalar.muli v1 c1_i32_377
  let v387 : BitVec 32 := Scalar.addi c0_i32_378 v386
  v387.toNat
def k0_off22 (v42 : BitVec 32) : Fin 2 → Nat :=
  let c4096_i32_32 : BitVec 32 := 4096#32
  let v43 : BitVec 32 := Scalar.muli v42 c4096_i32_32
  let c0_i32_33 : BitVec 32 := 0#32
  let v44 : BitVec 32 := Scalar.addi v43 c0_i32_33
  let c0_i32_34 : BitVec 32 := 0#32
  let v45 : BitVec 32 := Scalar.addi v44 c0_i32_34
  let c0_i32_387 : BitVec 32 := 0#32
  ![v45.toNat, 0]
def k0_off23 (v58 : BitVec 32) : Fin 2 → Nat :=
  let c4096_i32_46 : BitVec 32 := 4096#32
  let v59 : BitVec 32 := Scalar.muli v58 c4096_i32_46
  let c0_i32_47 : BitVec 32 := 0#32
  let v60 : BitVec 32 := Scalar.addi v59 c0_i32_47
  let c0_i32_48 : BitVec 32 := 0#32
  let v61 : BitVec 32 := Scalar.addi v60 c0_i32_48
  let c0_i32_394 : BitVec 32 := 0#32
  ![v61.toNat, 0]

def k0_dev15 (v0 : BitVec 32) : Nat :=
  let c0_i32_393 : BitVec 32 := 0#32
  let c1_i32_392 : BitVec 32 := 1#32
  let v400 : BitVec 32 := Scalar.muli v0 c1_i32_392
  let v401 : BitVec 32 := Scalar.addi c0_i32_393 v400
  v401.toNat
def k0_off24 (v46 : BitVec 32) : Fin 2 → Nat :=
  let c4096_i32_35 : BitVec 32 := 4096#32
  let v47 : BitVec 32 := Scalar.muli v46 c4096_i32_35
  let c2048_i32_36 : BitVec 32 := 2048#32
  let v48 : BitVec 32 := Scalar.addi v47 c2048_i32_36
  let c0_i32_37 : BitVec 32 := 0#32
  let v49 : BitVec 32 := Scalar.addi v48 c0_i32_37
  let c0_i32_402 : BitVec 32 := 0#32
  ![v49.toNat, 0]
def k0_off25 (v62 : BitVec 32) : Fin 2 → Nat :=
  let c4096_i32_49 : BitVec 32 := 4096#32
  let v63 : BitVec 32 := Scalar.muli v62 c4096_i32_49
  let c2048_i32_50 : BitVec 32 := 2048#32
  let v64 : BitVec 32 := Scalar.addi v63 c2048_i32_50
  let c0_i32_51 : BitVec 32 := 0#32
  let v65 : BitVec 32 := Scalar.addi v64 c0_i32_51
  let c0_i32_410 : BitVec 32 := 0#32
  ![v65.toNat, 0]

def k0_dev16 (v1 : BitVec 32) : Nat :=
  let c0_i32_409 : BitVec 32 := 0#32
  let c1_i32_408 : BitVec 32 := 1#32
  let v414 : BitVec 32 := Scalar.muli v1 c1_i32_408
  let v415 : BitVec 32 := Scalar.addi c0_i32_409 v414
  v415.toNat
def k0_off26 (v50 : BitVec 32) : Fin 2 → Nat :=
  let c4096_i32_39 : BitVec 32 := 4096#32
  let v51 : BitVec 32 := Scalar.muli v50 c4096_i32_39
  let c0_i32_40 : BitVec 32 := 0#32
  let v52 : BitVec 32 := Scalar.addi v51 c0_i32_40
  let c1024_i32_41 : BitVec 32 := 1024#32
  let v53 : BitVec 32 := Scalar.addi v52 c1024_i32_41
  let c0_i32_418 : BitVec 32 := 0#32
  ![v53.toNat, 0]
def k0_off27 (v66 : BitVec 32) : Fin 2 → Nat :=
  let c4096_i32_53 : BitVec 32 := 4096#32
  let v67 : BitVec 32 := Scalar.muli v66 c4096_i32_53
  let c0_i32_54 : BitVec 32 := 0#32
  let v68 : BitVec 32 := Scalar.addi v67 c0_i32_54
  let c1024_i32_55 : BitVec 32 := 1024#32
  let v69 : BitVec 32 := Scalar.addi v68 c1024_i32_55
  let c0_i32_426 : BitVec 32 := 0#32
  ![v69.toNat, 0]

def k0_dev17 (v0 : BitVec 32) : Nat :=
  let c0_i32_425 : BitVec 32 := 0#32
  let c1_i32_424 : BitVec 32 := 1#32
  let v428 : BitVec 32 := Scalar.muli v0 c1_i32_424
  let v429 : BitVec 32 := Scalar.addi c0_i32_425 v428
  v429.toNat
def k0_off28 (v54 : BitVec 32) : Fin 2 → Nat :=
  let c4096_i32_43 : BitVec 32 := 4096#32
  let v55 : BitVec 32 := Scalar.muli v54 c4096_i32_43
  let c2048_i32_44 : BitVec 32 := 2048#32
  let v56 : BitVec 32 := Scalar.addi v55 c2048_i32_44
  let c1024_i32_45 : BitVec 32 := 1024#32
  let v57 : BitVec 32 := Scalar.addi v56 c1024_i32_45
  let c0_i32_434 : BitVec 32 := 0#32
  ![v57.toNat, 0]
def k0_off29 (v70 : BitVec 32) : Fin 2 → Nat :=
  let c4096_i32_57 : BitVec 32 := 4096#32
  let v71 : BitVec 32 := Scalar.muli v70 c4096_i32_57
  let c2048_i32_58 : BitVec 32 := 2048#32
  let v72 : BitVec 32 := Scalar.addi v71 c2048_i32_58
  let c1024_i32_59 : BitVec 32 := 1024#32
  let v73 : BitVec 32 := Scalar.addi v72 c1024_i32_59
  let c0_i32_442 : BitVec 32 := 0#32
  ![v73.toNat, 0]

def k0_dev18 (v1 : BitVec 32) : Nat :=
  let c0_i32_441 : BitVec 32 := 0#32
  let c1_i32_440 : BitVec 32 := 1#32
  let v442 : BitVec 32 := Scalar.muli v1 c1_i32_440
  let v443 : BitVec 32 := Scalar.addi c0_i32_441 v442
  v443.toNat
def k0_off30 (v58 : BitVec 32) : Fin 2 → Nat :=
  let c4096_i32_46 : BitVec 32 := 4096#32
  let v59 : BitVec 32 := Scalar.muli v58 c4096_i32_46
  let c0_i32_47 : BitVec 32 := 0#32
  let v60 : BitVec 32 := Scalar.addi v59 c0_i32_47
  let c0_i32_48 : BitVec 32 := 0#32
  let v61 : BitVec 32 := Scalar.addi v60 c0_i32_48
  let c0_i32_450 : BitVec 32 := 0#32
  ![v61.toNat, 0]
def k0_off31 (v74 : BitVec 32) : Fin 2 → Nat :=
  let c4096_i32_60 : BitVec 32 := 4096#32
  let v75 : BitVec 32 := Scalar.muli v74 c4096_i32_60
  let c0_i32_61 : BitVec 32 := 0#32
  let v76 : BitVec 32 := Scalar.addi v75 c0_i32_61
  let c0_i32_62 : BitVec 32 := 0#32
  let v77 : BitVec 32 := Scalar.addi v76 c0_i32_62
  let c0_i32_457 : BitVec 32 := 0#32
  ![v77.toNat, 0]

def k0_dev19 (v0 : BitVec 32) : Nat :=
  let c0_i32_456 : BitVec 32 := 0#32
  let c1_i32_455 : BitVec 32 := 1#32
  let v456 : BitVec 32 := Scalar.muli v0 c1_i32_455
  let v457 : BitVec 32 := Scalar.addi c0_i32_456 v456
  v457.toNat
def k0_off32 (v62 : BitVec 32) : Fin 2 → Nat :=
  let c4096_i32_49 : BitVec 32 := 4096#32
  let v63 : BitVec 32 := Scalar.muli v62 c4096_i32_49
  let c2048_i32_50 : BitVec 32 := 2048#32
  let v64 : BitVec 32 := Scalar.addi v63 c2048_i32_50
  let c0_i32_51 : BitVec 32 := 0#32
  let v65 : BitVec 32 := Scalar.addi v64 c0_i32_51
  let c0_i32_465 : BitVec 32 := 0#32
  ![v65.toNat, 0]
def k0_off33 (v78 : BitVec 32) : Fin 2 → Nat :=
  let c4096_i32_63 : BitVec 32 := 4096#32
  let v79 : BitVec 32 := Scalar.muli v78 c4096_i32_63
  let c2048_i32_64 : BitVec 32 := 2048#32
  let v80 : BitVec 32 := Scalar.addi v79 c2048_i32_64
  let c0_i32_65 : BitVec 32 := 0#32
  let v81 : BitVec 32 := Scalar.addi v80 c0_i32_65
  let c0_i32_473 : BitVec 32 := 0#32
  ![v81.toNat, 0]

def k0_dev20 (v1 : BitVec 32) : Nat :=
  let c0_i32_472 : BitVec 32 := 0#32
  let c1_i32_471 : BitVec 32 := 1#32
  let v470 : BitVec 32 := Scalar.muli v1 c1_i32_471
  let v471 : BitVec 32 := Scalar.addi c0_i32_472 v470
  v471.toNat
def k0_off34 (v66 : BitVec 32) : Fin 2 → Nat :=
  let c4096_i32_53 : BitVec 32 := 4096#32
  let v67 : BitVec 32 := Scalar.muli v66 c4096_i32_53
  let c0_i32_54 : BitVec 32 := 0#32
  let v68 : BitVec 32 := Scalar.addi v67 c0_i32_54
  let c1024_i32_55 : BitVec 32 := 1024#32
  let v69 : BitVec 32 := Scalar.addi v68 c1024_i32_55
  let c0_i32_481 : BitVec 32 := 0#32
  ![v69.toNat, 0]
def k0_off35 (v82 : BitVec 32) : Fin 2 → Nat :=
  let c4096_i32_67 : BitVec 32 := 4096#32
  let v83 : BitVec 32 := Scalar.muli v82 c4096_i32_67
  let c0_i32_68 : BitVec 32 := 0#32
  let v84 : BitVec 32 := Scalar.addi v83 c0_i32_68
  let c1024_i32_69 : BitVec 32 := 1024#32
  let v85 : BitVec 32 := Scalar.addi v84 c1024_i32_69
  let c0_i32_489 : BitVec 32 := 0#32
  ![v85.toNat, 0]

def k0_dev21 (v0 : BitVec 32) : Nat :=
  let c0_i32_488 : BitVec 32 := 0#32
  let c1_i32_487 : BitVec 32 := 1#32
  let v484 : BitVec 32 := Scalar.muli v0 c1_i32_487
  let v485 : BitVec 32 := Scalar.addi c0_i32_488 v484
  v485.toNat
def k0_off36 (v70 : BitVec 32) : Fin 2 → Nat :=
  let c4096_i32_57 : BitVec 32 := 4096#32
  let v71 : BitVec 32 := Scalar.muli v70 c4096_i32_57
  let c2048_i32_58 : BitVec 32 := 2048#32
  let v72 : BitVec 32 := Scalar.addi v71 c2048_i32_58
  let c1024_i32_59 : BitVec 32 := 1024#32
  let v73 : BitVec 32 := Scalar.addi v72 c1024_i32_59
  let c0_i32_497 : BitVec 32 := 0#32
  ![v73.toNat, 0]
def k0_off37 (v86 : BitVec 32) : Fin 2 → Nat :=
  let c4096_i32_71 : BitVec 32 := 4096#32
  let v87 : BitVec 32 := Scalar.muli v86 c4096_i32_71
  let c2048_i32_72 : BitVec 32 := 2048#32
  let v88 : BitVec 32 := Scalar.addi v87 c2048_i32_72
  let c1024_i32_73 : BitVec 32 := 1024#32
  let v89 : BitVec 32 := Scalar.addi v88 c1024_i32_73
  let c0_i32_505 : BitVec 32 := 0#32
  ![v89.toNat, 0]

def k0_dev22 (v1 : BitVec 32) : Nat :=
  let c0_i32_504 : BitVec 32 := 0#32
  let c1_i32_503 : BitVec 32 := 1#32
  let v498 : BitVec 32 := Scalar.muli v1 c1_i32_503
  let v499 : BitVec 32 := Scalar.addi c0_i32_504 v498
  v499.toNat
def k0_off38 (v74 : BitVec 32) : Fin 2 → Nat :=
  let c4096_i32_60 : BitVec 32 := 4096#32
  let v75 : BitVec 32 := Scalar.muli v74 c4096_i32_60
  let c0_i32_61 : BitVec 32 := 0#32
  let v76 : BitVec 32 := Scalar.addi v75 c0_i32_61
  let c0_i32_62 : BitVec 32 := 0#32
  let v77 : BitVec 32 := Scalar.addi v76 c0_i32_62
  let c0_i32_513 : BitVec 32 := 0#32
  ![v77.toNat, 0]
def k0_off39 (v90 : BitVec 32) : Fin 2 → Nat :=
  let c4096_i32_74 : BitVec 32 := 4096#32
  let v91 : BitVec 32 := Scalar.muli v90 c4096_i32_74
  let c0_i32_75 : BitVec 32 := 0#32
  let v92 : BitVec 32 := Scalar.addi v91 c0_i32_75
  let c0_i32_76 : BitVec 32 := 0#32
  let v93 : BitVec 32 := Scalar.addi v92 c0_i32_76
  let c0_i32_520 : BitVec 32 := 0#32
  ![v93.toNat, 0]

def k0_dev23 (v0 : BitVec 32) : Nat :=
  let c0_i32_519 : BitVec 32 := 0#32
  let c1_i32_518 : BitVec 32 := 1#32
  let v512 : BitVec 32 := Scalar.muli v0 c1_i32_518
  let v513 : BitVec 32 := Scalar.addi c0_i32_519 v512
  v513.toNat
def k0_off40 (v78 : BitVec 32) : Fin 2 → Nat :=
  let c4096_i32_63 : BitVec 32 := 4096#32
  let v79 : BitVec 32 := Scalar.muli v78 c4096_i32_63
  let c2048_i32_64 : BitVec 32 := 2048#32
  let v80 : BitVec 32 := Scalar.addi v79 c2048_i32_64
  let c0_i32_65 : BitVec 32 := 0#32
  let v81 : BitVec 32 := Scalar.addi v80 c0_i32_65
  let c0_i32_528 : BitVec 32 := 0#32
  ![v81.toNat, 0]
def k0_off41 (v94 : BitVec 32) : Fin 2 → Nat :=
  let c4096_i32_77 : BitVec 32 := 4096#32
  let v95 : BitVec 32 := Scalar.muli v94 c4096_i32_77
  let c2048_i32_78 : BitVec 32 := 2048#32
  let v96 : BitVec 32 := Scalar.addi v95 c2048_i32_78
  let c0_i32_79 : BitVec 32 := 0#32
  let v97 : BitVec 32 := Scalar.addi v96 c0_i32_79
  let c0_i32_536 : BitVec 32 := 0#32
  ![v97.toNat, 0]

def k0_dev24 (v1 : BitVec 32) : Nat :=
  let c0_i32_535 : BitVec 32 := 0#32
  let c1_i32_534 : BitVec 32 := 1#32
  let v526 : BitVec 32 := Scalar.muli v1 c1_i32_534
  let v527 : BitVec 32 := Scalar.addi c0_i32_535 v526
  v527.toNat
def k0_off42 (v82 : BitVec 32) : Fin 2 → Nat :=
  let c4096_i32_67 : BitVec 32 := 4096#32
  let v83 : BitVec 32 := Scalar.muli v82 c4096_i32_67
  let c0_i32_68 : BitVec 32 := 0#32
  let v84 : BitVec 32 := Scalar.addi v83 c0_i32_68
  let c1024_i32_69 : BitVec 32 := 1024#32
  let v85 : BitVec 32 := Scalar.addi v84 c1024_i32_69
  let c0_i32_544 : BitVec 32 := 0#32
  ![v85.toNat, 0]
def k0_off43 (v98 : BitVec 32) : Fin 2 → Nat :=
  let c4096_i32_81 : BitVec 32 := 4096#32
  let v99 : BitVec 32 := Scalar.muli v98 c4096_i32_81
  let c0_i32_82 : BitVec 32 := 0#32
  let v100 : BitVec 32 := Scalar.addi v99 c0_i32_82
  let c1024_i32_83 : BitVec 32 := 1024#32
  let v101 : BitVec 32 := Scalar.addi v100 c1024_i32_83
  let c0_i32_552 : BitVec 32 := 0#32
  ![v101.toNat, 0]

def k0_dev25 (v0 : BitVec 32) : Nat :=
  let c0_i32_551 : BitVec 32 := 0#32
  let c1_i32_550 : BitVec 32 := 1#32
  let v540 : BitVec 32 := Scalar.muli v0 c1_i32_550
  let v541 : BitVec 32 := Scalar.addi c0_i32_551 v540
  v541.toNat
def k0_off44 (v86 : BitVec 32) : Fin 2 → Nat :=
  let c4096_i32_71 : BitVec 32 := 4096#32
  let v87 : BitVec 32 := Scalar.muli v86 c4096_i32_71
  let c2048_i32_72 : BitVec 32 := 2048#32
  let v88 : BitVec 32 := Scalar.addi v87 c2048_i32_72
  let c1024_i32_73 : BitVec 32 := 1024#32
  let v89 : BitVec 32 := Scalar.addi v88 c1024_i32_73
  let c0_i32_560 : BitVec 32 := 0#32
  ![v89.toNat, 0]
def k0_off45 (v102 : BitVec 32) : Fin 2 → Nat :=
  let c4096_i32_85 : BitVec 32 := 4096#32
  let v103 : BitVec 32 := Scalar.muli v102 c4096_i32_85
  let c2048_i32_86 : BitVec 32 := 2048#32
  let v104 : BitVec 32 := Scalar.addi v103 c2048_i32_86
  let c1024_i32_87 : BitVec 32 := 1024#32
  let v105 : BitVec 32 := Scalar.addi v104 c1024_i32_87
  let c0_i32_568 : BitVec 32 := 0#32
  ![v105.toNat, 0]

def k0_dev26 (v1 : BitVec 32) : Nat :=
  let c0_i32_567 : BitVec 32 := 0#32
  let c1_i32_566 : BitVec 32 := 1#32
  let v554 : BitVec 32 := Scalar.muli v1 c1_i32_566
  let v555 : BitVec 32 := Scalar.addi c0_i32_567 v554
  v555.toNat
def k0_off46 (v90 : BitVec 32) : Fin 2 → Nat :=
  let c4096_i32_74 : BitVec 32 := 4096#32
  let v91 : BitVec 32 := Scalar.muli v90 c4096_i32_74
  let c0_i32_75 : BitVec 32 := 0#32
  let v92 : BitVec 32 := Scalar.addi v91 c0_i32_75
  let c0_i32_76 : BitVec 32 := 0#32
  let v93 : BitVec 32 := Scalar.addi v92 c0_i32_76
  let c0_i32_576 : BitVec 32 := 0#32
  ![v93.toNat, 0]
def k0_off47 (v106 : BitVec 32) : Fin 2 → Nat :=
  let c4096_i32_88 : BitVec 32 := 4096#32
  let v107 : BitVec 32 := Scalar.muli v106 c4096_i32_88
  let c0_i32_89 : BitVec 32 := 0#32
  let v108 : BitVec 32 := Scalar.addi v107 c0_i32_89
  let c0_i32_90 : BitVec 32 := 0#32
  let v109 : BitVec 32 := Scalar.addi v108 c0_i32_90
  let c0_i32_583 : BitVec 32 := 0#32
  ![v109.toNat, 0]

def k0_dev27 (v0 : BitVec 32) : Nat :=
  let c0_i32_582 : BitVec 32 := 0#32
  let c1_i32_581 : BitVec 32 := 1#32
  let v568 : BitVec 32 := Scalar.muli v0 c1_i32_581
  let v569 : BitVec 32 := Scalar.addi c0_i32_582 v568
  v569.toNat
def k0_off48 (v94 : BitVec 32) : Fin 2 → Nat :=
  let c4096_i32_77 : BitVec 32 := 4096#32
  let v95 : BitVec 32 := Scalar.muli v94 c4096_i32_77
  let c2048_i32_78 : BitVec 32 := 2048#32
  let v96 : BitVec 32 := Scalar.addi v95 c2048_i32_78
  let c0_i32_79 : BitVec 32 := 0#32
  let v97 : BitVec 32 := Scalar.addi v96 c0_i32_79
  let c0_i32_591 : BitVec 32 := 0#32
  ![v97.toNat, 0]
def k0_off49 (v110 : BitVec 32) : Fin 2 → Nat :=
  let c4096_i32_91 : BitVec 32 := 4096#32
  let v111 : BitVec 32 := Scalar.muli v110 c4096_i32_91
  let c2048_i32_92 : BitVec 32 := 2048#32
  let v112 : BitVec 32 := Scalar.addi v111 c2048_i32_92
  let c0_i32_93 : BitVec 32 := 0#32
  let v113 : BitVec 32 := Scalar.addi v112 c0_i32_93
  let c0_i32_599 : BitVec 32 := 0#32
  ![v113.toNat, 0]

def k0_dev28 (v1 : BitVec 32) : Nat :=
  let c0_i32_598 : BitVec 32 := 0#32
  let c1_i32_597 : BitVec 32 := 1#32
  let v582 : BitVec 32 := Scalar.muli v1 c1_i32_597
  let v583 : BitVec 32 := Scalar.addi c0_i32_598 v582
  v583.toNat
def k0_off50 (v98 : BitVec 32) : Fin 2 → Nat :=
  let c4096_i32_81 : BitVec 32 := 4096#32
  let v99 : BitVec 32 := Scalar.muli v98 c4096_i32_81
  let c0_i32_82 : BitVec 32 := 0#32
  let v100 : BitVec 32 := Scalar.addi v99 c0_i32_82
  let c1024_i32_83 : BitVec 32 := 1024#32
  let v101 : BitVec 32 := Scalar.addi v100 c1024_i32_83
  let c0_i32_607 : BitVec 32 := 0#32
  ![v101.toNat, 0]
def k0_off51 (v114 : BitVec 32) : Fin 2 → Nat :=
  let c4096_i32_95 : BitVec 32 := 4096#32
  let v115 : BitVec 32 := Scalar.muli v114 c4096_i32_95
  let c0_i32_96 : BitVec 32 := 0#32
  let v116 : BitVec 32 := Scalar.addi v115 c0_i32_96
  let c1024_i32_97 : BitVec 32 := 1024#32
  let v117 : BitVec 32 := Scalar.addi v116 c1024_i32_97
  let c0_i32_615 : BitVec 32 := 0#32
  ![v117.toNat, 0]

def k0_dev29 (v0 : BitVec 32) : Nat :=
  let c0_i32_614 : BitVec 32 := 0#32
  let c1_i32_613 : BitVec 32 := 1#32
  let v596 : BitVec 32 := Scalar.muli v0 c1_i32_613
  let v597 : BitVec 32 := Scalar.addi c0_i32_614 v596
  v597.toNat
def k0_off52 (v102 : BitVec 32) : Fin 2 → Nat :=
  let c4096_i32_85 : BitVec 32 := 4096#32
  let v103 : BitVec 32 := Scalar.muli v102 c4096_i32_85
  let c2048_i32_86 : BitVec 32 := 2048#32
  let v104 : BitVec 32 := Scalar.addi v103 c2048_i32_86
  let c1024_i32_87 : BitVec 32 := 1024#32
  let v105 : BitVec 32 := Scalar.addi v104 c1024_i32_87
  let c0_i32_623 : BitVec 32 := 0#32
  ![v105.toNat, 0]
def k0_off53 (v118 : BitVec 32) : Fin 2 → Nat :=
  let c4096_i32_99 : BitVec 32 := 4096#32
  let v119 : BitVec 32 := Scalar.muli v118 c4096_i32_99
  let c2048_i32_100 : BitVec 32 := 2048#32
  let v120 : BitVec 32 := Scalar.addi v119 c2048_i32_100
  let c1024_i32_101 : BitVec 32 := 1024#32
  let v121 : BitVec 32 := Scalar.addi v120 c1024_i32_101
  let c0_i32_631 : BitVec 32 := 0#32
  ![v121.toNat, 0]

def k0_dev30 (v1 : BitVec 32) : Nat :=
  let c0_i32_630 : BitVec 32 := 0#32
  let c1_i32_629 : BitVec 32 := 1#32
  let v610 : BitVec 32 := Scalar.muli v1 c1_i32_629
  let v611 : BitVec 32 := Scalar.addi c0_i32_630 v610
  v611.toNat
def k0_off54 (v106 : BitVec 32) : Fin 2 → Nat :=
  let c4096_i32_88 : BitVec 32 := 4096#32
  let v107 : BitVec 32 := Scalar.muli v106 c4096_i32_88
  let c0_i32_89 : BitVec 32 := 0#32
  let v108 : BitVec 32 := Scalar.addi v107 c0_i32_89
  let c0_i32_90 : BitVec 32 := 0#32
  let v109 : BitVec 32 := Scalar.addi v108 c0_i32_90
  let c0_i32_639 : BitVec 32 := 0#32
  ![v109.toNat, 0]
def k0_off55 (v122 : BitVec 32) : Fin 2 → Nat :=
  let c4096_i32_102 : BitVec 32 := 4096#32
  let v123 : BitVec 32 := Scalar.muli v122 c4096_i32_102
  let c0_i32_103 : BitVec 32 := 0#32
  let v124 : BitVec 32 := Scalar.addi v123 c0_i32_103
  let c0_i32_104 : BitVec 32 := 0#32
  let v125 : BitVec 32 := Scalar.addi v124 c0_i32_104
  let c0_i32_646 : BitVec 32 := 0#32
  ![v125.toNat, 0]

def k0_dev31 (v0 : BitVec 32) : Nat :=
  let c0_i32_645 : BitVec 32 := 0#32
  let c1_i32_644 : BitVec 32 := 1#32
  let v624 : BitVec 32 := Scalar.muli v0 c1_i32_644
  let v625 : BitVec 32 := Scalar.addi c0_i32_645 v624
  v625.toNat
def k0_off56 (v110 : BitVec 32) : Fin 2 → Nat :=
  let c4096_i32_91 : BitVec 32 := 4096#32
  let v111 : BitVec 32 := Scalar.muli v110 c4096_i32_91
  let c2048_i32_92 : BitVec 32 := 2048#32
  let v112 : BitVec 32 := Scalar.addi v111 c2048_i32_92
  let c0_i32_93 : BitVec 32 := 0#32
  let v113 : BitVec 32 := Scalar.addi v112 c0_i32_93
  let c0_i32_654 : BitVec 32 := 0#32
  ![v113.toNat, 0]
def k0_off57 (v126 : BitVec 32) : Fin 2 → Nat :=
  let c4096_i32_105 : BitVec 32 := 4096#32
  let v127 : BitVec 32 := Scalar.muli v126 c4096_i32_105
  let c2048_i32_106 : BitVec 32 := 2048#32
  let v128 : BitVec 32 := Scalar.addi v127 c2048_i32_106
  let c0_i32_107 : BitVec 32 := 0#32
  let v129 : BitVec 32 := Scalar.addi v128 c0_i32_107
  let c0_i32_662 : BitVec 32 := 0#32
  ![v129.toNat, 0]

def k0_dev32 (v1 : BitVec 32) : Nat :=
  let c0_i32_661 : BitVec 32 := 0#32
  let c1_i32_660 : BitVec 32 := 1#32
  let v638 : BitVec 32 := Scalar.muli v1 c1_i32_660
  let v639 : BitVec 32 := Scalar.addi c0_i32_661 v638
  v639.toNat
def k0_off58 (v114 : BitVec 32) : Fin 2 → Nat :=
  let c4096_i32_95 : BitVec 32 := 4096#32
  let v115 : BitVec 32 := Scalar.muli v114 c4096_i32_95
  let c0_i32_96 : BitVec 32 := 0#32
  let v116 : BitVec 32 := Scalar.addi v115 c0_i32_96
  let c1024_i32_97 : BitVec 32 := 1024#32
  let v117 : BitVec 32 := Scalar.addi v116 c1024_i32_97
  let c0_i32_670 : BitVec 32 := 0#32
  ![v117.toNat, 0]
def k0_off59 (v130 : BitVec 32) : Fin 2 → Nat :=
  let c4096_i32_109 : BitVec 32 := 4096#32
  let v131 : BitVec 32 := Scalar.muli v130 c4096_i32_109
  let c0_i32_110 : BitVec 32 := 0#32
  let v132 : BitVec 32 := Scalar.addi v131 c0_i32_110
  let c1024_i32_111 : BitVec 32 := 1024#32
  let v133 : BitVec 32 := Scalar.addi v132 c1024_i32_111
  let c0_i32_678 : BitVec 32 := 0#32
  ![v133.toNat, 0]

def k0_dev33 (v0 : BitVec 32) : Nat :=
  let c0_i32_677 : BitVec 32 := 0#32
  let c1_i32_676 : BitVec 32 := 1#32
  let v652 : BitVec 32 := Scalar.muli v0 c1_i32_676
  let v653 : BitVec 32 := Scalar.addi c0_i32_677 v652
  v653.toNat
def k0_off60 (v118 : BitVec 32) : Fin 2 → Nat :=
  let c4096_i32_99 : BitVec 32 := 4096#32
  let v119 : BitVec 32 := Scalar.muli v118 c4096_i32_99
  let c2048_i32_100 : BitVec 32 := 2048#32
  let v120 : BitVec 32 := Scalar.addi v119 c2048_i32_100
  let c1024_i32_101 : BitVec 32 := 1024#32
  let v121 : BitVec 32 := Scalar.addi v120 c1024_i32_101
  let c0_i32_686 : BitVec 32 := 0#32
  ![v121.toNat, 0]
def k0_off61 (v134 : BitVec 32) : Fin 2 → Nat :=
  let c4096_i32_113 : BitVec 32 := 4096#32
  let v135 : BitVec 32 := Scalar.muli v134 c4096_i32_113
  let c2048_i32_114 : BitVec 32 := 2048#32
  let v136 : BitVec 32 := Scalar.addi v135 c2048_i32_114
  let c1024_i32_115 : BitVec 32 := 1024#32
  let v137 : BitVec 32 := Scalar.addi v136 c1024_i32_115
  let c0_i32_694 : BitVec 32 := 0#32
  ![v137.toNat, 0]

def k0_dev34 (v1 : BitVec 32) : Nat :=
  let c0_i32_693 : BitVec 32 := 0#32
  let c1_i32_692 : BitVec 32 := 1#32
  let v666 : BitVec 32 := Scalar.muli v1 c1_i32_692
  let v667 : BitVec 32 := Scalar.addi c0_i32_693 v666
  v667.toNat
def k0_off62 (v122 : BitVec 32) : Fin 2 → Nat :=
  let c4096_i32_102 : BitVec 32 := 4096#32
  let v123 : BitVec 32 := Scalar.muli v122 c4096_i32_102
  let c0_i32_103 : BitVec 32 := 0#32
  let v124 : BitVec 32 := Scalar.addi v123 c0_i32_103
  let c0_i32_104 : BitVec 32 := 0#32
  let v125 : BitVec 32 := Scalar.addi v124 c0_i32_104
  let c0_i32_702 : BitVec 32 := 0#32
  ![v125.toNat, 0]
def k0_off63 (v138 : BitVec 32) : Fin 2 → Nat :=
  let c4096_i32_116 : BitVec 32 := 4096#32
  let v139 : BitVec 32 := Scalar.muli v138 c4096_i32_116
  let c0_i32_117 : BitVec 32 := 0#32
  let v140 : BitVec 32 := Scalar.addi v139 c0_i32_117
  let c0_i32_118 : BitVec 32 := 0#32
  let v141 : BitVec 32 := Scalar.addi v140 c0_i32_118
  let c0_i32_709 : BitVec 32 := 0#32
  ![v141.toNat, 0]

def k0_dev35 (v0 : BitVec 32) : Nat :=
  let c0_i32_708 : BitVec 32 := 0#32
  let c1_i32_707 : BitVec 32 := 1#32
  let v680 : BitVec 32 := Scalar.muli v0 c1_i32_707
  let v681 : BitVec 32 := Scalar.addi c0_i32_708 v680
  v681.toNat
def k0_off64 (v126 : BitVec 32) : Fin 2 → Nat :=
  let c4096_i32_105 : BitVec 32 := 4096#32
  let v127 : BitVec 32 := Scalar.muli v126 c4096_i32_105
  let c2048_i32_106 : BitVec 32 := 2048#32
  let v128 : BitVec 32 := Scalar.addi v127 c2048_i32_106
  let c0_i32_107 : BitVec 32 := 0#32
  let v129 : BitVec 32 := Scalar.addi v128 c0_i32_107
  let c0_i32_717 : BitVec 32 := 0#32
  ![v129.toNat, 0]
def k0_off65 (v142 : BitVec 32) : Fin 2 → Nat :=
  let c4096_i32_119 : BitVec 32 := 4096#32
  let v143 : BitVec 32 := Scalar.muli v142 c4096_i32_119
  let c2048_i32_120 : BitVec 32 := 2048#32
  let v144 : BitVec 32 := Scalar.addi v143 c2048_i32_120
  let c0_i32_121 : BitVec 32 := 0#32
  let v145 : BitVec 32 := Scalar.addi v144 c0_i32_121
  let c0_i32_725 : BitVec 32 := 0#32
  ![v145.toNat, 0]

def k0_dev36 (v1 : BitVec 32) : Nat :=
  let c0_i32_724 : BitVec 32 := 0#32
  let c1_i32_723 : BitVec 32 := 1#32
  let v694 : BitVec 32 := Scalar.muli v1 c1_i32_723
  let v695 : BitVec 32 := Scalar.addi c0_i32_724 v694
  v695.toNat
def k0_off66 (v130 : BitVec 32) : Fin 2 → Nat :=
  let c4096_i32_109 : BitVec 32 := 4096#32
  let v131 : BitVec 32 := Scalar.muli v130 c4096_i32_109
  let c0_i32_110 : BitVec 32 := 0#32
  let v132 : BitVec 32 := Scalar.addi v131 c0_i32_110
  let c1024_i32_111 : BitVec 32 := 1024#32
  let v133 : BitVec 32 := Scalar.addi v132 c1024_i32_111
  let c0_i32_733 : BitVec 32 := 0#32
  ![v133.toNat, 0]
def k0_off67 (v146 : BitVec 32) : Fin 2 → Nat :=
  let c4096_i32_123 : BitVec 32 := 4096#32
  let v147 : BitVec 32 := Scalar.muli v146 c4096_i32_123
  let c0_i32_124 : BitVec 32 := 0#32
  let v148 : BitVec 32 := Scalar.addi v147 c0_i32_124
  let c1024_i32_125 : BitVec 32 := 1024#32
  let v149 : BitVec 32 := Scalar.addi v148 c1024_i32_125
  let c0_i32_741 : BitVec 32 := 0#32
  ![v149.toNat, 0]

def k0_dev37 (v0 : BitVec 32) : Nat :=
  let c0_i32_740 : BitVec 32 := 0#32
  let c1_i32_739 : BitVec 32 := 1#32
  let v708 : BitVec 32 := Scalar.muli v0 c1_i32_739
  let v709 : BitVec 32 := Scalar.addi c0_i32_740 v708
  v709.toNat
def k0_off68 (v134 : BitVec 32) : Fin 2 → Nat :=
  let c4096_i32_113 : BitVec 32 := 4096#32
  let v135 : BitVec 32 := Scalar.muli v134 c4096_i32_113
  let c2048_i32_114 : BitVec 32 := 2048#32
  let v136 : BitVec 32 := Scalar.addi v135 c2048_i32_114
  let c1024_i32_115 : BitVec 32 := 1024#32
  let v137 : BitVec 32 := Scalar.addi v136 c1024_i32_115
  let c0_i32_749 : BitVec 32 := 0#32
  ![v137.toNat, 0]
def k0_off69 (v150 : BitVec 32) : Fin 2 → Nat :=
  let c4096_i32_127 : BitVec 32 := 4096#32
  let v151 : BitVec 32 := Scalar.muli v150 c4096_i32_127
  let c2048_i32_128 : BitVec 32 := 2048#32
  let v152 : BitVec 32 := Scalar.addi v151 c2048_i32_128
  let c1024_i32_129 : BitVec 32 := 1024#32
  let v153 : BitVec 32 := Scalar.addi v152 c1024_i32_129
  let c0_i32_757 : BitVec 32 := 0#32
  ![v153.toNat, 0]

def k0_dev38 (v1 : BitVec 32) : Nat :=
  let c0_i32_756 : BitVec 32 := 0#32
  let c1_i32_755 : BitVec 32 := 1#32
  let v722 : BitVec 32 := Scalar.muli v1 c1_i32_755
  let v723 : BitVec 32 := Scalar.addi c0_i32_756 v722
  v723.toNat
def k0_off70 (v138 : BitVec 32) : Fin 2 → Nat :=
  let c4096_i32_116 : BitVec 32 := 4096#32
  let v139 : BitVec 32 := Scalar.muli v138 c4096_i32_116
  let c0_i32_117 : BitVec 32 := 0#32
  let v140 : BitVec 32 := Scalar.addi v139 c0_i32_117
  let c0_i32_118 : BitVec 32 := 0#32
  let v141 : BitVec 32 := Scalar.addi v140 c0_i32_118
  let c0_i32_765 : BitVec 32 := 0#32
  ![v141.toNat, 0]
def k0_off71 (v154 : BitVec 32) : Fin 2 → Nat :=
  let c4096_i32_130 : BitVec 32 := 4096#32
  let v155 : BitVec 32 := Scalar.muli v154 c4096_i32_130
  let c0_i32_131 : BitVec 32 := 0#32
  let v156 : BitVec 32 := Scalar.addi v155 c0_i32_131
  let c0_i32_132 : BitVec 32 := 0#32
  let v157 : BitVec 32 := Scalar.addi v156 c0_i32_132
  let c0_i32_772 : BitVec 32 := 0#32
  ![v157.toNat, 0]

def k0_dev39 (v0 : BitVec 32) : Nat :=
  let c0_i32_771 : BitVec 32 := 0#32
  let c1_i32_770 : BitVec 32 := 1#32
  let v736 : BitVec 32 := Scalar.muli v0 c1_i32_770
  let v737 : BitVec 32 := Scalar.addi c0_i32_771 v736
  v737.toNat
def k0_off72 (v142 : BitVec 32) : Fin 2 → Nat :=
  let c4096_i32_119 : BitVec 32 := 4096#32
  let v143 : BitVec 32 := Scalar.muli v142 c4096_i32_119
  let c2048_i32_120 : BitVec 32 := 2048#32
  let v144 : BitVec 32 := Scalar.addi v143 c2048_i32_120
  let c0_i32_121 : BitVec 32 := 0#32
  let v145 : BitVec 32 := Scalar.addi v144 c0_i32_121
  let c0_i32_780 : BitVec 32 := 0#32
  ![v145.toNat, 0]
def k0_off73 (v158 : BitVec 32) : Fin 2 → Nat :=
  let c4096_i32_133 : BitVec 32 := 4096#32
  let v159 : BitVec 32 := Scalar.muli v158 c4096_i32_133
  let c2048_i32_134 : BitVec 32 := 2048#32
  let v160 : BitVec 32 := Scalar.addi v159 c2048_i32_134
  let c0_i32_135 : BitVec 32 := 0#32
  let v161 : BitVec 32 := Scalar.addi v160 c0_i32_135
  let c0_i32_788 : BitVec 32 := 0#32
  ![v161.toNat, 0]

def k0_dev40 (v1 : BitVec 32) : Nat :=
  let c0_i32_787 : BitVec 32 := 0#32
  let c1_i32_786 : BitVec 32 := 1#32
  let v750 : BitVec 32 := Scalar.muli v1 c1_i32_786
  let v751 : BitVec 32 := Scalar.addi c0_i32_787 v750
  v751.toNat
def k0_off74 (v146 : BitVec 32) : Fin 2 → Nat :=
  let c4096_i32_123 : BitVec 32 := 4096#32
  let v147 : BitVec 32 := Scalar.muli v146 c4096_i32_123
  let c0_i32_124 : BitVec 32 := 0#32
  let v148 : BitVec 32 := Scalar.addi v147 c0_i32_124
  let c1024_i32_125 : BitVec 32 := 1024#32
  let v149 : BitVec 32 := Scalar.addi v148 c1024_i32_125
  let c0_i32_796 : BitVec 32 := 0#32
  ![v149.toNat, 0]
def k0_off75 (v162 : BitVec 32) : Fin 2 → Nat :=
  let c4096_i32_137 : BitVec 32 := 4096#32
  let v163 : BitVec 32 := Scalar.muli v162 c4096_i32_137
  let c0_i32_138 : BitVec 32 := 0#32
  let v164 : BitVec 32 := Scalar.addi v163 c0_i32_138
  let c1024_i32_139 : BitVec 32 := 1024#32
  let v165 : BitVec 32 := Scalar.addi v164 c1024_i32_139
  let c0_i32_804 : BitVec 32 := 0#32
  ![v165.toNat, 0]

def k0_dev41 (v0 : BitVec 32) : Nat :=
  let c0_i32_803 : BitVec 32 := 0#32
  let c1_i32_802 : BitVec 32 := 1#32
  let v764 : BitVec 32 := Scalar.muli v0 c1_i32_802
  let v765 : BitVec 32 := Scalar.addi c0_i32_803 v764
  v765.toNat
def k0_off76 (v150 : BitVec 32) : Fin 2 → Nat :=
  let c4096_i32_127 : BitVec 32 := 4096#32
  let v151 : BitVec 32 := Scalar.muli v150 c4096_i32_127
  let c2048_i32_128 : BitVec 32 := 2048#32
  let v152 : BitVec 32 := Scalar.addi v151 c2048_i32_128
  let c1024_i32_129 : BitVec 32 := 1024#32
  let v153 : BitVec 32 := Scalar.addi v152 c1024_i32_129
  let c0_i32_812 : BitVec 32 := 0#32
  ![v153.toNat, 0]
def k0_off77 (v166 : BitVec 32) : Fin 2 → Nat :=
  let c4096_i32_141 : BitVec 32 := 4096#32
  let v167 : BitVec 32 := Scalar.muli v166 c4096_i32_141
  let c2048_i32_142 : BitVec 32 := 2048#32
  let v168 : BitVec 32 := Scalar.addi v167 c2048_i32_142
  let c1024_i32_143 : BitVec 32 := 1024#32
  let v169 : BitVec 32 := Scalar.addi v168 c1024_i32_143
  let c0_i32_820 : BitVec 32 := 0#32
  ![v169.toNat, 0]

def k0_dev42 (v1 : BitVec 32) : Nat :=
  let c0_i32_819 : BitVec 32 := 0#32
  let c1_i32_818 : BitVec 32 := 1#32
  let v778 : BitVec 32 := Scalar.muli v1 c1_i32_818
  let v779 : BitVec 32 := Scalar.addi c0_i32_819 v778
  v779.toNat
def k0_off78 (v154 : BitVec 32) : Fin 2 → Nat :=
  let c4096_i32_130 : BitVec 32 := 4096#32
  let v155 : BitVec 32 := Scalar.muli v154 c4096_i32_130
  let c0_i32_131 : BitVec 32 := 0#32
  let v156 : BitVec 32 := Scalar.addi v155 c0_i32_131
  let c0_i32_132 : BitVec 32 := 0#32
  let v157 : BitVec 32 := Scalar.addi v156 c0_i32_132
  let c0_i32_828 : BitVec 32 := 0#32
  ![v157.toNat, 0]
def k0_off79 (v170 : BitVec 32) : Fin 2 → Nat :=
  let c4096_i32_144 : BitVec 32 := 4096#32
  let v171 : BitVec 32 := Scalar.muli v170 c4096_i32_144
  let c0_i32_145 : BitVec 32 := 0#32
  let v172 : BitVec 32 := Scalar.addi v171 c0_i32_145
  let c0_i32_146 : BitVec 32 := 0#32
  let v173 : BitVec 32 := Scalar.addi v172 c0_i32_146
  let c0_i32_835 : BitVec 32 := 0#32
  ![v173.toNat, 0]

def k0_dev43 (v0 : BitVec 32) : Nat :=
  let c0_i32_834 : BitVec 32 := 0#32
  let c1_i32_833 : BitVec 32 := 1#32
  let v792 : BitVec 32 := Scalar.muli v0 c1_i32_833
  let v793 : BitVec 32 := Scalar.addi c0_i32_834 v792
  v793.toNat
def k0_off80 (v158 : BitVec 32) : Fin 2 → Nat :=
  let c4096_i32_133 : BitVec 32 := 4096#32
  let v159 : BitVec 32 := Scalar.muli v158 c4096_i32_133
  let c2048_i32_134 : BitVec 32 := 2048#32
  let v160 : BitVec 32 := Scalar.addi v159 c2048_i32_134
  let c0_i32_135 : BitVec 32 := 0#32
  let v161 : BitVec 32 := Scalar.addi v160 c0_i32_135
  let c0_i32_843 : BitVec 32 := 0#32
  ![v161.toNat, 0]
def k0_off81 (v174 : BitVec 32) : Fin 2 → Nat :=
  let c4096_i32_147 : BitVec 32 := 4096#32
  let v175 : BitVec 32 := Scalar.muli v174 c4096_i32_147
  let c2048_i32_148 : BitVec 32 := 2048#32
  let v176 : BitVec 32 := Scalar.addi v175 c2048_i32_148
  let c0_i32_149 : BitVec 32 := 0#32
  let v177 : BitVec 32 := Scalar.addi v176 c0_i32_149
  let c0_i32_851 : BitVec 32 := 0#32
  ![v177.toNat, 0]

def k0_dev44 (v1 : BitVec 32) : Nat :=
  let c0_i32_850 : BitVec 32 := 0#32
  let c1_i32_849 : BitVec 32 := 1#32
  let v806 : BitVec 32 := Scalar.muli v1 c1_i32_849
  let v807 : BitVec 32 := Scalar.addi c0_i32_850 v806
  v807.toNat
def k0_off82 (v162 : BitVec 32) : Fin 2 → Nat :=
  let c4096_i32_137 : BitVec 32 := 4096#32
  let v163 : BitVec 32 := Scalar.muli v162 c4096_i32_137
  let c0_i32_138 : BitVec 32 := 0#32
  let v164 : BitVec 32 := Scalar.addi v163 c0_i32_138
  let c1024_i32_139 : BitVec 32 := 1024#32
  let v165 : BitVec 32 := Scalar.addi v164 c1024_i32_139
  let c0_i32_859 : BitVec 32 := 0#32
  ![v165.toNat, 0]
def k0_off83 (v178 : BitVec 32) : Fin 2 → Nat :=
  let c4096_i32_151 : BitVec 32 := 4096#32
  let v179 : BitVec 32 := Scalar.muli v178 c4096_i32_151
  let c0_i32_152 : BitVec 32 := 0#32
  let v180 : BitVec 32 := Scalar.addi v179 c0_i32_152
  let c1024_i32_153 : BitVec 32 := 1024#32
  let v181 : BitVec 32 := Scalar.addi v180 c1024_i32_153
  let c0_i32_867 : BitVec 32 := 0#32
  ![v181.toNat, 0]

def k0_dev45 (v0 : BitVec 32) : Nat :=
  let c0_i32_866 : BitVec 32 := 0#32
  let c1_i32_865 : BitVec 32 := 1#32
  let v820 : BitVec 32 := Scalar.muli v0 c1_i32_865
  let v821 : BitVec 32 := Scalar.addi c0_i32_866 v820
  v821.toNat
def k0_off84 (v166 : BitVec 32) : Fin 2 → Nat :=
  let c4096_i32_141 : BitVec 32 := 4096#32
  let v167 : BitVec 32 := Scalar.muli v166 c4096_i32_141
  let c2048_i32_142 : BitVec 32 := 2048#32
  let v168 : BitVec 32 := Scalar.addi v167 c2048_i32_142
  let c1024_i32_143 : BitVec 32 := 1024#32
  let v169 : BitVec 32 := Scalar.addi v168 c1024_i32_143
  let c0_i32_875 : BitVec 32 := 0#32
  ![v169.toNat, 0]
def k0_off85 (v182 : BitVec 32) : Fin 2 → Nat :=
  let c4096_i32_155 : BitVec 32 := 4096#32
  let v183 : BitVec 32 := Scalar.muli v182 c4096_i32_155
  let c2048_i32_156 : BitVec 32 := 2048#32
  let v184 : BitVec 32 := Scalar.addi v183 c2048_i32_156
  let c1024_i32_157 : BitVec 32 := 1024#32
  let v185 : BitVec 32 := Scalar.addi v184 c1024_i32_157
  let c0_i32_883 : BitVec 32 := 0#32
  ![v185.toNat, 0]

def k0_dev46 (v1 : BitVec 32) : Nat :=
  let c0_i32_882 : BitVec 32 := 0#32
  let c1_i32_881 : BitVec 32 := 1#32
  let v834 : BitVec 32 := Scalar.muli v1 c1_i32_881
  let v835 : BitVec 32 := Scalar.addi c0_i32_882 v834
  v835.toNat
def k0_off86 (v170 : BitVec 32) : Fin 2 → Nat :=
  let c4096_i32_144 : BitVec 32 := 4096#32
  let v171 : BitVec 32 := Scalar.muli v170 c4096_i32_144
  let c0_i32_145 : BitVec 32 := 0#32
  let v172 : BitVec 32 := Scalar.addi v171 c0_i32_145
  let c0_i32_146 : BitVec 32 := 0#32
  let v173 : BitVec 32 := Scalar.addi v172 c0_i32_146
  let c0_i32_891 : BitVec 32 := 0#32
  ![v173.toNat, 0]
def k0_off87 (v186 : BitVec 32) : Fin 2 → Nat :=
  let c4096_i32_158 : BitVec 32 := 4096#32
  let v187 : BitVec 32 := Scalar.muli v186 c4096_i32_158
  let c0_i32_159 : BitVec 32 := 0#32
  let v188 : BitVec 32 := Scalar.addi v187 c0_i32_159
  let c0_i32_160 : BitVec 32 := 0#32
  let v189 : BitVec 32 := Scalar.addi v188 c0_i32_160
  let c0_i32_898 : BitVec 32 := 0#32
  ![v189.toNat, 0]

def k0_dev47 (v0 : BitVec 32) : Nat :=
  let c0_i32_897 : BitVec 32 := 0#32
  let c1_i32_896 : BitVec 32 := 1#32
  let v848 : BitVec 32 := Scalar.muli v0 c1_i32_896
  let v849 : BitVec 32 := Scalar.addi c0_i32_897 v848
  v849.toNat
def k0_off88 (v174 : BitVec 32) : Fin 2 → Nat :=
  let c4096_i32_147 : BitVec 32 := 4096#32
  let v175 : BitVec 32 := Scalar.muli v174 c4096_i32_147
  let c2048_i32_148 : BitVec 32 := 2048#32
  let v176 : BitVec 32 := Scalar.addi v175 c2048_i32_148
  let c0_i32_149 : BitVec 32 := 0#32
  let v177 : BitVec 32 := Scalar.addi v176 c0_i32_149
  let c0_i32_906 : BitVec 32 := 0#32
  ![v177.toNat, 0]
def k0_off89 (v190 : BitVec 32) : Fin 2 → Nat :=
  let c4096_i32_161 : BitVec 32 := 4096#32
  let v191 : BitVec 32 := Scalar.muli v190 c4096_i32_161
  let c2048_i32_162 : BitVec 32 := 2048#32
  let v192 : BitVec 32 := Scalar.addi v191 c2048_i32_162
  let c0_i32_163 : BitVec 32 := 0#32
  let v193 : BitVec 32 := Scalar.addi v192 c0_i32_163
  let c0_i32_914 : BitVec 32 := 0#32
  ![v193.toNat, 0]

def k0_dev48 (v1 : BitVec 32) : Nat :=
  let c0_i32_913 : BitVec 32 := 0#32
  let c1_i32_912 : BitVec 32 := 1#32
  let v862 : BitVec 32 := Scalar.muli v1 c1_i32_912
  let v863 : BitVec 32 := Scalar.addi c0_i32_913 v862
  v863.toNat
def k0_off90 (v178 : BitVec 32) : Fin 2 → Nat :=
  let c4096_i32_151 : BitVec 32 := 4096#32
  let v179 : BitVec 32 := Scalar.muli v178 c4096_i32_151
  let c0_i32_152 : BitVec 32 := 0#32
  let v180 : BitVec 32 := Scalar.addi v179 c0_i32_152
  let c1024_i32_153 : BitVec 32 := 1024#32
  let v181 : BitVec 32 := Scalar.addi v180 c1024_i32_153
  let c0_i32_922 : BitVec 32 := 0#32
  ![v181.toNat, 0]
def k0_off91 (v194 : BitVec 32) : Fin 2 → Nat :=
  let c4096_i32_165 : BitVec 32 := 4096#32
  let v195 : BitVec 32 := Scalar.muli v194 c4096_i32_165
  let c0_i32_166 : BitVec 32 := 0#32
  let v196 : BitVec 32 := Scalar.addi v195 c0_i32_166
  let c1024_i32_167 : BitVec 32 := 1024#32
  let v197 : BitVec 32 := Scalar.addi v196 c1024_i32_167
  let c0_i32_930 : BitVec 32 := 0#32
  ![v197.toNat, 0]

def k0_dev49 (v0 : BitVec 32) : Nat :=
  let c0_i32_929 : BitVec 32 := 0#32
  let c1_i32_928 : BitVec 32 := 1#32
  let v876 : BitVec 32 := Scalar.muli v0 c1_i32_928
  let v877 : BitVec 32 := Scalar.addi c0_i32_929 v876
  v877.toNat
def k0_off92 (v182 : BitVec 32) : Fin 2 → Nat :=
  let c4096_i32_155 : BitVec 32 := 4096#32
  let v183 : BitVec 32 := Scalar.muli v182 c4096_i32_155
  let c2048_i32_156 : BitVec 32 := 2048#32
  let v184 : BitVec 32 := Scalar.addi v183 c2048_i32_156
  let c1024_i32_157 : BitVec 32 := 1024#32
  let v185 : BitVec 32 := Scalar.addi v184 c1024_i32_157
  let c0_i32_938 : BitVec 32 := 0#32
  ![v185.toNat, 0]
def k0_off93 (v198 : BitVec 32) : Fin 2 → Nat :=
  let c4096_i32_169 : BitVec 32 := 4096#32
  let v199 : BitVec 32 := Scalar.muli v198 c4096_i32_169
  let c2048_i32_170 : BitVec 32 := 2048#32
  let v200 : BitVec 32 := Scalar.addi v199 c2048_i32_170
  let c1024_i32_171 : BitVec 32 := 1024#32
  let v201 : BitVec 32 := Scalar.addi v200 c1024_i32_171
  let c0_i32_946 : BitVec 32 := 0#32
  ![v201.toNat, 0]

def k0_dev50 (v1 : BitVec 32) : Nat :=
  let c0_i32_945 : BitVec 32 := 0#32
  let c1_i32_944 : BitVec 32 := 1#32
  let v890 : BitVec 32 := Scalar.muli v1 c1_i32_944
  let v891 : BitVec 32 := Scalar.addi c0_i32_945 v890
  v891.toNat
def k0_off94 (v186 : BitVec 32) : Fin 2 → Nat :=
  let c4096_i32_158 : BitVec 32 := 4096#32
  let v187 : BitVec 32 := Scalar.muli v186 c4096_i32_158
  let c0_i32_159 : BitVec 32 := 0#32
  let v188 : BitVec 32 := Scalar.addi v187 c0_i32_159
  let c0_i32_160 : BitVec 32 := 0#32
  let v189 : BitVec 32 := Scalar.addi v188 c0_i32_160
  let c0_i32_954 : BitVec 32 := 0#32
  ![v189.toNat, 0]
def k0_off95 (v202 : BitVec 32) : Fin 2 → Nat :=
  let c4096_i32_172 : BitVec 32 := 4096#32
  let v203 : BitVec 32 := Scalar.muli v202 c4096_i32_172
  let c0_i32_173 : BitVec 32 := 0#32
  let v204 : BitVec 32 := Scalar.addi v203 c0_i32_173
  let c0_i32_174 : BitVec 32 := 0#32
  let v205 : BitVec 32 := Scalar.addi v204 c0_i32_174
  let c0_i32_961 : BitVec 32 := 0#32
  ![v205.toNat, 0]

def k0_dev51 (v0 : BitVec 32) : Nat :=
  let c0_i32_960 : BitVec 32 := 0#32
  let c1_i32_959 : BitVec 32 := 1#32
  let v904 : BitVec 32 := Scalar.muli v0 c1_i32_959
  let v905 : BitVec 32 := Scalar.addi c0_i32_960 v904
  v905.toNat
def k0_off96 (v190 : BitVec 32) : Fin 2 → Nat :=
  let c4096_i32_161 : BitVec 32 := 4096#32
  let v191 : BitVec 32 := Scalar.muli v190 c4096_i32_161
  let c2048_i32_162 : BitVec 32 := 2048#32
  let v192 : BitVec 32 := Scalar.addi v191 c2048_i32_162
  let c0_i32_163 : BitVec 32 := 0#32
  let v193 : BitVec 32 := Scalar.addi v192 c0_i32_163
  let c0_i32_969 : BitVec 32 := 0#32
  ![v193.toNat, 0]
def k0_off97 (v206 : BitVec 32) : Fin 2 → Nat :=
  let c4096_i32_175 : BitVec 32 := 4096#32
  let v207 : BitVec 32 := Scalar.muli v206 c4096_i32_175
  let c2048_i32_176 : BitVec 32 := 2048#32
  let v208 : BitVec 32 := Scalar.addi v207 c2048_i32_176
  let c0_i32_177 : BitVec 32 := 0#32
  let v209 : BitVec 32 := Scalar.addi v208 c0_i32_177
  let c0_i32_977 : BitVec 32 := 0#32
  ![v209.toNat, 0]

def k0_dev52 (v1 : BitVec 32) : Nat :=
  let c0_i32_976 : BitVec 32 := 0#32
  let c1_i32_975 : BitVec 32 := 1#32
  let v918 : BitVec 32 := Scalar.muli v1 c1_i32_975
  let v919 : BitVec 32 := Scalar.addi c0_i32_976 v918
  v919.toNat
def k0_off98 (v194 : BitVec 32) : Fin 2 → Nat :=
  let c4096_i32_165 : BitVec 32 := 4096#32
  let v195 : BitVec 32 := Scalar.muli v194 c4096_i32_165
  let c0_i32_166 : BitVec 32 := 0#32
  let v196 : BitVec 32 := Scalar.addi v195 c0_i32_166
  let c1024_i32_167 : BitVec 32 := 1024#32
  let v197 : BitVec 32 := Scalar.addi v196 c1024_i32_167
  let c0_i32_985 : BitVec 32 := 0#32
  ![v197.toNat, 0]
def k0_off99 (v210 : BitVec 32) : Fin 2 → Nat :=
  let c4096_i32_179 : BitVec 32 := 4096#32
  let v211 : BitVec 32 := Scalar.muli v210 c4096_i32_179
  let c0_i32_180 : BitVec 32 := 0#32
  let v212 : BitVec 32 := Scalar.addi v211 c0_i32_180
  let c1024_i32_181 : BitVec 32 := 1024#32
  let v213 : BitVec 32 := Scalar.addi v212 c1024_i32_181
  let c0_i32_993 : BitVec 32 := 0#32
  ![v213.toNat, 0]

def k0_dev53 (v0 : BitVec 32) : Nat :=
  let c0_i32_992 : BitVec 32 := 0#32
  let c1_i32_991 : BitVec 32 := 1#32
  let v932 : BitVec 32 := Scalar.muli v0 c1_i32_991
  let v933 : BitVec 32 := Scalar.addi c0_i32_992 v932
  v933.toNat
def k0_off100 (v198 : BitVec 32) : Fin 2 → Nat :=
  let c4096_i32_169 : BitVec 32 := 4096#32
  let v199 : BitVec 32 := Scalar.muli v198 c4096_i32_169
  let c2048_i32_170 : BitVec 32 := 2048#32
  let v200 : BitVec 32 := Scalar.addi v199 c2048_i32_170
  let c1024_i32_171 : BitVec 32 := 1024#32
  let v201 : BitVec 32 := Scalar.addi v200 c1024_i32_171
  let c0_i32_1001 : BitVec 32 := 0#32
  ![v201.toNat, 0]
def k0_off101 (v214 : BitVec 32) : Fin 2 → Nat :=
  let c4096_i32_183 : BitVec 32 := 4096#32
  let v215 : BitVec 32 := Scalar.muli v214 c4096_i32_183
  let c2048_i32_184 : BitVec 32 := 2048#32
  let v216 : BitVec 32 := Scalar.addi v215 c2048_i32_184
  let c1024_i32_185 : BitVec 32 := 1024#32
  let v217 : BitVec 32 := Scalar.addi v216 c1024_i32_185
  let c0_i32_1009 : BitVec 32 := 0#32
  ![v217.toNat, 0]

def k0_dev54 (v1 : BitVec 32) : Nat :=
  let c0_i32_1008 : BitVec 32 := 0#32
  let c1_i32_1007 : BitVec 32 := 1#32
  let v946 : BitVec 32 := Scalar.muli v1 c1_i32_1007
  let v947 : BitVec 32 := Scalar.addi c0_i32_1008 v946
  v947.toNat
def k0_off102 (v202 : BitVec 32) : Fin 2 → Nat :=
  let c4096_i32_172 : BitVec 32 := 4096#32
  let v203 : BitVec 32 := Scalar.muli v202 c4096_i32_172
  let c0_i32_173 : BitVec 32 := 0#32
  let v204 : BitVec 32 := Scalar.addi v203 c0_i32_173
  let c0_i32_174 : BitVec 32 := 0#32
  let v205 : BitVec 32 := Scalar.addi v204 c0_i32_174
  let c0_i32_1017 : BitVec 32 := 0#32
  ![v205.toNat, 0]
def k0_off103 (v218 : BitVec 32) : Fin 2 → Nat :=
  let c4096_i32_186 : BitVec 32 := 4096#32
  let v219 : BitVec 32 := Scalar.muli v218 c4096_i32_186
  let c0_i32_187 : BitVec 32 := 0#32
  let v220 : BitVec 32 := Scalar.addi v219 c0_i32_187
  let c0_i32_188 : BitVec 32 := 0#32
  let v221 : BitVec 32 := Scalar.addi v220 c0_i32_188
  let c0_i32_1024 : BitVec 32 := 0#32
  ![v221.toNat, 0]

def k0_dev55 (v0 : BitVec 32) : Nat :=
  let c0_i32_1023 : BitVec 32 := 0#32
  let c1_i32_1022 : BitVec 32 := 1#32
  let v960 : BitVec 32 := Scalar.muli v0 c1_i32_1022
  let v961 : BitVec 32 := Scalar.addi c0_i32_1023 v960
  v961.toNat
def k0_off104 (v206 : BitVec 32) : Fin 2 → Nat :=
  let c4096_i32_175 : BitVec 32 := 4096#32
  let v207 : BitVec 32 := Scalar.muli v206 c4096_i32_175
  let c2048_i32_176 : BitVec 32 := 2048#32
  let v208 : BitVec 32 := Scalar.addi v207 c2048_i32_176
  let c0_i32_177 : BitVec 32 := 0#32
  let v209 : BitVec 32 := Scalar.addi v208 c0_i32_177
  let c0_i32_1032 : BitVec 32 := 0#32
  ![v209.toNat, 0]
def k0_off105 (v222 : BitVec 32) : Fin 2 → Nat :=
  let c4096_i32_189 : BitVec 32 := 4096#32
  let v223 : BitVec 32 := Scalar.muli v222 c4096_i32_189
  let c2048_i32_190 : BitVec 32 := 2048#32
  let v224 : BitVec 32 := Scalar.addi v223 c2048_i32_190
  let c0_i32_191 : BitVec 32 := 0#32
  let v225 : BitVec 32 := Scalar.addi v224 c0_i32_191
  let c0_i32_1040 : BitVec 32 := 0#32
  ![v225.toNat, 0]

def k0_dev56 (v1 : BitVec 32) : Nat :=
  let c0_i32_1039 : BitVec 32 := 0#32
  let c1_i32_1038 : BitVec 32 := 1#32
  let v974 : BitVec 32 := Scalar.muli v1 c1_i32_1038
  let v975 : BitVec 32 := Scalar.addi c0_i32_1039 v974
  v975.toNat
def k0_off106 (v210 : BitVec 32) : Fin 2 → Nat :=
  let c4096_i32_179 : BitVec 32 := 4096#32
  let v211 : BitVec 32 := Scalar.muli v210 c4096_i32_179
  let c0_i32_180 : BitVec 32 := 0#32
  let v212 : BitVec 32 := Scalar.addi v211 c0_i32_180
  let c1024_i32_181 : BitVec 32 := 1024#32
  let v213 : BitVec 32 := Scalar.addi v212 c1024_i32_181
  let c0_i32_1048 : BitVec 32 := 0#32
  ![v213.toNat, 0]
def k0_off107 (v226 : BitVec 32) : Fin 2 → Nat :=
  let c4096_i32_193 : BitVec 32 := 4096#32
  let v227 : BitVec 32 := Scalar.muli v226 c4096_i32_193
  let c0_i32_194 : BitVec 32 := 0#32
  let v228 : BitVec 32 := Scalar.addi v227 c0_i32_194
  let c1024_i32_195 : BitVec 32 := 1024#32
  let v229 : BitVec 32 := Scalar.addi v228 c1024_i32_195
  let c0_i32_1056 : BitVec 32 := 0#32
  ![v229.toNat, 0]

def k0_dev57 (v0 : BitVec 32) : Nat :=
  let c0_i32_1055 : BitVec 32 := 0#32
  let c1_i32_1054 : BitVec 32 := 1#32
  let v988 : BitVec 32 := Scalar.muli v0 c1_i32_1054
  let v989 : BitVec 32 := Scalar.addi c0_i32_1055 v988
  v989.toNat
def k0_off108 (v214 : BitVec 32) : Fin 2 → Nat :=
  let c4096_i32_183 : BitVec 32 := 4096#32
  let v215 : BitVec 32 := Scalar.muli v214 c4096_i32_183
  let c2048_i32_184 : BitVec 32 := 2048#32
  let v216 : BitVec 32 := Scalar.addi v215 c2048_i32_184
  let c1024_i32_185 : BitVec 32 := 1024#32
  let v217 : BitVec 32 := Scalar.addi v216 c1024_i32_185
  let c0_i32_1064 : BitVec 32 := 0#32
  ![v217.toNat, 0]
def k0_off109 (v230 : BitVec 32) : Fin 2 → Nat :=
  let c4096_i32_197 : BitVec 32 := 4096#32
  let v231 : BitVec 32 := Scalar.muli v230 c4096_i32_197
  let c2048_i32_198 : BitVec 32 := 2048#32
  let v232 : BitVec 32 := Scalar.addi v231 c2048_i32_198
  let c1024_i32_199 : BitVec 32 := 1024#32
  let v233 : BitVec 32 := Scalar.addi v232 c1024_i32_199
  let c0_i32_1072 : BitVec 32 := 0#32
  ![v233.toNat, 0]

def k0_dev58 (v1 : BitVec 32) : Nat :=
  let c0_i32_1071 : BitVec 32 := 0#32
  let c1_i32_1070 : BitVec 32 := 1#32
  let v1002 : BitVec 32 := Scalar.muli v1 c1_i32_1070
  let v1003 : BitVec 32 := Scalar.addi c0_i32_1071 v1002
  v1003.toNat
def k0_off110 (v218 : BitVec 32) : Fin 2 → Nat :=
  let c4096_i32_186 : BitVec 32 := 4096#32
  let v219 : BitVec 32 := Scalar.muli v218 c4096_i32_186
  let c0_i32_187 : BitVec 32 := 0#32
  let v220 : BitVec 32 := Scalar.addi v219 c0_i32_187
  let c0_i32_188 : BitVec 32 := 0#32
  let v221 : BitVec 32 := Scalar.addi v220 c0_i32_188
  let c0_i32_1080 : BitVec 32 := 0#32
  ![v221.toNat, 0]
def k0_off111 (v234 : BitVec 32) : Fin 2 → Nat :=
  let c4096_i32_200 : BitVec 32 := 4096#32
  let v235 : BitVec 32 := Scalar.muli v234 c4096_i32_200
  let c0_i32_201 : BitVec 32 := 0#32
  let v236 : BitVec 32 := Scalar.addi v235 c0_i32_201
  let c0_i32_202 : BitVec 32 := 0#32
  let v237 : BitVec 32 := Scalar.addi v236 c0_i32_202
  let c0_i32_1087 : BitVec 32 := 0#32
  ![v237.toNat, 0]

def k0_dev59 (v0 : BitVec 32) : Nat :=
  let c0_i32_1086 : BitVec 32 := 0#32
  let c1_i32_1085 : BitVec 32 := 1#32
  let v1016 : BitVec 32 := Scalar.muli v0 c1_i32_1085
  let v1017 : BitVec 32 := Scalar.addi c0_i32_1086 v1016
  v1017.toNat
def k0_off112 (v222 : BitVec 32) : Fin 2 → Nat :=
  let c4096_i32_189 : BitVec 32 := 4096#32
  let v223 : BitVec 32 := Scalar.muli v222 c4096_i32_189
  let c2048_i32_190 : BitVec 32 := 2048#32
  let v224 : BitVec 32 := Scalar.addi v223 c2048_i32_190
  let c0_i32_191 : BitVec 32 := 0#32
  let v225 : BitVec 32 := Scalar.addi v224 c0_i32_191
  let c0_i32_1095 : BitVec 32 := 0#32
  ![v225.toNat, 0]
def k0_off113 (v238 : BitVec 32) : Fin 2 → Nat :=
  let c4096_i32_203 : BitVec 32 := 4096#32
  let v239 : BitVec 32 := Scalar.muli v238 c4096_i32_203
  let c2048_i32_204 : BitVec 32 := 2048#32
  let v240 : BitVec 32 := Scalar.addi v239 c2048_i32_204
  let c0_i32_205 : BitVec 32 := 0#32
  let v241 : BitVec 32 := Scalar.addi v240 c0_i32_205
  let c0_i32_1103 : BitVec 32 := 0#32
  ![v241.toNat, 0]

def k0_dev60 (v1 : BitVec 32) : Nat :=
  let c0_i32_1102 : BitVec 32 := 0#32
  let c1_i32_1101 : BitVec 32 := 1#32
  let v1030 : BitVec 32 := Scalar.muli v1 c1_i32_1101
  let v1031 : BitVec 32 := Scalar.addi c0_i32_1102 v1030
  v1031.toNat
def k0_off114 (v226 : BitVec 32) : Fin 2 → Nat :=
  let c4096_i32_193 : BitVec 32 := 4096#32
  let v227 : BitVec 32 := Scalar.muli v226 c4096_i32_193
  let c0_i32_194 : BitVec 32 := 0#32
  let v228 : BitVec 32 := Scalar.addi v227 c0_i32_194
  let c1024_i32_195 : BitVec 32 := 1024#32
  let v229 : BitVec 32 := Scalar.addi v228 c1024_i32_195
  let c0_i32_1111 : BitVec 32 := 0#32
  ![v229.toNat, 0]
def k0_off115 (v242 : BitVec 32) : Fin 2 → Nat :=
  let c4096_i32_207 : BitVec 32 := 4096#32
  let v243 : BitVec 32 := Scalar.muli v242 c4096_i32_207
  let c0_i32_208 : BitVec 32 := 0#32
  let v244 : BitVec 32 := Scalar.addi v243 c0_i32_208
  let c1024_i32_209 : BitVec 32 := 1024#32
  let v245 : BitVec 32 := Scalar.addi v244 c1024_i32_209
  let c0_i32_1119 : BitVec 32 := 0#32
  ![v245.toNat, 0]

def k0_dev61 (v0 : BitVec 32) : Nat :=
  let c0_i32_1118 : BitVec 32 := 0#32
  let c1_i32_1117 : BitVec 32 := 1#32
  let v1044 : BitVec 32 := Scalar.muli v0 c1_i32_1117
  let v1045 : BitVec 32 := Scalar.addi c0_i32_1118 v1044
  v1045.toNat

def k0_chk2 (v0 : BitVec 32) : Prop :=
  ((k0_dev2 v0) < nD) ∧
  ((k0_dev3 v0) < nD) ∧
  ((k0_dev5 v0) < nD) ∧
  ((k0_dev7 v0) < nD) ∧
  ((k0_dev9 v0) < nD) ∧
  ((k0_dev11 v0) < nD) ∧
  ((k0_dev13 v0) < nD) ∧
  ((k0_dev15 v0) < nD) ∧
  ((k0_dev17 v0) < nD) ∧
  ((k0_dev19 v0) < nD) ∧
  ((k0_dev21 v0) < nD) ∧
  ((k0_dev23 v0) < nD) ∧
  ((k0_dev25 v0) < nD) ∧
  ((k0_dev27 v0) < nD) ∧
  ((k0_dev29 v0) < nD) ∧
  ((k0_dev31 v0) < nD) ∧
  ((k0_dev33 v0) < nD) ∧
  ((k0_dev35 v0) < nD) ∧
  ((k0_dev37 v0) < nD) ∧
  ((k0_dev39 v0) < nD) ∧
  ((k0_dev41 v0) < nD) ∧
  ((k0_dev43 v0) < nD) ∧
  ((k0_dev45 v0) < nD) ∧
  ((k0_dev47 v0) < nD) ∧
  ((k0_dev49 v0) < nD) ∧
  ((k0_dev51 v0) < nD) ∧
  ((k0_dev53 v0) < nD) ∧
  ((k0_dev55 v0) < nD) ∧
  ((k0_dev57 v0) < nD) ∧
  ((k0_dev59 v0) < nD) ∧
  ((k0_dev61 v0) < nD)
theorem k0_dev2_lt : ∀ (v0 : BitVec 32) (k0_hw2 : k0_chk2 v0), (k0_dev2 v0) < nD := fun v0 k0_hw2 => k0_hw2.1
theorem k0_dev3_lt : ∀ (v0 : BitVec 32) (k0_hw2 : k0_chk2 v0), (k0_dev3 v0) < nD := fun v0 k0_hw2 => k0_hw2.2.1
theorem k0_dev5_lt : ∀ (v0 : BitVec 32) (k0_hw2 : k0_chk2 v0), (k0_dev5 v0) < nD := fun v0 k0_hw2 => k0_hw2.2.2.1
theorem k0_dev7_lt : ∀ (v0 : BitVec 32) (k0_hw2 : k0_chk2 v0), (k0_dev7 v0) < nD := fun v0 k0_hw2 => k0_hw2.2.2.2.1
theorem k0_dev9_lt : ∀ (v0 : BitVec 32) (k0_hw2 : k0_chk2 v0), (k0_dev9 v0) < nD := fun v0 k0_hw2 => k0_hw2.2.2.2.2.1
theorem k0_dev11_lt : ∀ (v0 : BitVec 32) (k0_hw2 : k0_chk2 v0), (k0_dev11 v0) < nD := fun v0 k0_hw2 => k0_hw2.2.2.2.2.2.1
theorem k0_dev13_lt : ∀ (v0 : BitVec 32) (k0_hw2 : k0_chk2 v0), (k0_dev13 v0) < nD := fun v0 k0_hw2 => k0_hw2.2.2.2.2.2.2.1
theorem k0_dev15_lt : ∀ (v0 : BitVec 32) (k0_hw2 : k0_chk2 v0), (k0_dev15 v0) < nD := fun v0 k0_hw2 => k0_hw2.2.2.2.2.2.2.2.1
theorem k0_dev17_lt : ∀ (v0 : BitVec 32) (k0_hw2 : k0_chk2 v0), (k0_dev17 v0) < nD := fun v0 k0_hw2 => k0_hw2.2.2.2.2.2.2.2.2.1
theorem k0_dev19_lt : ∀ (v0 : BitVec 32) (k0_hw2 : k0_chk2 v0), (k0_dev19 v0) < nD := fun v0 k0_hw2 => k0_hw2.2.2.2.2.2.2.2.2.2.1
theorem k0_dev21_lt : ∀ (v0 : BitVec 32) (k0_hw2 : k0_chk2 v0), (k0_dev21 v0) < nD := fun v0 k0_hw2 => k0_hw2.2.2.2.2.2.2.2.2.2.2.1
theorem k0_dev23_lt : ∀ (v0 : BitVec 32) (k0_hw2 : k0_chk2 v0), (k0_dev23 v0) < nD := fun v0 k0_hw2 => k0_hw2.2.2.2.2.2.2.2.2.2.2.2.1
theorem k0_dev25_lt : ∀ (v0 : BitVec 32) (k0_hw2 : k0_chk2 v0), (k0_dev25 v0) < nD := fun v0 k0_hw2 => k0_hw2.2.2.2.2.2.2.2.2.2.2.2.2.1
theorem k0_dev27_lt : ∀ (v0 : BitVec 32) (k0_hw2 : k0_chk2 v0), (k0_dev27 v0) < nD := fun v0 k0_hw2 => k0_hw2.2.2.2.2.2.2.2.2.2.2.2.2.2.1
theorem k0_dev29_lt : ∀ (v0 : BitVec 32) (k0_hw2 : k0_chk2 v0), (k0_dev29 v0) < nD := fun v0 k0_hw2 => k0_hw2.2.2.2.2.2.2.2.2.2.2.2.2.2.2.1
theorem k0_dev31_lt : ∀ (v0 : BitVec 32) (k0_hw2 : k0_chk2 v0), (k0_dev31 v0) < nD := fun v0 k0_hw2 => k0_hw2.2.2.2.2.2.2.2.2.2.2.2.2.2.2.2.1
theorem k0_dev33_lt : ∀ (v0 : BitVec 32) (k0_hw2 : k0_chk2 v0), (k0_dev33 v0) < nD := fun v0 k0_hw2 => k0_hw2.2.2.2.2.2.2.2.2.2.2.2.2.2.2.2.2.1
theorem k0_dev35_lt : ∀ (v0 : BitVec 32) (k0_hw2 : k0_chk2 v0), (k0_dev35 v0) < nD := fun v0 k0_hw2 => k0_hw2.2.2.2.2.2.2.2.2.2.2.2.2.2.2.2.2.2.1
theorem k0_dev37_lt : ∀ (v0 : BitVec 32) (k0_hw2 : k0_chk2 v0), (k0_dev37 v0) < nD := fun v0 k0_hw2 => k0_hw2.2.2.2.2.2.2.2.2.2.2.2.2.2.2.2.2.2.2.1
theorem k0_dev39_lt : ∀ (v0 : BitVec 32) (k0_hw2 : k0_chk2 v0), (k0_dev39 v0) < nD := fun v0 k0_hw2 => k0_hw2.2.2.2.2.2.2.2.2.2.2.2.2.2.2.2.2.2.2.2.1
theorem k0_dev41_lt : ∀ (v0 : BitVec 32) (k0_hw2 : k0_chk2 v0), (k0_dev41 v0) < nD := fun v0 k0_hw2 => k0_hw2.2.2.2.2.2.2.2.2.2.2.2.2.2.2.2.2.2.2.2.2.1
theorem k0_dev43_lt : ∀ (v0 : BitVec 32) (k0_hw2 : k0_chk2 v0), (k0_dev43 v0) < nD := fun v0 k0_hw2 => k0_hw2.2.2.2.2.2.2.2.2.2.2.2.2.2.2.2.2.2.2.2.2.2.1
theorem k0_dev45_lt : ∀ (v0 : BitVec 32) (k0_hw2 : k0_chk2 v0), (k0_dev45 v0) < nD := fun v0 k0_hw2 => k0_hw2.2.2.2.2.2.2.2.2.2.2.2.2.2.2.2.2.2.2.2.2.2.2.1
theorem k0_dev47_lt : ∀ (v0 : BitVec 32) (k0_hw2 : k0_chk2 v0), (k0_dev47 v0) < nD := fun v0 k0_hw2 => k0_hw2.2.2.2.2.2.2.2.2.2.2.2.2.2.2.2.2.2.2.2.2.2.2.2.1
theorem k0_dev49_lt : ∀ (v0 : BitVec 32) (k0_hw2 : k0_chk2 v0), (k0_dev49 v0) < nD := fun v0 k0_hw2 => k0_hw2.2.2.2.2.2.2.2.2.2.2.2.2.2.2.2.2.2.2.2.2.2.2.2.2.1
theorem k0_dev51_lt : ∀ (v0 : BitVec 32) (k0_hw2 : k0_chk2 v0), (k0_dev51 v0) < nD := fun v0 k0_hw2 => k0_hw2.2.2.2.2.2.2.2.2.2.2.2.2.2.2.2.2.2.2.2.2.2.2.2.2.2.1
theorem k0_dev53_lt : ∀ (v0 : BitVec 32) (k0_hw2 : k0_chk2 v0), (k0_dev53 v0) < nD := fun v0 k0_hw2 => k0_hw2.2.2.2.2.2.2.2.2.2.2.2.2.2.2.2.2.2.2.2.2.2.2.2.2.2.2.1
theorem k0_dev55_lt : ∀ (v0 : BitVec 32) (k0_hw2 : k0_chk2 v0), (k0_dev55 v0) < nD := fun v0 k0_hw2 => k0_hw2.2.2.2.2.2.2.2.2.2.2.2.2.2.2.2.2.2.2.2.2.2.2.2.2.2.2.2.1
theorem k0_dev57_lt : ∀ (v0 : BitVec 32) (k0_hw2 : k0_chk2 v0), (k0_dev57 v0) < nD := fun v0 k0_hw2 => k0_hw2.2.2.2.2.2.2.2.2.2.2.2.2.2.2.2.2.2.2.2.2.2.2.2.2.2.2.2.2.1
theorem k0_dev59_lt : ∀ (v0 : BitVec 32) (k0_hw2 : k0_chk2 v0), (k0_dev59 v0) < nD := fun v0 k0_hw2 => k0_hw2.2.2.2.2.2.2.2.2.2.2.2.2.2.2.2.2.2.2.2.2.2.2.2.2.2.2.2.2.2.1
theorem k0_dev61_lt : ∀ (v0 : BitVec 32) (k0_hw2 : k0_chk2 v0), (k0_dev61 v0) < nD := fun v0 k0_hw2 => k0_hw2.2.2.2.2.2.2.2.2.2.2.2.2.2.2.2.2.2.2.2.2.2.2.2.2.2.2.2.2.2.2

def k0_off116 (v230 : BitVec 32) : Fin 2 → Nat :=
  let c4096_i32_197 : BitVec 32 := 4096#32
  let v231 : BitVec 32 := Scalar.muli v230 c4096_i32_197
  let c2048_i32_198 : BitVec 32 := 2048#32
  let v232 : BitVec 32 := Scalar.addi v231 c2048_i32_198
  let c1024_i32_199 : BitVec 32 := 1024#32
  let v233 : BitVec 32 := Scalar.addi v232 c1024_i32_199
  let c0_i32_1127 : BitVec 32 := 0#32
  ![v233.toNat, 0]
def k0_off117 (v246 : BitVec 32) : Fin 2 → Nat :=
  let c4096_i32_211 : BitVec 32 := 4096#32
  let v247 : BitVec 32 := Scalar.muli v246 c4096_i32_211
  let c2048_i32_212 : BitVec 32 := 2048#32
  let v248 : BitVec 32 := Scalar.addi v247 c2048_i32_212
  let c1024_i32_213 : BitVec 32 := 1024#32
  let v249 : BitVec 32 := Scalar.addi v248 c1024_i32_213
  let c0_i32_1135 : BitVec 32 := 0#32
  ![v249.toNat, 0]

def k0_chk63 (v246 : BitVec 32) : Prop :=
  (∀ a, (k0_off117 v246) a + S1024x1024.size a ≤ S65536x1024.size a)
theorem k0_off117_inb : ∀ (v246 : BitVec 32) (k0_hw63 : k0_chk63 v246), ∀ a, (k0_off117 v246) a + S1024x1024.size a ≤ S65536x1024.size a := fun v246 k0_hw63 => k0_hw63

def k0_dev62 (v1 : BitVec 32) : Nat :=
  let c0_i32_1134 : BitVec 32 := 0#32
  let c1_i32_1133 : BitVec 32 := 1#32
  let v1058 : BitVec 32 := Scalar.muli v1 c1_i32_1133
  let v1059 : BitVec 32 := Scalar.addi c0_i32_1134 v1058
  v1059.toNat

def k0_chk1 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD) ∧
  ((k0_dev34 v1) < nD) ∧
  ((k0_dev36 v1) < nD) ∧
  ((k0_dev38 v1) < nD) ∧
  ((k0_dev40 v1) < nD) ∧
  ((k0_dev42 v1) < nD) ∧
  ((k0_dev44 v1) < nD) ∧
  ((k0_dev46 v1) < nD) ∧
  ((k0_dev48 v1) < nD) ∧
  ((k0_dev50 v1) < nD) ∧
  ((k0_dev52 v1) < nD) ∧
  ((k0_dev54 v1) < nD) ∧
  ((k0_dev56 v1) < nD) ∧
  ((k0_dev58 v1) < nD) ∧
  ((k0_dev60 v1) < nD) ∧
  ((k0_dev62 v1) < nD)
theorem k0_dev1_lt : ∀ (v1 : BitVec 32) (k0_hw1 : k0_chk1 v1), (k0_dev1 v1) < nD := fun v1 k0_hw1 => k0_hw1.1
theorem k0_dev4_lt : ∀ (v1 : BitVec 32) (k0_hw1 : k0_chk1 v1), (k0_dev4 v1) < nD := fun v1 k0_hw1 => k0_hw1.2.1
theorem k0_dev6_lt : ∀ (v1 : BitVec 32) (k0_hw1 : k0_chk1 v1), (k0_dev6 v1) < nD := fun v1 k0_hw1 => k0_hw1.2.2.1
theorem k0_dev8_lt : ∀ (v1 : BitVec 32) (k0_hw1 : k0_chk1 v1), (k0_dev8 v1) < nD := fun v1 k0_hw1 => k0_hw1.2.2.2.1
theorem k0_dev10_lt : ∀ (v1 : BitVec 32) (k0_hw1 : k0_chk1 v1), (k0_dev10 v1) < nD := fun v1 k0_hw1 => k0_hw1.2.2.2.2.1
theorem k0_dev12_lt : ∀ (v1 : BitVec 32) (k0_hw1 : k0_chk1 v1), (k0_dev12 v1) < nD := fun v1 k0_hw1 => k0_hw1.2.2.2.2.2.1
theorem k0_dev14_lt : ∀ (v1 : BitVec 32) (k0_hw1 : k0_chk1 v1), (k0_dev14 v1) < nD := fun v1 k0_hw1 => k0_hw1.2.2.2.2.2.2.1
theorem k0_dev16_lt : ∀ (v1 : BitVec 32) (k0_hw1 : k0_chk1 v1), (k0_dev16 v1) < nD := fun v1 k0_hw1 => k0_hw1.2.2.2.2.2.2.2.1
theorem k0_dev18_lt : ∀ (v1 : BitVec 32) (k0_hw1 : k0_chk1 v1), (k0_dev18 v1) < nD := fun v1 k0_hw1 => k0_hw1.2.2.2.2.2.2.2.2.1
theorem k0_dev20_lt : ∀ (v1 : BitVec 32) (k0_hw1 : k0_chk1 v1), (k0_dev20 v1) < nD := fun v1 k0_hw1 => k0_hw1.2.2.2.2.2.2.2.2.2.1
theorem k0_dev22_lt : ∀ (v1 : BitVec 32) (k0_hw1 : k0_chk1 v1), (k0_dev22 v1) < nD := fun v1 k0_hw1 => k0_hw1.2.2.2.2.2.2.2.2.2.2.1
theorem k0_dev24_lt : ∀ (v1 : BitVec 32) (k0_hw1 : k0_chk1 v1), (k0_dev24 v1) < nD := fun v1 k0_hw1 => k0_hw1.2.2.2.2.2.2.2.2.2.2.2.1
theorem k0_dev26_lt : ∀ (v1 : BitVec 32) (k0_hw1 : k0_chk1 v1), (k0_dev26 v1) < nD := fun v1 k0_hw1 => k0_hw1.2.2.2.2.2.2.2.2.2.2.2.2.1
theorem k0_dev28_lt : ∀ (v1 : BitVec 32) (k0_hw1 : k0_chk1 v1), (k0_dev28 v1) < nD := fun v1 k0_hw1 => k0_hw1.2.2.2.2.2.2.2.2.2.2.2.2.2.1
theorem k0_dev30_lt : ∀ (v1 : BitVec 32) (k0_hw1 : k0_chk1 v1), (k0_dev30 v1) < nD := fun v1 k0_hw1 => k0_hw1.2.2.2.2.2.2.2.2.2.2.2.2.2.2.1
theorem k0_dev32_lt : ∀ (v1 : BitVec 32) (k0_hw1 : k0_chk1 v1), (k0_dev32 v1) < nD := fun v1 k0_hw1 => k0_hw1.2.2.2.2.2.2.2.2.2.2.2.2.2.2.2.1
theorem k0_dev34_lt : ∀ (v1 : BitVec 32) (k0_hw1 : k0_chk1 v1), (k0_dev34 v1) < nD := fun v1 k0_hw1 => k0_hw1.2.2.2.2.2.2.2.2.2.2.2.2.2.2.2.2.1
theorem k0_dev36_lt : ∀ (v1 : BitVec 32) (k0_hw1 : k0_chk1 v1), (k0_dev36 v1) < nD := fun v1 k0_hw1 => k0_hw1.2.2.2.2.2.2.2.2.2.2.2.2.2.2.2.2.2.1
theorem k0_dev38_lt : ∀ (v1 : BitVec 32) (k0_hw1 : k0_chk1 v1), (k0_dev38 v1) < nD := fun v1 k0_hw1 => k0_hw1.2.2.2.2.2.2.2.2.2.2.2.2.2.2.2.2.2.2.1
theorem k0_dev40_lt : ∀ (v1 : BitVec 32) (k0_hw1 : k0_chk1 v1), (k0_dev40 v1) < nD := fun v1 k0_hw1 => k0_hw1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.2.2.2.2.2.2.2.2.2.2.2.2.2.2.2.2.2.2.2.2.2.2.2.2.2.2.2.2.2.2

def k0_off118 (v234 : BitVec 32) : Fin 2 → Nat :=
  let c4096_i32_200 : BitVec 32 := 4096#32
  let v235 : BitVec 32 := Scalar.muli v234 c4096_i32_200
  let c0_i32_201 : BitVec 32 := 0#32
  let v236 : BitVec 32 := Scalar.addi v235 c0_i32_201
  let c0_i32_202 : BitVec 32 := 0#32
  let v237 : BitVec 32 := Scalar.addi v236 c0_i32_202
  let c0_i32_1143 : BitVec 32 := 0#32
  ![v237.toNat, 0]

def k0_chk60 (v234 : BitVec 32) : Prop :=
  (∀ a, (k0_off111 v234) a + S1024x1024.size a ≤ S65536x1024.size a) ∧
  (∀ a, (k0_off118 v234) a + S1024x1024.size a ≤ S65536x1024.size a)
theorem k0_off111_inb : ∀ (v234 : BitVec 32) (k0_hw60 : k0_chk60 v234), ∀ a, (k0_off111 v234) a + S1024x1024.size a ≤ S65536x1024.size a := fun v234 k0_hw60 => k0_hw60.1
theorem k0_off118_inb : ∀ (v234 : BitVec 32) (k0_hw60 : k0_chk60 v234), ∀ a, (k0_off118 v234) a + S1024x1024.size a ≤ S65536x1024.size a := fun v234 k0_hw60 => k0_hw60.2

def k0_off119 (v238 : BitVec 32) : Fin 2 → Nat :=
  let c4096_i32_203 : BitVec 32 := 4096#32
  let v239 : BitVec 32 := Scalar.muli v238 c4096_i32_203
  let c2048_i32_204 : BitVec 32 := 2048#32
  let v240 : BitVec 32 := Scalar.addi v239 c2048_i32_204
  let c0_i32_205 : BitVec 32 := 0#32
  let v241 : BitVec 32 := Scalar.addi v240 c0_i32_205
  let c0_i32_1151 : BitVec 32 := 0#32
  ![v241.toNat, 0]

def k0_chk61 (v238 : BitVec 32) : Prop :=
  (∀ a, (k0_off113 v238) a + S1024x1024.size a ≤ S65536x1024.size a) ∧
  (∀ a, (k0_off119 v238) a + S1024x1024.size a ≤ S65536x1024.size a)
theorem k0_off113_inb : ∀ (v238 : BitVec 32) (k0_hw61 : k0_chk61 v238), ∀ a, (k0_off113 v238) a + S1024x1024.size a ≤ S65536x1024.size a := fun v238 k0_hw61 => k0_hw61.1
theorem k0_off119_inb : ∀ (v238 : BitVec 32) (k0_hw61 : k0_chk61 v238), ∀ a, (k0_off119 v238) a + S1024x1024.size a ≤ S65536x1024.size a := fun v238 k0_hw61 => k0_hw61.2

def k0_off120 (v242 : BitVec 32) : Fin 2 → Nat :=
  let c4096_i32_207 : BitVec 32 := 4096#32
  let v243 : BitVec 32 := Scalar.muli v242 c4096_i32_207
  let c0_i32_208 : BitVec 32 := 0#32
  let v244 : BitVec 32 := Scalar.addi v243 c0_i32_208
  let c1024_i32_209 : BitVec 32 := 1024#32
  let v245 : BitVec 32 := Scalar.addi v244 c1024_i32_209
  let c0_i32_1159 : BitVec 32 := 0#32
  ![v245.toNat, 0]

def k0_chk62 (v242 : BitVec 32) : Prop :=
  (∀ a, (k0_off115 v242) a + S1024x1024.size a ≤ S65536x1024.size a) ∧
  (∀ a, (k0_off120 v242) a + S1024x1024.size a ≤ S65536x1024.size a)
theorem k0_off115_inb : ∀ (v242 : BitVec 32) (k0_hw62 : k0_chk62 v242), ∀ a, (k0_off115 v242) a + S1024x1024.size a ≤ S65536x1024.size a := fun v242 k0_hw62 => k0_hw62.1
theorem k0_off120_inb : ∀ (v242 : BitVec 32) (k0_hw62 : k0_chk62 v242), ∀ a, (k0_off120 v242) a + S1024x1024.size a ≤ S65536x1024.size a := fun v242 k0_hw62 => k0_hw62.2

def k0_off121 (v10 : BitVec 32) : Fin 2 → Nat :=
  let c4096_i32_6 : BitVec 32 := 4096#32
  let v11 : BitVec 32 := Scalar.muli v10 c4096_i32_6
  let c0_i32_7 : BitVec 32 := 0#32
  let v12 : BitVec 32 := Scalar.addi v11 c0_i32_7
  let c0_i32_8 : BitVec 32 := 0#32
  let v13 : BitVec 32 := Scalar.addi v12 c0_i32_8
  let c0_i32_1176 : BitVec 32 := 0#32
  ![v13.toNat, 0]

def k0_chk4 (v10 : BitVec 32) : Prop :=
  (∀ a, (k0_off2 v10) a + S1024x1024.size a ≤ S65536x1024.size a) ∧
  (∀ a, (k0_off6 v10) a + S1024x1024.size a ≤ S65536x1024.size a) ∧
  (∀ a, (k0_off121 v10) a + S1024x1024.size a ≤ S65536x1024.size a)
theorem k0_off2_inb : ∀ (v10 : BitVec 32) (k0_hw4 : k0_chk4 v10), ∀ a, (k0_off2 v10) a + S1024x1024.size a ≤ S65536x1024.size a := fun v10 k0_hw4 => k0_hw4.1
theorem k0_off6_inb : ∀ (v10 : BitVec 32) (k0_hw4 : k0_chk4 v10), ∀ a, (k0_off6 v10) a + S1024x1024.size a ≤ S65536x1024.size a := fun v10 k0_hw4 => k0_hw4.2.1
theorem k0_off121_inb : ∀ (v10 : BitVec 32) (k0_hw4 : k0_chk4 v10), ∀ a, (k0_off121 v10) a + S1024x1024.size a ≤ S65536x1024.size a := fun v10 k0_hw4 => k0_hw4.2.2

def k0_off122 (v14 : BitVec 32) : Fin 2 → Nat :=
  let c4096_i32_9 : BitVec 32 := 4096#32
  let v15 : BitVec 32 := Scalar.muli v14 c4096_i32_9
  let c2048_i32 : BitVec 32 := 2048#32
  let v16 : BitVec 32 := Scalar.addi v15 c2048_i32
  let c0_i32_10 : BitVec 32 := 0#32
  let v17 : BitVec 32 := Scalar.addi v16 c0_i32_10
  let c0_i32_1184 : BitVec 32 := 0#32
  ![v17.toNat, 0]

def k0_chk5 (v14 : BitVec 32) : Prop :=
  (∀ a, (k0_off3 v14) a + S1024x1024.size a ≤ S65536x1024.size a) ∧
  (∀ a, (k0_off8 v14) a + S1024x1024.size a ≤ S65536x1024.size a) ∧
  (∀ a, (k0_off122 v14) a + S1024x1024.size a ≤ S65536x1024.size a)
theorem k0_off3_inb : ∀ (v14 : BitVec 32) (k0_hw5 : k0_chk5 v14), ∀ a, (k0_off3 v14) a + S1024x1024.size a ≤ S65536x1024.size a := fun v14 k0_hw5 => k0_hw5.1
theorem k0_off8_inb : ∀ (v14 : BitVec 32) (k0_hw5 : k0_chk5 v14), ∀ a, (k0_off8 v14) a + S1024x1024.size a ≤ S65536x1024.size a := fun v14 k0_hw5 => k0_hw5.2.1
theorem k0_off122_inb : ∀ (v14 : BitVec 32) (k0_hw5 : k0_chk5 v14), ∀ a, (k0_off122 v14) a + S1024x1024.size a ≤ S65536x1024.size a := fun v14 k0_hw5 => k0_hw5.2.2

def k0_off123 (v18 : BitVec 32) : Fin 2 → Nat :=
  let c4096_i32_12 : BitVec 32 := 4096#32
  let v19 : BitVec 32 := Scalar.muli v18 c4096_i32_12
  let c0_i32_13 : BitVec 32 := 0#32
  let v20 : BitVec 32 := Scalar.addi v19 c0_i32_13
  let c1024_i32 : BitVec 32 := 1024#32
  let v21 : BitVec 32 := Scalar.addi v20 c1024_i32
  let c0_i32_1192 : BitVec 32 := 0#32
  ![v21.toNat, 0]

def k0_chk6 (v18 : BitVec 32) : Prop :=
  (∀ a, (k0_off4 v18) a + S1024x1024.size a ≤ S65536x1024.size a) ∧
  (∀ a, (k0_off10 v18) a + S1024x1024.size a ≤ S65536x1024.size a) ∧
  (∀ a, (k0_off123 v18) a + S1024x1024.size a ≤ S65536x1024.size a)
theorem k0_off4_inb : ∀ (v18 : BitVec 32) (k0_hw6 : k0_chk6 v18), ∀ a, (k0_off4 v18) a + S1024x1024.size a ≤ S65536x1024.size a := fun v18 k0_hw6 => k0_hw6.1
theorem k0_off10_inb : ∀ (v18 : BitVec 32) (k0_hw6 : k0_chk6 v18), ∀ a, (k0_off10 v18) a + S1024x1024.size a ≤ S65536x1024.size a := fun v18 k0_hw6 => k0_hw6.2.1
theorem k0_off123_inb : ∀ (v18 : BitVec 32) (k0_hw6 : k0_chk6 v18), ∀ a, (k0_off123 v18) a + S1024x1024.size a ≤ S65536x1024.size a := fun v18 k0_hw6 => k0_hw6.2.2

def k0_off124 (v22 : BitVec 32) : Fin 2 → Nat :=
  let c4096_i32_15 : BitVec 32 := 4096#32
  let v23 : BitVec 32 := Scalar.muli v22 c4096_i32_15
  let c2048_i32_16 : BitVec 32 := 2048#32
  let v24 : BitVec 32 := Scalar.addi v23 c2048_i32_16
  let c1024_i32_17 : BitVec 32 := 1024#32
  let v25 : BitVec 32 := Scalar.addi v24 c1024_i32_17
  let c0_i32_1200 : BitVec 32 := 0#32
  ![v25.toNat, 0]

def k0_chk7 (v22 : BitVec 32) : Prop :=
  (∀ a, (k0_off5 v22) a + S1024x1024.size a ≤ S65536x1024.size a) ∧
  (∀ a, (k0_off12 v22) a + S1024x1024.size a ≤ S65536x1024.size a) ∧
  (∀ a, (k0_off124 v22) a + S1024x1024.size a ≤ S65536x1024.size a)
theorem k0_off5_inb : ∀ (v22 : BitVec 32) (k0_hw7 : k0_chk7 v22), ∀ a, (k0_off5 v22) a + S1024x1024.size a ≤ S65536x1024.size a := fun v22 k0_hw7 => k0_hw7.1
theorem k0_off12_inb : ∀ (v22 : BitVec 32) (k0_hw7 : k0_chk7 v22), ∀ a, (k0_off12 v22) a + S1024x1024.size a ≤ S65536x1024.size a := fun v22 k0_hw7 => k0_hw7.2.1
theorem k0_off124_inb : ∀ (v22 : BitVec 32) (k0_hw7 : k0_chk7 v22), ∀ a, (k0_off124 v22) a + S1024x1024.size a ≤ S65536x1024.size a := fun v22 k0_hw7 => k0_hw7.2.2

def k0_off125 (v26 : BitVec 32) : Fin 2 → Nat :=
  let c4096_i32_18 : BitVec 32 := 4096#32
  let v27 : BitVec 32 := Scalar.muli v26 c4096_i32_18
  let c0_i32_19 : BitVec 32 := 0#32
  let v28 : BitVec 32 := Scalar.addi v27 c0_i32_19
  let c0_i32_20 : BitVec 32 := 0#32
  let v29 : BitVec 32 := Scalar.addi v28 c0_i32_20
  let c0_i32_1206 : BitVec 32 := 0#32
  ![v29.toNat, 0]

def k0_chk8 (v26 : BitVec 32) : Prop :=
  (∀ a, (k0_off7 v26) a + S1024x1024.size a ≤ S65536x1024.size a) ∧
  (∀ a, (k0_off14 v26) a + S1024x1024.size a ≤ S65536x1024.size a) ∧
  (∀ a, (k0_off125 v26) a + S1024x1024.size a ≤ S65536x1024.size a)
theorem k0_off7_inb : ∀ (v26 : BitVec 32) (k0_hw8 : k0_chk8 v26), ∀ a, (k0_off7 v26) a + S1024x1024.size a ≤ S65536x1024.size a := fun v26 k0_hw8 => k0_hw8.1
theorem k0_off14_inb : ∀ (v26 : BitVec 32) (k0_hw8 : k0_chk8 v26), ∀ a, (k0_off14 v26) a + S1024x1024.size a ≤ S65536x1024.size a := fun v26 k0_hw8 => k0_hw8.2.1
theorem k0_off125_inb : ∀ (v26 : BitVec 32) (k0_hw8 : k0_chk8 v26), ∀ a, (k0_off125 v26) a + S1024x1024.size a ≤ S65536x1024.size a := fun v26 k0_hw8 => k0_hw8.2.2

def k0_off126 (v30 : BitVec 32) : Fin 2 → Nat :=
  let c4096_i32_21 : BitVec 32 := 4096#32
  let v31 : BitVec 32 := Scalar.muli v30 c4096_i32_21
  let c2048_i32_22 : BitVec 32 := 2048#32
  let v32 : BitVec 32 := Scalar.addi v31 c2048_i32_22
  let c0_i32_23 : BitVec 32 := 0#32
  let v33 : BitVec 32 := Scalar.addi v32 c0_i32_23
  let c0_i32_1213 : BitVec 32 := 0#32
  ![v33.toNat, 0]

def k0_chk9 (v30 : BitVec 32) : Prop :=
  (∀ a, (k0_off9 v30) a + S1024x1024.size a ≤ S65536x1024.size a) ∧
  (∀ a, (k0_off16 v30) a + S1024x1024.size a ≤ S65536x1024.size a) ∧
  (∀ a, (k0_off126 v30) a + S1024x1024.size a ≤ S65536x1024.size a)
theorem k0_off9_inb : ∀ (v30 : BitVec 32) (k0_hw9 : k0_chk9 v30), ∀ a, (k0_off9 v30) a + S1024x1024.size a ≤ S65536x1024.size a := fun v30 k0_hw9 => k0_hw9.1
theorem k0_off16_inb : ∀ (v30 : BitVec 32) (k0_hw9 : k0_chk9 v30), ∀ a, (k0_off16 v30) a + S1024x1024.size a ≤ S65536x1024.size a := fun v30 k0_hw9 => k0_hw9.2.1
theorem k0_off126_inb : ∀ (v30 : BitVec 32) (k0_hw9 : k0_chk9 v30), ∀ a, (k0_off126 v30) a + S1024x1024.size a ≤ S65536x1024.size a := fun v30 k0_hw9 => k0_hw9.2.2

def k0_off127 (v34 : BitVec 32) : Fin 2 → Nat :=
  let c4096_i32_25 : BitVec 32 := 4096#32
  let v35 : BitVec 32 := Scalar.muli v34 c4096_i32_25
  let c0_i32_26 : BitVec 32 := 0#32
  let v36 : BitVec 32 := Scalar.addi v35 c0_i32_26
  let c1024_i32_27 : BitVec 32 := 1024#32
  let v37 : BitVec 32 := Scalar.addi v36 c1024_i32_27
  let c0_i32_1220 : BitVec 32 := 0#32
  ![v37.toNat, 0]

def k0_chk10 (v34 : BitVec 32) : Prop :=
  (∀ a, (k0_off11 v34) a + S1024x1024.size a ≤ S65536x1024.size a) ∧
  (∀ a, (k0_off18 v34) a + S1024x1024.size a ≤ S65536x1024.size a) ∧
  (∀ a, (k0_off127 v34) a + S1024x1024.size a ≤ S65536x1024.size a)
theorem k0_off11_inb : ∀ (v34 : BitVec 32) (k0_hw10 : k0_chk10 v34), ∀ a, (k0_off11 v34) a + S1024x1024.size a ≤ S65536x1024.size a := fun v34 k0_hw10 => k0_hw10.1
theorem k0_off18_inb : ∀ (v34 : BitVec 32) (k0_hw10 : k0_chk10 v34), ∀ a, (k0_off18 v34) a + S1024x1024.size a ≤ S65536x1024.size a := fun v34 k0_hw10 => k0_hw10.2.1
theorem k0_off127_inb : ∀ (v34 : BitVec 32) (k0_hw10 : k0_chk10 v34), ∀ a, (k0_off127 v34) a + S1024x1024.size a ≤ S65536x1024.size a := fun v34 k0_hw10 => k0_hw10.2.2

def k0_off128 (v38 : BitVec 32) : Fin 2 → Nat :=
  let c4096_i32_29 : BitVec 32 := 4096#32
  let v39 : BitVec 32 := Scalar.muli v38 c4096_i32_29
  let c2048_i32_30 : BitVec 32 := 2048#32
  let v40 : BitVec 32 := Scalar.addi v39 c2048_i32_30
  let c1024_i32_31 : BitVec 32 := 1024#32
  let v41 : BitVec 32 := Scalar.addi v40 c1024_i32_31
  let c0_i32_1227 : BitVec 32 := 0#32
  ![v41.toNat, 0]

def k0_chk11 (v38 : BitVec 32) : Prop :=
  (∀ a, (k0_off13 v38) a + S1024x1024.size a ≤ S65536x1024.size a) ∧
  (∀ a, (k0_off20 v38) a + S1024x1024.size a ≤ S65536x1024.size a) ∧
  (∀ a, (k0_off128 v38) a + S1024x1024.size a ≤ S65536x1024.size a)
theorem k0_off13_inb : ∀ (v38 : BitVec 32) (k0_hw11 : k0_chk11 v38), ∀ a, (k0_off13 v38) a + S1024x1024.size a ≤ S65536x1024.size a := fun v38 k0_hw11 => k0_hw11.1
theorem k0_off20_inb : ∀ (v38 : BitVec 32) (k0_hw11 : k0_chk11 v38), ∀ a, (k0_off20 v38) a + S1024x1024.size a ≤ S65536x1024.size a := fun v38 k0_hw11 => k0_hw11.2.1
theorem k0_off128_inb : ∀ (v38 : BitVec 32) (k0_hw11 : k0_chk11 v38), ∀ a, (k0_off128 v38) a + S1024x1024.size a ≤ S65536x1024.size a := fun v38 k0_hw11 => k0_hw11.2.2

def k0_off129 (v42 : BitVec 32) : Fin 2 → Nat :=
  let c4096_i32_32 : BitVec 32 := 4096#32
  let v43 : BitVec 32 := Scalar.muli v42 c4096_i32_32
  let c0_i32_33 : BitVec 32 := 0#32
  let v44 : BitVec 32 := Scalar.addi v43 c0_i32_33
  let c0_i32_34 : BitVec 32 := 0#32
  let v45 : BitVec 32 := Scalar.addi v44 c0_i32_34
  let c0_i32_1234 : BitVec 32 := 0#32
  ![v45.toNat, 0]

def k0_chk12 (v42 : BitVec 32) : Prop :=
  (∀ a, (k0_off15 v42) a + S1024x1024.size a ≤ S65536x1024.size a) ∧
  (∀ a, (k0_off22 v42) a + S1024x1024.size a ≤ S65536x1024.size a) ∧
  (∀ a, (k0_off129 v42) a + S1024x1024.size a ≤ S65536x1024.size a)
theorem k0_off15_inb : ∀ (v42 : BitVec 32) (k0_hw12 : k0_chk12 v42), ∀ a, (k0_off15 v42) a + S1024x1024.size a ≤ S65536x1024.size a := fun v42 k0_hw12 => k0_hw12.1
theorem k0_off22_inb : ∀ (v42 : BitVec 32) (k0_hw12 : k0_chk12 v42), ∀ a, (k0_off22 v42) a + S1024x1024.size a ≤ S65536x1024.size a := fun v42 k0_hw12 => k0_hw12.2.1
theorem k0_off129_inb : ∀ (v42 : BitVec 32) (k0_hw12 : k0_chk12 v42), ∀ a, (k0_off129 v42) a + S1024x1024.size a ≤ S65536x1024.size a := fun v42 k0_hw12 => k0_hw12.2.2

def k0_off130 (v46 : BitVec 32) : Fin 2 → Nat :=
  let c4096_i32_35 : BitVec 32 := 4096#32
  let v47 : BitVec 32 := Scalar.muli v46 c4096_i32_35
  let c2048_i32_36 : BitVec 32 := 2048#32
  let v48 : BitVec 32 := Scalar.addi v47 c2048_i32_36
  let c0_i32_37 : BitVec 32 := 0#32
  let v49 : BitVec 32 := Scalar.addi v48 c0_i32_37
  let c0_i32_1241 : BitVec 32 := 0#32
  ![v49.toNat, 0]

def k0_chk13 (v46 : BitVec 32) : Prop :=
  (∀ a, (k0_off17 v46) a + S1024x1024.size a ≤ S65536x1024.size a) ∧
  (∀ a, (k0_off24 v46) a + S1024x1024.size a ≤ S65536x1024.size a) ∧
  (∀ a, (k0_off130 v46) a + S1024x1024.size a ≤ S65536x1024.size a)
theorem k0_off17_inb : ∀ (v46 : BitVec 32) (k0_hw13 : k0_chk13 v46), ∀ a, (k0_off17 v46) a + S1024x1024.size a ≤ S65536x1024.size a := fun v46 k0_hw13 => k0_hw13.1
theorem k0_off24_inb : ∀ (v46 : BitVec 32) (k0_hw13 : k0_chk13 v46), ∀ a, (k0_off24 v46) a + S1024x1024.size a ≤ S65536x1024.size a := fun v46 k0_hw13 => k0_hw13.2.1
theorem k0_off130_inb : ∀ (v46 : BitVec 32) (k0_hw13 : k0_chk13 v46), ∀ a, (k0_off130 v46) a + S1024x1024.size a ≤ S65536x1024.size a := fun v46 k0_hw13 => k0_hw13.2.2

def k0_off131 (v50 : BitVec 32) : Fin 2 → Nat :=
  let c4096_i32_39 : BitVec 32 := 4096#32
  let v51 : BitVec 32 := Scalar.muli v50 c4096_i32_39
  let c0_i32_40 : BitVec 32 := 0#32
  let v52 : BitVec 32 := Scalar.addi v51 c0_i32_40
  let c1024_i32_41 : BitVec 32 := 1024#32
  let v53 : BitVec 32 := Scalar.addi v52 c1024_i32_41
  let c0_i32_1248 : BitVec 32 := 0#32
  ![v53.toNat, 0]

def k0_chk14 (v50 : BitVec 32) : Prop :=
  (∀ a, (k0_off19 v50) a + S1024x1024.size a ≤ S65536x1024.size a) ∧
  (∀ a, (k0_off26 v50) a + S1024x1024.size a ≤ S65536x1024.size a) ∧
  (∀ a, (k0_off131 v50) a + S1024x1024.size a ≤ S65536x1024.size a)
theorem k0_off19_inb : ∀ (v50 : BitVec 32) (k0_hw14 : k0_chk14 v50), ∀ a, (k0_off19 v50) a + S1024x1024.size a ≤ S65536x1024.size a := fun v50 k0_hw14 => k0_hw14.1
theorem k0_off26_inb : ∀ (v50 : BitVec 32) (k0_hw14 : k0_chk14 v50), ∀ a, (k0_off26 v50) a + S1024x1024.size a ≤ S65536x1024.size a := fun v50 k0_hw14 => k0_hw14.2.1
theorem k0_off131_inb : ∀ (v50 : BitVec 32) (k0_hw14 : k0_chk14 v50), ∀ a, (k0_off131 v50) a + S1024x1024.size a ≤ S65536x1024.size a := fun v50 k0_hw14 => k0_hw14.2.2

def k0_off132 (v54 : BitVec 32) : Fin 2 → Nat :=
  let c4096_i32_43 : BitVec 32 := 4096#32
  let v55 : BitVec 32 := Scalar.muli v54 c4096_i32_43
  let c2048_i32_44 : BitVec 32 := 2048#32
  let v56 : BitVec 32 := Scalar.addi v55 c2048_i32_44
  let c1024_i32_45 : BitVec 32 := 1024#32
  let v57 : BitVec 32 := Scalar.addi v56 c1024_i32_45
  let c0_i32_1255 : BitVec 32 := 0#32
  ![v57.toNat, 0]

def k0_chk15 (v54 : BitVec 32) : Prop :=
  (∀ a, (k0_off21 v54) a + S1024x1024.size a ≤ S65536x1024.size a) ∧
  (∀ a, (k0_off28 v54) a + S1024x1024.size a ≤ S65536x1024.size a) ∧
  (∀ a, (k0_off132 v54) a + S1024x1024.size a ≤ S65536x1024.size a)
theorem k0_off21_inb : ∀ (v54 : BitVec 32) (k0_hw15 : k0_chk15 v54), ∀ a, (k0_off21 v54) a + S1024x1024.size a ≤ S65536x1024.size a := fun v54 k0_hw15 => k0_hw15.1
theorem k0_off28_inb : ∀ (v54 : BitVec 32) (k0_hw15 : k0_chk15 v54), ∀ a, (k0_off28 v54) a + S1024x1024.size a ≤ S65536x1024.size a := fun v54 k0_hw15 => k0_hw15.2.1
theorem k0_off132_inb : ∀ (v54 : BitVec 32) (k0_hw15 : k0_chk15 v54), ∀ a, (k0_off132 v54) a + S1024x1024.size a ≤ S65536x1024.size a := fun v54 k0_hw15 => k0_hw15.2.2

def k0_off133 (v58 : BitVec 32) : Fin 2 → Nat :=
  let c4096_i32_46 : BitVec 32 := 4096#32
  let v59 : BitVec 32 := Scalar.muli v58 c4096_i32_46
  let c0_i32_47 : BitVec 32 := 0#32
  let v60 : BitVec 32 := Scalar.addi v59 c0_i32_47
  let c0_i32_48 : BitVec 32 := 0#32
  let v61 : BitVec 32 := Scalar.addi v60 c0_i32_48
  let c0_i32_1262 : BitVec 32 := 0#32
  ![v61.toNat, 0]

def k0_chk16 (v58 : BitVec 32) : Prop :=
  (∀ a, (k0_off23 v58) a + S1024x1024.size a ≤ S65536x1024.size a) ∧
  (∀ a, (k0_off30 v58) a + S1024x1024.size a ≤ S65536x1024.size a) ∧
  (∀ a, (k0_off133 v58) a + S1024x1024.size a ≤ S65536x1024.size a)
theorem k0_off23_inb : ∀ (v58 : BitVec 32) (k0_hw16 : k0_chk16 v58), ∀ a, (k0_off23 v58) a + S1024x1024.size a ≤ S65536x1024.size a := fun v58 k0_hw16 => k0_hw16.1
theorem k0_off30_inb : ∀ (v58 : BitVec 32) (k0_hw16 : k0_chk16 v58), ∀ a, (k0_off30 v58) a + S1024x1024.size a ≤ S65536x1024.size a := fun v58 k0_hw16 => k0_hw16.2.1
theorem k0_off133_inb : ∀ (v58 : BitVec 32) (k0_hw16 : k0_chk16 v58), ∀ a, (k0_off133 v58) a + S1024x1024.size a ≤ S65536x1024.size a := fun v58 k0_hw16 => k0_hw16.2.2

def k0_off134 (v62 : BitVec 32) : Fin 2 → Nat :=
  let c4096_i32_49 : BitVec 32 := 4096#32
  let v63 : BitVec 32 := Scalar.muli v62 c4096_i32_49
  let c2048_i32_50 : BitVec 32 := 2048#32
  let v64 : BitVec 32 := Scalar.addi v63 c2048_i32_50
  let c0_i32_51 : BitVec 32 := 0#32
  let v65 : BitVec 32 := Scalar.addi v64 c0_i32_51
  let c0_i32_1269 : BitVec 32 := 0#32
  ![v65.toNat, 0]

def k0_chk17 (v62 : BitVec 32) : Prop :=
  (∀ a, (k0_off25 v62) a + S1024x1024.size a ≤ S65536x1024.size a) ∧
  (∀ a, (k0_off32 v62) a + S1024x1024.size a ≤ S65536x1024.size a) ∧
  (∀ a, (k0_off134 v62) a + S1024x1024.size a ≤ S65536x1024.size a)
theorem k0_off25_inb : ∀ (v62 : BitVec 32) (k0_hw17 : k0_chk17 v62), ∀ a, (k0_off25 v62) a + S1024x1024.size a ≤ S65536x1024.size a := fun v62 k0_hw17 => k0_hw17.1
theorem k0_off32_inb : ∀ (v62 : BitVec 32) (k0_hw17 : k0_chk17 v62), ∀ a, (k0_off32 v62) a + S1024x1024.size a ≤ S65536x1024.size a := fun v62 k0_hw17 => k0_hw17.2.1
theorem k0_off134_inb : ∀ (v62 : BitVec 32) (k0_hw17 : k0_chk17 v62), ∀ a, (k0_off134 v62) a + S1024x1024.size a ≤ S65536x1024.size a := fun v62 k0_hw17 => k0_hw17.2.2

def k0_off135 (v66 : BitVec 32) : Fin 2 → Nat :=
  let c4096_i32_53 : BitVec 32 := 4096#32
  let v67 : BitVec 32 := Scalar.muli v66 c4096_i32_53
  let c0_i32_54 : BitVec 32 := 0#32
  let v68 : BitVec 32 := Scalar.addi v67 c0_i32_54
  let c1024_i32_55 : BitVec 32 := 1024#32
  let v69 : BitVec 32 := Scalar.addi v68 c1024_i32_55
  let c0_i32_1276 : BitVec 32 := 0#32
  ![v69.toNat, 0]

def k0_chk18 (v66 : BitVec 32) : Prop :=
  (∀ a, (k0_off27 v66) a + S1024x1024.size a ≤ S65536x1024.size a) ∧
  (∀ a, (k0_off34 v66) a + S1024x1024.size a ≤ S65536x1024.size a) ∧
  (∀ a, (k0_off135 v66) a + S1024x1024.size a ≤ S65536x1024.size a)
theorem k0_off27_inb : ∀ (v66 : BitVec 32) (k0_hw18 : k0_chk18 v66), ∀ a, (k0_off27 v66) a + S1024x1024.size a ≤ S65536x1024.size a := fun v66 k0_hw18 => k0_hw18.1
theorem k0_off34_inb : ∀ (v66 : BitVec 32) (k0_hw18 : k0_chk18 v66), ∀ a, (k0_off34 v66) a + S1024x1024.size a ≤ S65536x1024.size a := fun v66 k0_hw18 => k0_hw18.2.1
theorem k0_off135_inb : ∀ (v66 : BitVec 32) (k0_hw18 : k0_chk18 v66), ∀ a, (k0_off135 v66) a + S1024x1024.size a ≤ S65536x1024.size a := fun v66 k0_hw18 => k0_hw18.2.2

def k0_off136 (v70 : BitVec 32) : Fin 2 → Nat :=
  let c4096_i32_57 : BitVec 32 := 4096#32
  let v71 : BitVec 32 := Scalar.muli v70 c4096_i32_57
  let c2048_i32_58 : BitVec 32 := 2048#32
  let v72 : BitVec 32 := Scalar.addi v71 c2048_i32_58
  let c1024_i32_59 : BitVec 32 := 1024#32
  let v73 : BitVec 32 := Scalar.addi v72 c1024_i32_59
  let c0_i32_1283 : BitVec 32 := 0#32
  ![v73.toNat, 0]

def k0_chk19 (v70 : BitVec 32) : Prop :=
  (∀ a, (k0_off29 v70) a + S1024x1024.size a ≤ S65536x1024.size a) ∧
  (∀ a, (k0_off36 v70) a + S1024x1024.size a ≤ S65536x1024.size a) ∧
  (∀ a, (k0_off136 v70) a + S1024x1024.size a ≤ S65536x1024.size a)
theorem k0_off29_inb : ∀ (v70 : BitVec 32) (k0_hw19 : k0_chk19 v70), ∀ a, (k0_off29 v70) a + S1024x1024.size a ≤ S65536x1024.size a := fun v70 k0_hw19 => k0_hw19.1
theorem k0_off36_inb : ∀ (v70 : BitVec 32) (k0_hw19 : k0_chk19 v70), ∀ a, (k0_off36 v70) a + S1024x1024.size a ≤ S65536x1024.size a := fun v70 k0_hw19 => k0_hw19.2.1
theorem k0_off136_inb : ∀ (v70 : BitVec 32) (k0_hw19 : k0_chk19 v70), ∀ a, (k0_off136 v70) a + S1024x1024.size a ≤ S65536x1024.size a := fun v70 k0_hw19 => k0_hw19.2.2

def k0_off137 (v74 : BitVec 32) : Fin 2 → Nat :=
  let c4096_i32_60 : BitVec 32 := 4096#32
  let v75 : BitVec 32 := Scalar.muli v74 c4096_i32_60
  let c0_i32_61 : BitVec 32 := 0#32
  let v76 : BitVec 32 := Scalar.addi v75 c0_i32_61
  let c0_i32_62 : BitVec 32 := 0#32
  let v77 : BitVec 32 := Scalar.addi v76 c0_i32_62
  let c0_i32_1290 : BitVec 32 := 0#32
  ![v77.toNat, 0]

def k0_chk20 (v74 : BitVec 32) : Prop :=
  (∀ a, (k0_off31 v74) a + S1024x1024.size a ≤ S65536x1024.size a) ∧
  (∀ a, (k0_off38 v74) a + S1024x1024.size a ≤ S65536x1024.size a) ∧
  (∀ a, (k0_off137 v74) a + S1024x1024.size a ≤ S65536x1024.size a)
theorem k0_off31_inb : ∀ (v74 : BitVec 32) (k0_hw20 : k0_chk20 v74), ∀ a, (k0_off31 v74) a + S1024x1024.size a ≤ S65536x1024.size a := fun v74 k0_hw20 => k0_hw20.1
theorem k0_off38_inb : ∀ (v74 : BitVec 32) (k0_hw20 : k0_chk20 v74), ∀ a, (k0_off38 v74) a + S1024x1024.size a ≤ S65536x1024.size a := fun v74 k0_hw20 => k0_hw20.2.1
theorem k0_off137_inb : ∀ (v74 : BitVec 32) (k0_hw20 : k0_chk20 v74), ∀ a, (k0_off137 v74) a + S1024x1024.size a ≤ S65536x1024.size a := fun v74 k0_hw20 => k0_hw20.2.2

def k0_off138 (v78 : BitVec 32) : Fin 2 → Nat :=
  let c4096_i32_63 : BitVec 32 := 4096#32
  let v79 : BitVec 32 := Scalar.muli v78 c4096_i32_63
  let c2048_i32_64 : BitVec 32 := 2048#32
  let v80 : BitVec 32 := Scalar.addi v79 c2048_i32_64
  let c0_i32_65 : BitVec 32 := 0#32
  let v81 : BitVec 32 := Scalar.addi v80 c0_i32_65
  let c0_i32_1297 : BitVec 32 := 0#32
  ![v81.toNat, 0]

def k0_chk21 (v78 : BitVec 32) : Prop :=
  (∀ a, (k0_off33 v78) a + S1024x1024.size a ≤ S65536x1024.size a) ∧
  (∀ a, (k0_off40 v78) a + S1024x1024.size a ≤ S65536x1024.size a) ∧
  (∀ a, (k0_off138 v78) a + S1024x1024.size a ≤ S65536x1024.size a)
theorem k0_off33_inb : ∀ (v78 : BitVec 32) (k0_hw21 : k0_chk21 v78), ∀ a, (k0_off33 v78) a + S1024x1024.size a ≤ S65536x1024.size a := fun v78 k0_hw21 => k0_hw21.1
theorem k0_off40_inb : ∀ (v78 : BitVec 32) (k0_hw21 : k0_chk21 v78), ∀ a, (k0_off40 v78) a + S1024x1024.size a ≤ S65536x1024.size a := fun v78 k0_hw21 => k0_hw21.2.1
theorem k0_off138_inb : ∀ (v78 : BitVec 32) (k0_hw21 : k0_chk21 v78), ∀ a, (k0_off138 v78) a + S1024x1024.size a ≤ S65536x1024.size a := fun v78 k0_hw21 => k0_hw21.2.2

def k0_off139 (v82 : BitVec 32) : Fin 2 → Nat :=
  let c4096_i32_67 : BitVec 32 := 4096#32
  let v83 : BitVec 32 := Scalar.muli v82 c4096_i32_67
  let c0_i32_68 : BitVec 32 := 0#32
  let v84 : BitVec 32 := Scalar.addi v83 c0_i32_68
  let c1024_i32_69 : BitVec 32 := 1024#32
  let v85 : BitVec 32 := Scalar.addi v84 c1024_i32_69
  let c0_i32_1304 : BitVec 32 := 0#32
  ![v85.toNat, 0]

def k0_chk22 (v82 : BitVec 32) : Prop :=
  (∀ a, (k0_off35 v82) a + S1024x1024.size a ≤ S65536x1024.size a) ∧
  (∀ a, (k0_off42 v82) a + S1024x1024.size a ≤ S65536x1024.size a) ∧
  (∀ a, (k0_off139 v82) a + S1024x1024.size a ≤ S65536x1024.size a)
theorem k0_off35_inb : ∀ (v82 : BitVec 32) (k0_hw22 : k0_chk22 v82), ∀ a, (k0_off35 v82) a + S1024x1024.size a ≤ S65536x1024.size a := fun v82 k0_hw22 => k0_hw22.1
theorem k0_off42_inb : ∀ (v82 : BitVec 32) (k0_hw22 : k0_chk22 v82), ∀ a, (k0_off42 v82) a + S1024x1024.size a ≤ S65536x1024.size a := fun v82 k0_hw22 => k0_hw22.2.1
theorem k0_off139_inb : ∀ (v82 : BitVec 32) (k0_hw22 : k0_chk22 v82), ∀ a, (k0_off139 v82) a + S1024x1024.size a ≤ S65536x1024.size a := fun v82 k0_hw22 => k0_hw22.2.2

def k0_off140 (v86 : BitVec 32) : Fin 2 → Nat :=
  let c4096_i32_71 : BitVec 32 := 4096#32
  let v87 : BitVec 32 := Scalar.muli v86 c4096_i32_71
  let c2048_i32_72 : BitVec 32 := 2048#32
  let v88 : BitVec 32 := Scalar.addi v87 c2048_i32_72
  let c1024_i32_73 : BitVec 32 := 1024#32
  let v89 : BitVec 32 := Scalar.addi v88 c1024_i32_73
  let c0_i32_1311 : BitVec 32 := 0#32
  ![v89.toNat, 0]

def k0_chk23 (v86 : BitVec 32) : Prop :=
  (∀ a, (k0_off37 v86) a + S1024x1024.size a ≤ S65536x1024.size a) ∧
  (∀ a, (k0_off44 v86) a + S1024x1024.size a ≤ S65536x1024.size a) ∧
  (∀ a, (k0_off140 v86) a + S1024x1024.size a ≤ S65536x1024.size a)
theorem k0_off37_inb : ∀ (v86 : BitVec 32) (k0_hw23 : k0_chk23 v86), ∀ a, (k0_off37 v86) a + S1024x1024.size a ≤ S65536x1024.size a := fun v86 k0_hw23 => k0_hw23.1
theorem k0_off44_inb : ∀ (v86 : BitVec 32) (k0_hw23 : k0_chk23 v86), ∀ a, (k0_off44 v86) a + S1024x1024.size a ≤ S65536x1024.size a := fun v86 k0_hw23 => k0_hw23.2.1
theorem k0_off140_inb : ∀ (v86 : BitVec 32) (k0_hw23 : k0_chk23 v86), ∀ a, (k0_off140 v86) a + S1024x1024.size a ≤ S65536x1024.size a := fun v86 k0_hw23 => k0_hw23.2.2

def k0_off141 (v90 : BitVec 32) : Fin 2 → Nat :=
  let c4096_i32_74 : BitVec 32 := 4096#32
  let v91 : BitVec 32 := Scalar.muli v90 c4096_i32_74
  let c0_i32_75 : BitVec 32 := 0#32
  let v92 : BitVec 32 := Scalar.addi v91 c0_i32_75
  let c0_i32_76 : BitVec 32 := 0#32
  let v93 : BitVec 32 := Scalar.addi v92 c0_i32_76
  let c0_i32_1318 : BitVec 32 := 0#32
  ![v93.toNat, 0]

def k0_chk24 (v90 : BitVec 32) : Prop :=
  (∀ a, (k0_off39 v90) a + S1024x1024.size a ≤ S65536x1024.size a) ∧
  (∀ a, (k0_off46 v90) a + S1024x1024.size a ≤ S65536x1024.size a) ∧
  (∀ a, (k0_off141 v90) a + S1024x1024.size a ≤ S65536x1024.size a)
theorem k0_off39_inb : ∀ (v90 : BitVec 32) (k0_hw24 : k0_chk24 v90), ∀ a, (k0_off39 v90) a + S1024x1024.size a ≤ S65536x1024.size a := fun v90 k0_hw24 => k0_hw24.1
theorem k0_off46_inb : ∀ (v90 : BitVec 32) (k0_hw24 : k0_chk24 v90), ∀ a, (k0_off46 v90) a + S1024x1024.size a ≤ S65536x1024.size a := fun v90 k0_hw24 => k0_hw24.2.1
theorem k0_off141_inb : ∀ (v90 : BitVec 32) (k0_hw24 : k0_chk24 v90), ∀ a, (k0_off141 v90) a + S1024x1024.size a ≤ S65536x1024.size a := fun v90 k0_hw24 => k0_hw24.2.2

def k0_off142 (v94 : BitVec 32) : Fin 2 → Nat :=
  let c4096_i32_77 : BitVec 32 := 4096#32
  let v95 : BitVec 32 := Scalar.muli v94 c4096_i32_77
  let c2048_i32_78 : BitVec 32 := 2048#32
  let v96 : BitVec 32 := Scalar.addi v95 c2048_i32_78
  let c0_i32_79 : BitVec 32 := 0#32
  let v97 : BitVec 32 := Scalar.addi v96 c0_i32_79
  let c0_i32_1325 : BitVec 32 := 0#32
  ![v97.toNat, 0]

def k0_chk25 (v94 : BitVec 32) : Prop :=
  (∀ a, (k0_off41 v94) a + S1024x1024.size a ≤ S65536x1024.size a) ∧
  (∀ a, (k0_off48 v94) a + S1024x1024.size a ≤ S65536x1024.size a) ∧
  (∀ a, (k0_off142 v94) a + S1024x1024.size a ≤ S65536x1024.size a)
theorem k0_off41_inb : ∀ (v94 : BitVec 32) (k0_hw25 : k0_chk25 v94), ∀ a, (k0_off41 v94) a + S1024x1024.size a ≤ S65536x1024.size a := fun v94 k0_hw25 => k0_hw25.1
theorem k0_off48_inb : ∀ (v94 : BitVec 32) (k0_hw25 : k0_chk25 v94), ∀ a, (k0_off48 v94) a + S1024x1024.size a ≤ S65536x1024.size a := fun v94 k0_hw25 => k0_hw25.2.1
theorem k0_off142_inb : ∀ (v94 : BitVec 32) (k0_hw25 : k0_chk25 v94), ∀ a, (k0_off142 v94) a + S1024x1024.size a ≤ S65536x1024.size a := fun v94 k0_hw25 => k0_hw25.2.2

def k0_off143 (v98 : BitVec 32) : Fin 2 → Nat :=
  let c4096_i32_81 : BitVec 32 := 4096#32
  let v99 : BitVec 32 := Scalar.muli v98 c4096_i32_81
  let c0_i32_82 : BitVec 32 := 0#32
  let v100 : BitVec 32 := Scalar.addi v99 c0_i32_82
  let c1024_i32_83 : BitVec 32 := 1024#32
  let v101 : BitVec 32 := Scalar.addi v100 c1024_i32_83
  let c0_i32_1332 : BitVec 32 := 0#32
  ![v101.toNat, 0]

def k0_chk26 (v98 : BitVec 32) : Prop :=
  (∀ a, (k0_off43 v98) a + S1024x1024.size a ≤ S65536x1024.size a) ∧
  (∀ a, (k0_off50 v98) a + S1024x1024.size a ≤ S65536x1024.size a) ∧
  (∀ a, (k0_off143 v98) a + S1024x1024.size a ≤ S65536x1024.size a)
theorem k0_off43_inb : ∀ (v98 : BitVec 32) (k0_hw26 : k0_chk26 v98), ∀ a, (k0_off43 v98) a + S1024x1024.size a ≤ S65536x1024.size a := fun v98 k0_hw26 => k0_hw26.1
theorem k0_off50_inb : ∀ (v98 : BitVec 32) (k0_hw26 : k0_chk26 v98), ∀ a, (k0_off50 v98) a + S1024x1024.size a ≤ S65536x1024.size a := fun v98 k0_hw26 => k0_hw26.2.1
theorem k0_off143_inb : ∀ (v98 : BitVec 32) (k0_hw26 : k0_chk26 v98), ∀ a, (k0_off143 v98) a + S1024x1024.size a ≤ S65536x1024.size a := fun v98 k0_hw26 => k0_hw26.2.2

def k0_off144 (v102 : BitVec 32) : Fin 2 → Nat :=
  let c4096_i32_85 : BitVec 32 := 4096#32
  let v103 : BitVec 32 := Scalar.muli v102 c4096_i32_85
  let c2048_i32_86 : BitVec 32 := 2048#32
  let v104 : BitVec 32 := Scalar.addi v103 c2048_i32_86
  let c1024_i32_87 : BitVec 32 := 1024#32
  let v105 : BitVec 32 := Scalar.addi v104 c1024_i32_87
  let c0_i32_1339 : BitVec 32 := 0#32
  ![v105.toNat, 0]

def k0_chk27 (v102 : BitVec 32) : Prop :=
  (∀ a, (k0_off45 v102) a + S1024x1024.size a ≤ S65536x1024.size a) ∧
  (∀ a, (k0_off52 v102) a + S1024x1024.size a ≤ S65536x1024.size a) ∧
  (∀ a, (k0_off144 v102) a + S1024x1024.size a ≤ S65536x1024.size a)
theorem k0_off45_inb : ∀ (v102 : BitVec 32) (k0_hw27 : k0_chk27 v102), ∀ a, (k0_off45 v102) a + S1024x1024.size a ≤ S65536x1024.size a := fun v102 k0_hw27 => k0_hw27.1
theorem k0_off52_inb : ∀ (v102 : BitVec 32) (k0_hw27 : k0_chk27 v102), ∀ a, (k0_off52 v102) a + S1024x1024.size a ≤ S65536x1024.size a := fun v102 k0_hw27 => k0_hw27.2.1
theorem k0_off144_inb : ∀ (v102 : BitVec 32) (k0_hw27 : k0_chk27 v102), ∀ a, (k0_off144 v102) a + S1024x1024.size a ≤ S65536x1024.size a := fun v102 k0_hw27 => k0_hw27.2.2

def k0_off145 (v106 : BitVec 32) : Fin 2 → Nat :=
  let c4096_i32_88 : BitVec 32 := 4096#32
  let v107 : BitVec 32 := Scalar.muli v106 c4096_i32_88
  let c0_i32_89 : BitVec 32 := 0#32
  let v108 : BitVec 32 := Scalar.addi v107 c0_i32_89
  let c0_i32_90 : BitVec 32 := 0#32
  let v109 : BitVec 32 := Scalar.addi v108 c0_i32_90
  let c0_i32_1346 : BitVec 32 := 0#32
  ![v109.toNat, 0]

def k0_chk28 (v106 : BitVec 32) : Prop :=
  (∀ a, (k0_off47 v106) a + S1024x1024.size a ≤ S65536x1024.size a) ∧
  (∀ a, (k0_off54 v106) a + S1024x1024.size a ≤ S65536x1024.size a) ∧
  (∀ a, (k0_off145 v106) a + S1024x1024.size a ≤ S65536x1024.size a)
theorem k0_off47_inb : ∀ (v106 : BitVec 32) (k0_hw28 : k0_chk28 v106), ∀ a, (k0_off47 v106) a + S1024x1024.size a ≤ S65536x1024.size a := fun v106 k0_hw28 => k0_hw28.1
theorem k0_off54_inb : ∀ (v106 : BitVec 32) (k0_hw28 : k0_chk28 v106), ∀ a, (k0_off54 v106) a + S1024x1024.size a ≤ S65536x1024.size a := fun v106 k0_hw28 => k0_hw28.2.1
theorem k0_off145_inb : ∀ (v106 : BitVec 32) (k0_hw28 : k0_chk28 v106), ∀ a, (k0_off145 v106) a + S1024x1024.size a ≤ S65536x1024.size a := fun v106 k0_hw28 => k0_hw28.2.2

def k0_off146 (v110 : BitVec 32) : Fin 2 → Nat :=
  let c4096_i32_91 : BitVec 32 := 4096#32
  let v111 : BitVec 32 := Scalar.muli v110 c4096_i32_91
  let c2048_i32_92 : BitVec 32 := 2048#32
  let v112 : BitVec 32 := Scalar.addi v111 c2048_i32_92
  let c0_i32_93 : BitVec 32 := 0#32
  let v113 : BitVec 32 := Scalar.addi v112 c0_i32_93
  let c0_i32_1353 : BitVec 32 := 0#32
  ![v113.toNat, 0]

def k0_chk29 (v110 : BitVec 32) : Prop :=
  (∀ a, (k0_off49 v110) a + S1024x1024.size a ≤ S65536x1024.size a) ∧
  (∀ a, (k0_off56 v110) a + S1024x1024.size a ≤ S65536x1024.size a) ∧
  (∀ a, (k0_off146 v110) a + S1024x1024.size a ≤ S65536x1024.size a)
theorem k0_off49_inb : ∀ (v110 : BitVec 32) (k0_hw29 : k0_chk29 v110), ∀ a, (k0_off49 v110) a + S1024x1024.size a ≤ S65536x1024.size a := fun v110 k0_hw29 => k0_hw29.1
theorem k0_off56_inb : ∀ (v110 : BitVec 32) (k0_hw29 : k0_chk29 v110), ∀ a, (k0_off56 v110) a + S1024x1024.size a ≤ S65536x1024.size a := fun v110 k0_hw29 => k0_hw29.2.1
theorem k0_off146_inb : ∀ (v110 : BitVec 32) (k0_hw29 : k0_chk29 v110), ∀ a, (k0_off146 v110) a + S1024x1024.size a ≤ S65536x1024.size a := fun v110 k0_hw29 => k0_hw29.2.2

def k0_off147 (v114 : BitVec 32) : Fin 2 → Nat :=
  let c4096_i32_95 : BitVec 32 := 4096#32
  let v115 : BitVec 32 := Scalar.muli v114 c4096_i32_95
  let c0_i32_96 : BitVec 32 := 0#32
  let v116 : BitVec 32 := Scalar.addi v115 c0_i32_96
  let c1024_i32_97 : BitVec 32 := 1024#32
  let v117 : BitVec 32 := Scalar.addi v116 c1024_i32_97
  let c0_i32_1360 : BitVec 32 := 0#32
  ![v117.toNat, 0]

def k0_chk30 (v114 : BitVec 32) : Prop :=
  (∀ a, (k0_off51 v114) a + S1024x1024.size a ≤ S65536x1024.size a) ∧
  (∀ a, (k0_off58 v114) a + S1024x1024.size a ≤ S65536x1024.size a) ∧
  (∀ a, (k0_off147 v114) a + S1024x1024.size a ≤ S65536x1024.size a)
theorem k0_off51_inb : ∀ (v114 : BitVec 32) (k0_hw30 : k0_chk30 v114), ∀ a, (k0_off51 v114) a + S1024x1024.size a ≤ S65536x1024.size a := fun v114 k0_hw30 => k0_hw30.1
theorem k0_off58_inb : ∀ (v114 : BitVec 32) (k0_hw30 : k0_chk30 v114), ∀ a, (k0_off58 v114) a + S1024x1024.size a ≤ S65536x1024.size a := fun v114 k0_hw30 => k0_hw30.2.1
theorem k0_off147_inb : ∀ (v114 : BitVec 32) (k0_hw30 : k0_chk30 v114), ∀ a, (k0_off147 v114) a + S1024x1024.size a ≤ S65536x1024.size a := fun v114 k0_hw30 => k0_hw30.2.2

def k0_off148 (v118 : BitVec 32) : Fin 2 → Nat :=
  let c4096_i32_99 : BitVec 32 := 4096#32
  let v119 : BitVec 32 := Scalar.muli v118 c4096_i32_99
  let c2048_i32_100 : BitVec 32 := 2048#32
  let v120 : BitVec 32 := Scalar.addi v119 c2048_i32_100
  let c1024_i32_101 : BitVec 32 := 1024#32
  let v121 : BitVec 32 := Scalar.addi v120 c1024_i32_101
  let c0_i32_1367 : BitVec 32 := 0#32
  ![v121.toNat, 0]

def k0_chk31 (v118 : BitVec 32) : Prop :=
  (∀ a, (k0_off53 v118) a + S1024x1024.size a ≤ S65536x1024.size a) ∧
  (∀ a, (k0_off60 v118) a + S1024x1024.size a ≤ S65536x1024.size a) ∧
  (∀ a, (k0_off148 v118) a + S1024x1024.size a ≤ S65536x1024.size a)
theorem k0_off53_inb : ∀ (v118 : BitVec 32) (k0_hw31 : k0_chk31 v118), ∀ a, (k0_off53 v118) a + S1024x1024.size a ≤ S65536x1024.size a := fun v118 k0_hw31 => k0_hw31.1
theorem k0_off60_inb : ∀ (v118 : BitVec 32) (k0_hw31 : k0_chk31 v118), ∀ a, (k0_off60 v118) a + S1024x1024.size a ≤ S65536x1024.size a := fun v118 k0_hw31 => k0_hw31.2.1
theorem k0_off148_inb : ∀ (v118 : BitVec 32) (k0_hw31 : k0_chk31 v118), ∀ a, (k0_off148 v118) a + S1024x1024.size a ≤ S65536x1024.size a := fun v118 k0_hw31 => k0_hw31.2.2

def k0_off149 (v122 : BitVec 32) : Fin 2 → Nat :=
  let c4096_i32_102 : BitVec 32 := 4096#32
  let v123 : BitVec 32 := Scalar.muli v122 c4096_i32_102
  let c0_i32_103 : BitVec 32 := 0#32
  let v124 : BitVec 32 := Scalar.addi v123 c0_i32_103
  let c0_i32_104 : BitVec 32 := 0#32
  let v125 : BitVec 32 := Scalar.addi v124 c0_i32_104
  let c0_i32_1374 : BitVec 32 := 0#32
  ![v125.toNat, 0]

def k0_chk32 (v122 : BitVec 32) : Prop :=
  (∀ a, (k0_off55 v122) a + S1024x1024.size a ≤ S65536x1024.size a) ∧
  (∀ a, (k0_off62 v122) a + S1024x1024.size a ≤ S65536x1024.size a) ∧
  (∀ a, (k0_off149 v122) a + S1024x1024.size a ≤ S65536x1024.size a)
theorem k0_off55_inb : ∀ (v122 : BitVec 32) (k0_hw32 : k0_chk32 v122), ∀ a, (k0_off55 v122) a + S1024x1024.size a ≤ S65536x1024.size a := fun v122 k0_hw32 => k0_hw32.1
theorem k0_off62_inb : ∀ (v122 : BitVec 32) (k0_hw32 : k0_chk32 v122), ∀ a, (k0_off62 v122) a + S1024x1024.size a ≤ S65536x1024.size a := fun v122 k0_hw32 => k0_hw32.2.1
theorem k0_off149_inb : ∀ (v122 : BitVec 32) (k0_hw32 : k0_chk32 v122), ∀ a, (k0_off149 v122) a + S1024x1024.size a ≤ S65536x1024.size a := fun v122 k0_hw32 => k0_hw32.2.2

def k0_off150 (v126 : BitVec 32) : Fin 2 → Nat :=
  let c4096_i32_105 : BitVec 32 := 4096#32
  let v127 : BitVec 32 := Scalar.muli v126 c4096_i32_105
  let c2048_i32_106 : BitVec 32 := 2048#32
  let v128 : BitVec 32 := Scalar.addi v127 c2048_i32_106
  let c0_i32_107 : BitVec 32 := 0#32
  let v129 : BitVec 32 := Scalar.addi v128 c0_i32_107
  let c0_i32_1381 : BitVec 32 := 0#32
  ![v129.toNat, 0]

def k0_chk33 (v126 : BitVec 32) : Prop :=
  (∀ a, (k0_off57 v126) a + S1024x1024.size a ≤ S65536x1024.size a) ∧
  (∀ a, (k0_off64 v126) a + S1024x1024.size a ≤ S65536x1024.size a) ∧
  (∀ a, (k0_off150 v126) a + S1024x1024.size a ≤ S65536x1024.size a)
theorem k0_off57_inb : ∀ (v126 : BitVec 32) (k0_hw33 : k0_chk33 v126), ∀ a, (k0_off57 v126) a + S1024x1024.size a ≤ S65536x1024.size a := fun v126 k0_hw33 => k0_hw33.1
theorem k0_off64_inb : ∀ (v126 : BitVec 32) (k0_hw33 : k0_chk33 v126), ∀ a, (k0_off64 v126) a + S1024x1024.size a ≤ S65536x1024.size a := fun v126 k0_hw33 => k0_hw33.2.1
theorem k0_off150_inb : ∀ (v126 : BitVec 32) (k0_hw33 : k0_chk33 v126), ∀ a, (k0_off150 v126) a + S1024x1024.size a ≤ S65536x1024.size a := fun v126 k0_hw33 => k0_hw33.2.2

def k0_off151 (v130 : BitVec 32) : Fin 2 → Nat :=
  let c4096_i32_109 : BitVec 32 := 4096#32
  let v131 : BitVec 32 := Scalar.muli v130 c4096_i32_109
  let c0_i32_110 : BitVec 32 := 0#32
  let v132 : BitVec 32 := Scalar.addi v131 c0_i32_110
  let c1024_i32_111 : BitVec 32 := 1024#32
  let v133 : BitVec 32 := Scalar.addi v132 c1024_i32_111
  let c0_i32_1388 : BitVec 32 := 0#32
  ![v133.toNat, 0]

def k0_chk34 (v130 : BitVec 32) : Prop :=
  (∀ a, (k0_off59 v130) a + S1024x1024.size a ≤ S65536x1024.size a) ∧
  (∀ a, (k0_off66 v130) a + S1024x1024.size a ≤ S65536x1024.size a) ∧
  (∀ a, (k0_off151 v130) a + S1024x1024.size a ≤ S65536x1024.size a)
theorem k0_off59_inb : ∀ (v130 : BitVec 32) (k0_hw34 : k0_chk34 v130), ∀ a, (k0_off59 v130) a + S1024x1024.size a ≤ S65536x1024.size a := fun v130 k0_hw34 => k0_hw34.1
theorem k0_off66_inb : ∀ (v130 : BitVec 32) (k0_hw34 : k0_chk34 v130), ∀ a, (k0_off66 v130) a + S1024x1024.size a ≤ S65536x1024.size a := fun v130 k0_hw34 => k0_hw34.2.1
theorem k0_off151_inb : ∀ (v130 : BitVec 32) (k0_hw34 : k0_chk34 v130), ∀ a, (k0_off151 v130) a + S1024x1024.size a ≤ S65536x1024.size a := fun v130 k0_hw34 => k0_hw34.2.2

def k0_off152 (v134 : BitVec 32) : Fin 2 → Nat :=
  let c4096_i32_113 : BitVec 32 := 4096#32
  let v135 : BitVec 32 := Scalar.muli v134 c4096_i32_113
  let c2048_i32_114 : BitVec 32 := 2048#32
  let v136 : BitVec 32 := Scalar.addi v135 c2048_i32_114
  let c1024_i32_115 : BitVec 32 := 1024#32
  let v137 : BitVec 32 := Scalar.addi v136 c1024_i32_115
  let c0_i32_1395 : BitVec 32 := 0#32
  ![v137.toNat, 0]

def k0_chk35 (v134 : BitVec 32) : Prop :=
  (∀ a, (k0_off61 v134) a + S1024x1024.size a ≤ S65536x1024.size a) ∧
  (∀ a, (k0_off68 v134) a + S1024x1024.size a ≤ S65536x1024.size a) ∧
  (∀ a, (k0_off152 v134) a + S1024x1024.size a ≤ S65536x1024.size a)
theorem k0_off61_inb : ∀ (v134 : BitVec 32) (k0_hw35 : k0_chk35 v134), ∀ a, (k0_off61 v134) a + S1024x1024.size a ≤ S65536x1024.size a := fun v134 k0_hw35 => k0_hw35.1
theorem k0_off68_inb : ∀ (v134 : BitVec 32) (k0_hw35 : k0_chk35 v134), ∀ a, (k0_off68 v134) a + S1024x1024.size a ≤ S65536x1024.size a := fun v134 k0_hw35 => k0_hw35.2.1
theorem k0_off152_inb : ∀ (v134 : BitVec 32) (k0_hw35 : k0_chk35 v134), ∀ a, (k0_off152 v134) a + S1024x1024.size a ≤ S65536x1024.size a := fun v134 k0_hw35 => k0_hw35.2.2

def k0_off153 (v138 : BitVec 32) : Fin 2 → Nat :=
  let c4096_i32_116 : BitVec 32 := 4096#32
  let v139 : BitVec 32 := Scalar.muli v138 c4096_i32_116
  let c0_i32_117 : BitVec 32 := 0#32
  let v140 : BitVec 32 := Scalar.addi v139 c0_i32_117
  let c0_i32_118 : BitVec 32 := 0#32
  let v141 : BitVec 32 := Scalar.addi v140 c0_i32_118
  let c0_i32_1402 : BitVec 32 := 0#32
  ![v141.toNat, 0]

def k0_chk36 (v138 : BitVec 32) : Prop :=
  (∀ a, (k0_off63 v138) a + S1024x1024.size a ≤ S65536x1024.size a) ∧
  (∀ a, (k0_off70 v138) a + S1024x1024.size a ≤ S65536x1024.size a) ∧
  (∀ a, (k0_off153 v138) a + S1024x1024.size a ≤ S65536x1024.size a)
theorem k0_off63_inb : ∀ (v138 : BitVec 32) (k0_hw36 : k0_chk36 v138), ∀ a, (k0_off63 v138) a + S1024x1024.size a ≤ S65536x1024.size a := fun v138 k0_hw36 => k0_hw36.1
theorem k0_off70_inb : ∀ (v138 : BitVec 32) (k0_hw36 : k0_chk36 v138), ∀ a, (k0_off70 v138) a + S1024x1024.size a ≤ S65536x1024.size a := fun v138 k0_hw36 => k0_hw36.2.1
theorem k0_off153_inb : ∀ (v138 : BitVec 32) (k0_hw36 : k0_chk36 v138), ∀ a, (k0_off153 v138) a + S1024x1024.size a ≤ S65536x1024.size a := fun v138 k0_hw36 => k0_hw36.2.2

def k0_off154 (v142 : BitVec 32) : Fin 2 → Nat :=
  let c4096_i32_119 : BitVec 32 := 4096#32
  let v143 : BitVec 32 := Scalar.muli v142 c4096_i32_119
  let c2048_i32_120 : BitVec 32 := 2048#32
  let v144 : BitVec 32 := Scalar.addi v143 c2048_i32_120
  let c0_i32_121 : BitVec 32 := 0#32
  let v145 : BitVec 32 := Scalar.addi v144 c0_i32_121
  let c0_i32_1409 : BitVec 32 := 0#32
  ![v145.toNat, 0]

def k0_chk37 (v142 : BitVec 32) : Prop :=
  (∀ a, (k0_off65 v142) a + S1024x1024.size a ≤ S65536x1024.size a) ∧
  (∀ a, (k0_off72 v142) a + S1024x1024.size a ≤ S65536x1024.size a) ∧
  (∀ a, (k0_off154 v142) a + S1024x1024.size a ≤ S65536x1024.size a)
theorem k0_off65_inb : ∀ (v142 : BitVec 32) (k0_hw37 : k0_chk37 v142), ∀ a, (k0_off65 v142) a + S1024x1024.size a ≤ S65536x1024.size a := fun v142 k0_hw37 => k0_hw37.1
theorem k0_off72_inb : ∀ (v142 : BitVec 32) (k0_hw37 : k0_chk37 v142), ∀ a, (k0_off72 v142) a + S1024x1024.size a ≤ S65536x1024.size a := fun v142 k0_hw37 => k0_hw37.2.1
theorem k0_off154_inb : ∀ (v142 : BitVec 32) (k0_hw37 : k0_chk37 v142), ∀ a, (k0_off154 v142) a + S1024x1024.size a ≤ S65536x1024.size a := fun v142 k0_hw37 => k0_hw37.2.2

def k0_off155 (v146 : BitVec 32) : Fin 2 → Nat :=
  let c4096_i32_123 : BitVec 32 := 4096#32
  let v147 : BitVec 32 := Scalar.muli v146 c4096_i32_123
  let c0_i32_124 : BitVec 32 := 0#32
  let v148 : BitVec 32 := Scalar.addi v147 c0_i32_124
  let c1024_i32_125 : BitVec 32 := 1024#32
  let v149 : BitVec 32 := Scalar.addi v148 c1024_i32_125
  let c0_i32_1416 : BitVec 32 := 0#32
  ![v149.toNat, 0]

def k0_chk38 (v146 : BitVec 32) : Prop :=
  (∀ a, (k0_off67 v146) a + S1024x1024.size a ≤ S65536x1024.size a) ∧
  (∀ a, (k0_off74 v146) a + S1024x1024.size a ≤ S65536x1024.size a) ∧
  (∀ a, (k0_off155 v146) a + S1024x1024.size a ≤ S65536x1024.size a)
theorem k0_off67_inb : ∀ (v146 : BitVec 32) (k0_hw38 : k0_chk38 v146), ∀ a, (k0_off67 v146) a + S1024x1024.size a ≤ S65536x1024.size a := fun v146 k0_hw38 => k0_hw38.1
theorem k0_off74_inb : ∀ (v146 : BitVec 32) (k0_hw38 : k0_chk38 v146), ∀ a, (k0_off74 v146) a + S1024x1024.size a ≤ S65536x1024.size a := fun v146 k0_hw38 => k0_hw38.2.1
theorem k0_off155_inb : ∀ (v146 : BitVec 32) (k0_hw38 : k0_chk38 v146), ∀ a, (k0_off155 v146) a + S1024x1024.size a ≤ S65536x1024.size a := fun v146 k0_hw38 => k0_hw38.2.2

def k0_off156 (v150 : BitVec 32) : Fin 2 → Nat :=
  let c4096_i32_127 : BitVec 32 := 4096#32
  let v151 : BitVec 32 := Scalar.muli v150 c4096_i32_127
  let c2048_i32_128 : BitVec 32 := 2048#32
  let v152 : BitVec 32 := Scalar.addi v151 c2048_i32_128
  let c1024_i32_129 : BitVec 32 := 1024#32
  let v153 : BitVec 32 := Scalar.addi v152 c1024_i32_129
  let c0_i32_1423 : BitVec 32 := 0#32
  ![v153.toNat, 0]

def k0_chk39 (v150 : BitVec 32) : Prop :=
  (∀ a, (k0_off69 v150) a + S1024x1024.size a ≤ S65536x1024.size a) ∧
  (∀ a, (k0_off76 v150) a + S1024x1024.size a ≤ S65536x1024.size a) ∧
  (∀ a, (k0_off156 v150) a + S1024x1024.size a ≤ S65536x1024.size a)
theorem k0_off69_inb : ∀ (v150 : BitVec 32) (k0_hw39 : k0_chk39 v150), ∀ a, (k0_off69 v150) a + S1024x1024.size a ≤ S65536x1024.size a := fun v150 k0_hw39 => k0_hw39.1
theorem k0_off76_inb : ∀ (v150 : BitVec 32) (k0_hw39 : k0_chk39 v150), ∀ a, (k0_off76 v150) a + S1024x1024.size a ≤ S65536x1024.size a := fun v150 k0_hw39 => k0_hw39.2.1
theorem k0_off156_inb : ∀ (v150 : BitVec 32) (k0_hw39 : k0_chk39 v150), ∀ a, (k0_off156 v150) a + S1024x1024.size a ≤ S65536x1024.size a := fun v150 k0_hw39 => k0_hw39.2.2

def k0_off157 (v154 : BitVec 32) : Fin 2 → Nat :=
  let c4096_i32_130 : BitVec 32 := 4096#32
  let v155 : BitVec 32 := Scalar.muli v154 c4096_i32_130
  let c0_i32_131 : BitVec 32 := 0#32
  let v156 : BitVec 32 := Scalar.addi v155 c0_i32_131
  let c0_i32_132 : BitVec 32 := 0#32
  let v157 : BitVec 32 := Scalar.addi v156 c0_i32_132
  let c0_i32_1430 : BitVec 32 := 0#32
  ![v157.toNat, 0]

def k0_chk40 (v154 : BitVec 32) : Prop :=
  (∀ a, (k0_off71 v154) a + S1024x1024.size a ≤ S65536x1024.size a) ∧
  (∀ a, (k0_off78 v154) a + S1024x1024.size a ≤ S65536x1024.size a) ∧
  (∀ a, (k0_off157 v154) a + S1024x1024.size a ≤ S65536x1024.size a)
theorem k0_off71_inb : ∀ (v154 : BitVec 32) (k0_hw40 : k0_chk40 v154), ∀ a, (k0_off71 v154) a + S1024x1024.size a ≤ S65536x1024.size a := fun v154 k0_hw40 => k0_hw40.1
theorem k0_off78_inb : ∀ (v154 : BitVec 32) (k0_hw40 : k0_chk40 v154), ∀ a, (k0_off78 v154) a + S1024x1024.size a ≤ S65536x1024.size a := fun v154 k0_hw40 => k0_hw40.2.1
theorem k0_off157_inb : ∀ (v154 : BitVec 32) (k0_hw40 : k0_chk40 v154), ∀ a, (k0_off157 v154) a + S1024x1024.size a ≤ S65536x1024.size a := fun v154 k0_hw40 => k0_hw40.2.2

def k0_off158 (v158 : BitVec 32) : Fin 2 → Nat :=
  let c4096_i32_133 : BitVec 32 := 4096#32
  let v159 : BitVec 32 := Scalar.muli v158 c4096_i32_133
  let c2048_i32_134 : BitVec 32 := 2048#32
  let v160 : BitVec 32 := Scalar.addi v159 c2048_i32_134
  let c0_i32_135 : BitVec 32 := 0#32
  let v161 : BitVec 32 := Scalar.addi v160 c0_i32_135
  let c0_i32_1437 : BitVec 32 := 0#32
  ![v161.toNat, 0]

def k0_chk41 (v158 : BitVec 32) : Prop :=
  (∀ a, (k0_off73 v158) a + S1024x1024.size a ≤ S65536x1024.size a) ∧
  (∀ a, (k0_off80 v158) a + S1024x1024.size a ≤ S65536x1024.size a) ∧
  (∀ a, (k0_off158 v158) a + S1024x1024.size a ≤ S65536x1024.size a)
theorem k0_off73_inb : ∀ (v158 : BitVec 32) (k0_hw41 : k0_chk41 v158), ∀ a, (k0_off73 v158) a + S1024x1024.size a ≤ S65536x1024.size a := fun v158 k0_hw41 => k0_hw41.1
theorem k0_off80_inb : ∀ (v158 : BitVec 32) (k0_hw41 : k0_chk41 v158), ∀ a, (k0_off80 v158) a + S1024x1024.size a ≤ S65536x1024.size a := fun v158 k0_hw41 => k0_hw41.2.1
theorem k0_off158_inb : ∀ (v158 : BitVec 32) (k0_hw41 : k0_chk41 v158), ∀ a, (k0_off158 v158) a + S1024x1024.size a ≤ S65536x1024.size a := fun v158 k0_hw41 => k0_hw41.2.2

def k0_off159 (v162 : BitVec 32) : Fin 2 → Nat :=
  let c4096_i32_137 : BitVec 32 := 4096#32
  let v163 : BitVec 32 := Scalar.muli v162 c4096_i32_137
  let c0_i32_138 : BitVec 32 := 0#32
  let v164 : BitVec 32 := Scalar.addi v163 c0_i32_138
  let c1024_i32_139 : BitVec 32 := 1024#32
  let v165 : BitVec 32 := Scalar.addi v164 c1024_i32_139
  let c0_i32_1444 : BitVec 32 := 0#32
  ![v165.toNat, 0]

def k0_chk42 (v162 : BitVec 32) : Prop :=
  (∀ a, (k0_off75 v162) a + S1024x1024.size a ≤ S65536x1024.size a) ∧
  (∀ a, (k0_off82 v162) a + S1024x1024.size a ≤ S65536x1024.size a) ∧
  (∀ a, (k0_off159 v162) a + S1024x1024.size a ≤ S65536x1024.size a)
theorem k0_off75_inb : ∀ (v162 : BitVec 32) (k0_hw42 : k0_chk42 v162), ∀ a, (k0_off75 v162) a + S1024x1024.size a ≤ S65536x1024.size a := fun v162 k0_hw42 => k0_hw42.1
theorem k0_off82_inb : ∀ (v162 : BitVec 32) (k0_hw42 : k0_chk42 v162), ∀ a, (k0_off82 v162) a + S1024x1024.size a ≤ S65536x1024.size a := fun v162 k0_hw42 => k0_hw42.2.1
theorem k0_off159_inb : ∀ (v162 : BitVec 32) (k0_hw42 : k0_chk42 v162), ∀ a, (k0_off159 v162) a + S1024x1024.size a ≤ S65536x1024.size a := fun v162 k0_hw42 => k0_hw42.2.2

def k0_off160 (v166 : BitVec 32) : Fin 2 → Nat :=
  let c4096_i32_141 : BitVec 32 := 4096#32
  let v167 : BitVec 32 := Scalar.muli v166 c4096_i32_141
  let c2048_i32_142 : BitVec 32 := 2048#32
  let v168 : BitVec 32 := Scalar.addi v167 c2048_i32_142
  let c1024_i32_143 : BitVec 32 := 1024#32
  let v169 : BitVec 32 := Scalar.addi v168 c1024_i32_143
  let c0_i32_1451 : BitVec 32 := 0#32
  ![v169.toNat, 0]

def k0_chk43 (v166 : BitVec 32) : Prop :=
  (∀ a, (k0_off77 v166) a + S1024x1024.size a ≤ S65536x1024.size a) ∧
  (∀ a, (k0_off84 v166) a + S1024x1024.size a ≤ S65536x1024.size a) ∧
  (∀ a, (k0_off160 v166) a + S1024x1024.size a ≤ S65536x1024.size a)
theorem k0_off77_inb : ∀ (v166 : BitVec 32) (k0_hw43 : k0_chk43 v166), ∀ a, (k0_off77 v166) a + S1024x1024.size a ≤ S65536x1024.size a := fun v166 k0_hw43 => k0_hw43.1
theorem k0_off84_inb : ∀ (v166 : BitVec 32) (k0_hw43 : k0_chk43 v166), ∀ a, (k0_off84 v166) a + S1024x1024.size a ≤ S65536x1024.size a := fun v166 k0_hw43 => k0_hw43.2.1
theorem k0_off160_inb : ∀ (v166 : BitVec 32) (k0_hw43 : k0_chk43 v166), ∀ a, (k0_off160 v166) a + S1024x1024.size a ≤ S65536x1024.size a := fun v166 k0_hw43 => k0_hw43.2.2

def k0_off161 (v170 : BitVec 32) : Fin 2 → Nat :=
  let c4096_i32_144 : BitVec 32 := 4096#32
  let v171 : BitVec 32 := Scalar.muli v170 c4096_i32_144
  let c0_i32_145 : BitVec 32 := 0#32
  let v172 : BitVec 32 := Scalar.addi v171 c0_i32_145
  let c0_i32_146 : BitVec 32 := 0#32
  let v173 : BitVec 32 := Scalar.addi v172 c0_i32_146
  let c0_i32_1458 : BitVec 32 := 0#32
  ![v173.toNat, 0]

def k0_chk44 (v170 : BitVec 32) : Prop :=
  (∀ a, (k0_off79 v170) a + S1024x1024.size a ≤ S65536x1024.size a) ∧
  (∀ a, (k0_off86 v170) a + S1024x1024.size a ≤ S65536x1024.size a) ∧
  (∀ a, (k0_off161 v170) a + S1024x1024.size a ≤ S65536x1024.size a)
theorem k0_off79_inb : ∀ (v170 : BitVec 32) (k0_hw44 : k0_chk44 v170), ∀ a, (k0_off79 v170) a + S1024x1024.size a ≤ S65536x1024.size a := fun v170 k0_hw44 => k0_hw44.1
theorem k0_off86_inb : ∀ (v170 : BitVec 32) (k0_hw44 : k0_chk44 v170), ∀ a, (k0_off86 v170) a + S1024x1024.size a ≤ S65536x1024.size a := fun v170 k0_hw44 => k0_hw44.2.1
theorem k0_off161_inb : ∀ (v170 : BitVec 32) (k0_hw44 : k0_chk44 v170), ∀ a, (k0_off161 v170) a + S1024x1024.size a ≤ S65536x1024.size a := fun v170 k0_hw44 => k0_hw44.2.2

def k0_off162 (v174 : BitVec 32) : Fin 2 → Nat :=
  let c4096_i32_147 : BitVec 32 := 4096#32
  let v175 : BitVec 32 := Scalar.muli v174 c4096_i32_147
  let c2048_i32_148 : BitVec 32 := 2048#32
  let v176 : BitVec 32 := Scalar.addi v175 c2048_i32_148
  let c0_i32_149 : BitVec 32 := 0#32
  let v177 : BitVec 32 := Scalar.addi v176 c0_i32_149
  let c0_i32_1465 : BitVec 32 := 0#32
  ![v177.toNat, 0]

def k0_chk45 (v174 : BitVec 32) : Prop :=
  (∀ a, (k0_off81 v174) a + S1024x1024.size a ≤ S65536x1024.size a) ∧
  (∀ a, (k0_off88 v174) a + S1024x1024.size a ≤ S65536x1024.size a) ∧
  (∀ a, (k0_off162 v174) a + S1024x1024.size a ≤ S65536x1024.size a)
theorem k0_off81_inb : ∀ (v174 : BitVec 32) (k0_hw45 : k0_chk45 v174), ∀ a, (k0_off81 v174) a + S1024x1024.size a ≤ S65536x1024.size a := fun v174 k0_hw45 => k0_hw45.1
theorem k0_off88_inb : ∀ (v174 : BitVec 32) (k0_hw45 : k0_chk45 v174), ∀ a, (k0_off88 v174) a + S1024x1024.size a ≤ S65536x1024.size a := fun v174 k0_hw45 => k0_hw45.2.1
theorem k0_off162_inb : ∀ (v174 : BitVec 32) (k0_hw45 : k0_chk45 v174), ∀ a, (k0_off162 v174) a + S1024x1024.size a ≤ S65536x1024.size a := fun v174 k0_hw45 => k0_hw45.2.2

def k0_off163 (v178 : BitVec 32) : Fin 2 → Nat :=
  let c4096_i32_151 : BitVec 32 := 4096#32
  let v179 : BitVec 32 := Scalar.muli v178 c4096_i32_151
  let c0_i32_152 : BitVec 32 := 0#32
  let v180 : BitVec 32 := Scalar.addi v179 c0_i32_152
  let c1024_i32_153 : BitVec 32 := 1024#32
  let v181 : BitVec 32 := Scalar.addi v180 c1024_i32_153
  let c0_i32_1472 : BitVec 32 := 0#32
  ![v181.toNat, 0]

def k0_chk46 (v178 : BitVec 32) : Prop :=
  (∀ a, (k0_off83 v178) a + S1024x1024.size a ≤ S65536x1024.size a) ∧
  (∀ a, (k0_off90 v178) a + S1024x1024.size a ≤ S65536x1024.size a) ∧
  (∀ a, (k0_off163 v178) a + S1024x1024.size a ≤ S65536x1024.size a)
theorem k0_off83_inb : ∀ (v178 : BitVec 32) (k0_hw46 : k0_chk46 v178), ∀ a, (k0_off83 v178) a + S1024x1024.size a ≤ S65536x1024.size a := fun v178 k0_hw46 => k0_hw46.1
theorem k0_off90_inb : ∀ (v178 : BitVec 32) (k0_hw46 : k0_chk46 v178), ∀ a, (k0_off90 v178) a + S1024x1024.size a ≤ S65536x1024.size a := fun v178 k0_hw46 => k0_hw46.2.1
theorem k0_off163_inb : ∀ (v178 : BitVec 32) (k0_hw46 : k0_chk46 v178), ∀ a, (k0_off163 v178) a + S1024x1024.size a ≤ S65536x1024.size a := fun v178 k0_hw46 => k0_hw46.2.2

def k0_off164 (v182 : BitVec 32) : Fin 2 → Nat :=
  let c4096_i32_155 : BitVec 32 := 4096#32
  let v183 : BitVec 32 := Scalar.muli v182 c4096_i32_155
  let c2048_i32_156 : BitVec 32 := 2048#32
  let v184 : BitVec 32 := Scalar.addi v183 c2048_i32_156
  let c1024_i32_157 : BitVec 32 := 1024#32
  let v185 : BitVec 32 := Scalar.addi v184 c1024_i32_157
  let c0_i32_1479 : BitVec 32 := 0#32
  ![v185.toNat, 0]

def k0_chk47 (v182 : BitVec 32) : Prop :=
  (∀ a, (k0_off85 v182) a + S1024x1024.size a ≤ S65536x1024.size a) ∧
  (∀ a, (k0_off92 v182) a + S1024x1024.size a ≤ S65536x1024.size a) ∧
  (∀ a, (k0_off164 v182) a + S1024x1024.size a ≤ S65536x1024.size a)
theorem k0_off85_inb : ∀ (v182 : BitVec 32) (k0_hw47 : k0_chk47 v182), ∀ a, (k0_off85 v182) a + S1024x1024.size a ≤ S65536x1024.size a := fun v182 k0_hw47 => k0_hw47.1
theorem k0_off92_inb : ∀ (v182 : BitVec 32) (k0_hw47 : k0_chk47 v182), ∀ a, (k0_off92 v182) a + S1024x1024.size a ≤ S65536x1024.size a := fun v182 k0_hw47 => k0_hw47.2.1
theorem k0_off164_inb : ∀ (v182 : BitVec 32) (k0_hw47 : k0_chk47 v182), ∀ a, (k0_off164 v182) a + S1024x1024.size a ≤ S65536x1024.size a := fun v182 k0_hw47 => k0_hw47.2.2

def k0_off165 (v186 : BitVec 32) : Fin 2 → Nat :=
  let c4096_i32_158 : BitVec 32 := 4096#32
  let v187 : BitVec 32 := Scalar.muli v186 c4096_i32_158
  let c0_i32_159 : BitVec 32 := 0#32
  let v188 : BitVec 32 := Scalar.addi v187 c0_i32_159
  let c0_i32_160 : BitVec 32 := 0#32
  let v189 : BitVec 32 := Scalar.addi v188 c0_i32_160
  let c0_i32_1486 : BitVec 32 := 0#32
  ![v189.toNat, 0]

def k0_chk48 (v186 : BitVec 32) : Prop :=
  (∀ a, (k0_off87 v186) a + S1024x1024.size a ≤ S65536x1024.size a) ∧
  (∀ a, (k0_off94 v186) a + S1024x1024.size a ≤ S65536x1024.size a) ∧
  (∀ a, (k0_off165 v186) a + S1024x1024.size a ≤ S65536x1024.size a)
theorem k0_off87_inb : ∀ (v186 : BitVec 32) (k0_hw48 : k0_chk48 v186), ∀ a, (k0_off87 v186) a + S1024x1024.size a ≤ S65536x1024.size a := fun v186 k0_hw48 => k0_hw48.1
theorem k0_off94_inb : ∀ (v186 : BitVec 32) (k0_hw48 : k0_chk48 v186), ∀ a, (k0_off94 v186) a + S1024x1024.size a ≤ S65536x1024.size a := fun v186 k0_hw48 => k0_hw48.2.1
theorem k0_off165_inb : ∀ (v186 : BitVec 32) (k0_hw48 : k0_chk48 v186), ∀ a, (k0_off165 v186) a + S1024x1024.size a ≤ S65536x1024.size a := fun v186 k0_hw48 => k0_hw48.2.2

def k0_off166 (v190 : BitVec 32) : Fin 2 → Nat :=
  let c4096_i32_161 : BitVec 32 := 4096#32
  let v191 : BitVec 32 := Scalar.muli v190 c4096_i32_161
  let c2048_i32_162 : BitVec 32 := 2048#32
  let v192 : BitVec 32 := Scalar.addi v191 c2048_i32_162
  let c0_i32_163 : BitVec 32 := 0#32
  let v193 : BitVec 32 := Scalar.addi v192 c0_i32_163
  let c0_i32_1493 : BitVec 32 := 0#32
  ![v193.toNat, 0]

def k0_chk49 (v190 : BitVec 32) : Prop :=
  (∀ a, (k0_off89 v190) a + S1024x1024.size a ≤ S65536x1024.size a) ∧
  (∀ a, (k0_off96 v190) a + S1024x1024.size a ≤ S65536x1024.size a) ∧
  (∀ a, (k0_off166 v190) a + S1024x1024.size a ≤ S65536x1024.size a)
theorem k0_off89_inb : ∀ (v190 : BitVec 32) (k0_hw49 : k0_chk49 v190), ∀ a, (k0_off89 v190) a + S1024x1024.size a ≤ S65536x1024.size a := fun v190 k0_hw49 => k0_hw49.1
theorem k0_off96_inb : ∀ (v190 : BitVec 32) (k0_hw49 : k0_chk49 v190), ∀ a, (k0_off96 v190) a + S1024x1024.size a ≤ S65536x1024.size a := fun v190 k0_hw49 => k0_hw49.2.1
theorem k0_off166_inb : ∀ (v190 : BitVec 32) (k0_hw49 : k0_chk49 v190), ∀ a, (k0_off166 v190) a + S1024x1024.size a ≤ S65536x1024.size a := fun v190 k0_hw49 => k0_hw49.2.2

def k0_off167 (v194 : BitVec 32) : Fin 2 → Nat :=
  let c4096_i32_165 : BitVec 32 := 4096#32
  let v195 : BitVec 32 := Scalar.muli v194 c4096_i32_165
  let c0_i32_166 : BitVec 32 := 0#32
  let v196 : BitVec 32 := Scalar.addi v195 c0_i32_166
  let c1024_i32_167 : BitVec 32 := 1024#32
  let v197 : BitVec 32 := Scalar.addi v196 c1024_i32_167
  let c0_i32_1500 : BitVec 32 := 0#32
  ![v197.toNat, 0]

def k0_chk50 (v194 : BitVec 32) : Prop :=
  (∀ a, (k0_off91 v194) a + S1024x1024.size a ≤ S65536x1024.size a) ∧
  (∀ a, (k0_off98 v194) a + S1024x1024.size a ≤ S65536x1024.size a) ∧
  (∀ a, (k0_off167 v194) a + S1024x1024.size a ≤ S65536x1024.size a)
theorem k0_off91_inb : ∀ (v194 : BitVec 32) (k0_hw50 : k0_chk50 v194), ∀ a, (k0_off91 v194) a + S1024x1024.size a ≤ S65536x1024.size a := fun v194 k0_hw50 => k0_hw50.1
theorem k0_off98_inb : ∀ (v194 : BitVec 32) (k0_hw50 : k0_chk50 v194), ∀ a, (k0_off98 v194) a + S1024x1024.size a ≤ S65536x1024.size a := fun v194 k0_hw50 => k0_hw50.2.1
theorem k0_off167_inb : ∀ (v194 : BitVec 32) (k0_hw50 : k0_chk50 v194), ∀ a, (k0_off167 v194) a + S1024x1024.size a ≤ S65536x1024.size a := fun v194 k0_hw50 => k0_hw50.2.2

def k0_off168 (v198 : BitVec 32) : Fin 2 → Nat :=
  let c4096_i32_169 : BitVec 32 := 4096#32
  let v199 : BitVec 32 := Scalar.muli v198 c4096_i32_169
  let c2048_i32_170 : BitVec 32 := 2048#32
  let v200 : BitVec 32 := Scalar.addi v199 c2048_i32_170
  let c1024_i32_171 : BitVec 32 := 1024#32
  let v201 : BitVec 32 := Scalar.addi v200 c1024_i32_171
  let c0_i32_1507 : BitVec 32 := 0#32
  ![v201.toNat, 0]

def k0_chk51 (v198 : BitVec 32) : Prop :=
  (∀ a, (k0_off93 v198) a + S1024x1024.size a ≤ S65536x1024.size a) ∧
  (∀ a, (k0_off100 v198) a + S1024x1024.size a ≤ S65536x1024.size a) ∧
  (∀ a, (k0_off168 v198) a + S1024x1024.size a ≤ S65536x1024.size a)
theorem k0_off93_inb : ∀ (v198 : BitVec 32) (k0_hw51 : k0_chk51 v198), ∀ a, (k0_off93 v198) a + S1024x1024.size a ≤ S65536x1024.size a := fun v198 k0_hw51 => k0_hw51.1
theorem k0_off100_inb : ∀ (v198 : BitVec 32) (k0_hw51 : k0_chk51 v198), ∀ a, (k0_off100 v198) a + S1024x1024.size a ≤ S65536x1024.size a := fun v198 k0_hw51 => k0_hw51.2.1
theorem k0_off168_inb : ∀ (v198 : BitVec 32) (k0_hw51 : k0_chk51 v198), ∀ a, (k0_off168 v198) a + S1024x1024.size a ≤ S65536x1024.size a := fun v198 k0_hw51 => k0_hw51.2.2

def k0_off169 (v202 : BitVec 32) : Fin 2 → Nat :=
  let c4096_i32_172 : BitVec 32 := 4096#32
  let v203 : BitVec 32 := Scalar.muli v202 c4096_i32_172
  let c0_i32_173 : BitVec 32 := 0#32
  let v204 : BitVec 32 := Scalar.addi v203 c0_i32_173
  let c0_i32_174 : BitVec 32 := 0#32
  let v205 : BitVec 32 := Scalar.addi v204 c0_i32_174
  let c0_i32_1514 : BitVec 32 := 0#32
  ![v205.toNat, 0]

def k0_chk52 (v202 : BitVec 32) : Prop :=
  (∀ a, (k0_off95 v202) a + S1024x1024.size a ≤ S65536x1024.size a) ∧
  (∀ a, (k0_off102 v202) a + S1024x1024.size a ≤ S65536x1024.size a) ∧
  (∀ a, (k0_off169 v202) a + S1024x1024.size a ≤ S65536x1024.size a)
theorem k0_off95_inb : ∀ (v202 : BitVec 32) (k0_hw52 : k0_chk52 v202), ∀ a, (k0_off95 v202) a + S1024x1024.size a ≤ S65536x1024.size a := fun v202 k0_hw52 => k0_hw52.1
theorem k0_off102_inb : ∀ (v202 : BitVec 32) (k0_hw52 : k0_chk52 v202), ∀ a, (k0_off102 v202) a + S1024x1024.size a ≤ S65536x1024.size a := fun v202 k0_hw52 => k0_hw52.2.1
theorem k0_off169_inb : ∀ (v202 : BitVec 32) (k0_hw52 : k0_chk52 v202), ∀ a, (k0_off169 v202) a + S1024x1024.size a ≤ S65536x1024.size a := fun v202 k0_hw52 => k0_hw52.2.2

def k0_off170 (v206 : BitVec 32) : Fin 2 → Nat :=
  let c4096_i32_175 : BitVec 32 := 4096#32
  let v207 : BitVec 32 := Scalar.muli v206 c4096_i32_175
  let c2048_i32_176 : BitVec 32 := 2048#32
  let v208 : BitVec 32 := Scalar.addi v207 c2048_i32_176
  let c0_i32_177 : BitVec 32 := 0#32
  let v209 : BitVec 32 := Scalar.addi v208 c0_i32_177
  let c0_i32_1521 : BitVec 32 := 0#32
  ![v209.toNat, 0]

def k0_chk53 (v206 : BitVec 32) : Prop :=
  (∀ a, (k0_off97 v206) a + S1024x1024.size a ≤ S65536x1024.size a) ∧
  (∀ a, (k0_off104 v206) a + S1024x1024.size a ≤ S65536x1024.size a) ∧
  (∀ a, (k0_off170 v206) a + S1024x1024.size a ≤ S65536x1024.size a)
theorem k0_off97_inb : ∀ (v206 : BitVec 32) (k0_hw53 : k0_chk53 v206), ∀ a, (k0_off97 v206) a + S1024x1024.size a ≤ S65536x1024.size a := fun v206 k0_hw53 => k0_hw53.1
theorem k0_off104_inb : ∀ (v206 : BitVec 32) (k0_hw53 : k0_chk53 v206), ∀ a, (k0_off104 v206) a + S1024x1024.size a ≤ S65536x1024.size a := fun v206 k0_hw53 => k0_hw53.2.1
theorem k0_off170_inb : ∀ (v206 : BitVec 32) (k0_hw53 : k0_chk53 v206), ∀ a, (k0_off170 v206) a + S1024x1024.size a ≤ S65536x1024.size a := fun v206 k0_hw53 => k0_hw53.2.2

def k0_off171 (v210 : BitVec 32) : Fin 2 → Nat :=
  let c4096_i32_179 : BitVec 32 := 4096#32
  let v211 : BitVec 32 := Scalar.muli v210 c4096_i32_179
  let c0_i32_180 : BitVec 32 := 0#32
  let v212 : BitVec 32 := Scalar.addi v211 c0_i32_180
  let c1024_i32_181 : BitVec 32 := 1024#32
  let v213 : BitVec 32 := Scalar.addi v212 c1024_i32_181
  let c0_i32_1528 : BitVec 32 := 0#32
  ![v213.toNat, 0]

def k0_chk54 (v210 : BitVec 32) : Prop :=
  (∀ a, (k0_off99 v210) a + S1024x1024.size a ≤ S65536x1024.size a) ∧
  (∀ a, (k0_off106 v210) a + S1024x1024.size a ≤ S65536x1024.size a) ∧
  (∀ a, (k0_off171 v210) a + S1024x1024.size a ≤ S65536x1024.size a)
theorem k0_off99_inb : ∀ (v210 : BitVec 32) (k0_hw54 : k0_chk54 v210), ∀ a, (k0_off99 v210) a + S1024x1024.size a ≤ S65536x1024.size a := fun v210 k0_hw54 => k0_hw54.1
theorem k0_off106_inb : ∀ (v210 : BitVec 32) (k0_hw54 : k0_chk54 v210), ∀ a, (k0_off106 v210) a + S1024x1024.size a ≤ S65536x1024.size a := fun v210 k0_hw54 => k0_hw54.2.1
theorem k0_off171_inb : ∀ (v210 : BitVec 32) (k0_hw54 : k0_chk54 v210), ∀ a, (k0_off171 v210) a + S1024x1024.size a ≤ S65536x1024.size a := fun v210 k0_hw54 => k0_hw54.2.2

def k0_off172 (v214 : BitVec 32) : Fin 2 → Nat :=
  let c4096_i32_183 : BitVec 32 := 4096#32
  let v215 : BitVec 32 := Scalar.muli v214 c4096_i32_183
  let c2048_i32_184 : BitVec 32 := 2048#32
  let v216 : BitVec 32 := Scalar.addi v215 c2048_i32_184
  let c1024_i32_185 : BitVec 32 := 1024#32
  let v217 : BitVec 32 := Scalar.addi v216 c1024_i32_185
  let c0_i32_1535 : BitVec 32 := 0#32
  ![v217.toNat, 0]

def k0_chk55 (v214 : BitVec 32) : Prop :=
  (∀ a, (k0_off101 v214) a + S1024x1024.size a ≤ S65536x1024.size a) ∧
  (∀ a, (k0_off108 v214) a + S1024x1024.size a ≤ S65536x1024.size a) ∧
  (∀ a, (k0_off172 v214) a + S1024x1024.size a ≤ S65536x1024.size a)
theorem k0_off101_inb : ∀ (v214 : BitVec 32) (k0_hw55 : k0_chk55 v214), ∀ a, (k0_off101 v214) a + S1024x1024.size a ≤ S65536x1024.size a := fun v214 k0_hw55 => k0_hw55.1
theorem k0_off108_inb : ∀ (v214 : BitVec 32) (k0_hw55 : k0_chk55 v214), ∀ a, (k0_off108 v214) a + S1024x1024.size a ≤ S65536x1024.size a := fun v214 k0_hw55 => k0_hw55.2.1
theorem k0_off172_inb : ∀ (v214 : BitVec 32) (k0_hw55 : k0_chk55 v214), ∀ a, (k0_off172 v214) a + S1024x1024.size a ≤ S65536x1024.size a := fun v214 k0_hw55 => k0_hw55.2.2

def k0_off173 (v218 : BitVec 32) : Fin 2 → Nat :=
  let c4096_i32_186 : BitVec 32 := 4096#32
  let v219 : BitVec 32 := Scalar.muli v218 c4096_i32_186
  let c0_i32_187 : BitVec 32 := 0#32
  let v220 : BitVec 32 := Scalar.addi v219 c0_i32_187
  let c0_i32_188 : BitVec 32 := 0#32
  let v221 : BitVec 32 := Scalar.addi v220 c0_i32_188
  let c0_i32_1542 : BitVec 32 := 0#32
  ![v221.toNat, 0]

def k0_chk56 (v218 : BitVec 32) : Prop :=
  (∀ a, (k0_off103 v218) a + S1024x1024.size a ≤ S65536x1024.size a) ∧
  (∀ a, (k0_off110 v218) a + S1024x1024.size a ≤ S65536x1024.size a) ∧
  (∀ a, (k0_off173 v218) a + S1024x1024.size a ≤ S65536x1024.size a)
theorem k0_off103_inb : ∀ (v218 : BitVec 32) (k0_hw56 : k0_chk56 v218), ∀ a, (k0_off103 v218) a + S1024x1024.size a ≤ S65536x1024.size a := fun v218 k0_hw56 => k0_hw56.1
theorem k0_off110_inb : ∀ (v218 : BitVec 32) (k0_hw56 : k0_chk56 v218), ∀ a, (k0_off110 v218) a + S1024x1024.size a ≤ S65536x1024.size a := fun v218 k0_hw56 => k0_hw56.2.1
theorem k0_off173_inb : ∀ (v218 : BitVec 32) (k0_hw56 : k0_chk56 v218), ∀ a, (k0_off173 v218) a + S1024x1024.size a ≤ S65536x1024.size a := fun v218 k0_hw56 => k0_hw56.2.2

def k0_off174 (v222 : BitVec 32) : Fin 2 → Nat :=
  let c4096_i32_189 : BitVec 32 := 4096#32
  let v223 : BitVec 32 := Scalar.muli v222 c4096_i32_189
  let c2048_i32_190 : BitVec 32 := 2048#32
  let v224 : BitVec 32 := Scalar.addi v223 c2048_i32_190
  let c0_i32_191 : BitVec 32 := 0#32
  let v225 : BitVec 32 := Scalar.addi v224 c0_i32_191
  let c0_i32_1549 : BitVec 32 := 0#32
  ![v225.toNat, 0]

def k0_chk57 (v222 : BitVec 32) : Prop :=
  (∀ a, (k0_off105 v222) a + S1024x1024.size a ≤ S65536x1024.size a) ∧
  (∀ a, (k0_off112 v222) a + S1024x1024.size a ≤ S65536x1024.size a) ∧
  (∀ a, (k0_off174 v222) a + S1024x1024.size a ≤ S65536x1024.size a)
theorem k0_off105_inb : ∀ (v222 : BitVec 32) (k0_hw57 : k0_chk57 v222), ∀ a, (k0_off105 v222) a + S1024x1024.size a ≤ S65536x1024.size a := fun v222 k0_hw57 => k0_hw57.1
theorem k0_off112_inb : ∀ (v222 : BitVec 32) (k0_hw57 : k0_chk57 v222), ∀ a, (k0_off112 v222) a + S1024x1024.size a ≤ S65536x1024.size a := fun v222 k0_hw57 => k0_hw57.2.1
theorem k0_off174_inb : ∀ (v222 : BitVec 32) (k0_hw57 : k0_chk57 v222), ∀ a, (k0_off174 v222) a + S1024x1024.size a ≤ S65536x1024.size a := fun v222 k0_hw57 => k0_hw57.2.2

def k0_off175 (v226 : BitVec 32) : Fin 2 → Nat :=
  let c4096_i32_193 : BitVec 32 := 4096#32
  let v227 : BitVec 32 := Scalar.muli v226 c4096_i32_193
  let c0_i32_194 : BitVec 32 := 0#32
  let v228 : BitVec 32 := Scalar.addi v227 c0_i32_194
  let c1024_i32_195 : BitVec 32 := 1024#32
  let v229 : BitVec 32 := Scalar.addi v228 c1024_i32_195
  let c0_i32_1556 : BitVec 32 := 0#32
  ![v229.toNat, 0]

def k0_chk58 (v226 : BitVec 32) : Prop :=
  (∀ a, (k0_off107 v226) a + S1024x1024.size a ≤ S65536x1024.size a) ∧
  (∀ a, (k0_off114 v226) a + S1024x1024.size a ≤ S65536x1024.size a) ∧
  (∀ a, (k0_off175 v226) a + S1024x1024.size a ≤ S65536x1024.size a)
theorem k0_off107_inb : ∀ (v226 : BitVec 32) (k0_hw58 : k0_chk58 v226), ∀ a, (k0_off107 v226) a + S1024x1024.size a ≤ S65536x1024.size a := fun v226 k0_hw58 => k0_hw58.1
theorem k0_off114_inb : ∀ (v226 : BitVec 32) (k0_hw58 : k0_chk58 v226), ∀ a, (k0_off114 v226) a + S1024x1024.size a ≤ S65536x1024.size a := fun v226 k0_hw58 => k0_hw58.2.1
theorem k0_off175_inb : ∀ (v226 : BitVec 32) (k0_hw58 : k0_chk58 v226), ∀ a, (k0_off175 v226) a + S1024x1024.size a ≤ S65536x1024.size a := fun v226 k0_hw58 => k0_hw58.2.2

def k0_off176 (v230 : BitVec 32) : Fin 2 → Nat :=
  let c4096_i32_197 : BitVec 32 := 4096#32
  let v231 : BitVec 32 := Scalar.muli v230 c4096_i32_197
  let c2048_i32_198 : BitVec 32 := 2048#32
  let v232 : BitVec 32 := Scalar.addi v231 c2048_i32_198
  let c1024_i32_199 : BitVec 32 := 1024#32
  let v233 : BitVec 32 := Scalar.addi v232 c1024_i32_199
  let c0_i32_1563 : BitVec 32 := 0#32
  ![v233.toNat, 0]

def k0_chk59 (v230 : BitVec 32) : Prop :=
  (∀ a, (k0_off109 v230) a + S1024x1024.size a ≤ S65536x1024.size a) ∧
  (∀ a, (k0_off116 v230) a + S1024x1024.size a ≤ S65536x1024.size a) ∧
  (∀ a, (k0_off176 v230) a + S1024x1024.size a ≤ S65536x1024.size a)
theorem k0_off109_inb : ∀ (v230 : BitVec 32) (k0_hw59 : k0_chk59 v230), ∀ a, (k0_off109 v230) a + S1024x1024.size a ≤ S65536x1024.size a := fun v230 k0_hw59 => k0_hw59.1
theorem k0_off116_inb : ∀ (v230 : BitVec 32) (k0_hw59 : k0_chk59 v230), ∀ a, (k0_off116 v230) a + S1024x1024.size a ≤ S65536x1024.size a := fun v230 k0_hw59 => k0_hw59.2.1
theorem k0_off176_inb : ∀ (v230 : BitVec 32) (k0_hw59 : k0_chk59 v230), ∀ a, (k0_off176 v230) a + S1024x1024.size a ≤ S65536x1024.size a := fun v230 k0_hw59 => k0_hw59.2.2

def k0_off177 (v7 : BitVec 32) : Fin 2 → Nat :=
  let c4096_i32 : BitVec 32 := 4096#32
  let v8 : BitVec 32 := Scalar.muli v7 c4096_i32
  let c0_i32_1593 : BitVec 32 := 0#32
  ![v8.toNat, 0]

def k0_chk3 (v7 : BitVec 32) : Prop :=
  (∀ a, (k0_off1 v7) a + S4096x1024.size a ≤ S65536x1024.size a) ∧
  (∀ a, (k0_off177 v7) a + S4096x1024.size a ≤ S65536x1024.size a)
theorem k0_off1_inb : ∀ (v7 : BitVec 32) (k0_hw3 : k0_chk3 v7), ∀ a, (k0_off1 v7) a + S4096x1024.size a ≤ S65536x1024.size a := fun v7 k0_hw3 => k0_hw3.1
theorem k0_off177_inb : ∀ (v7 : BitVec 32) (k0_hw3 : k0_chk3 v7), ∀ a, (k0_off177 v7) a + S4096x1024.size a ≤ S65536x1024.size a := fun v7 k0_hw3 => k0_hw3.2

abbrev stage0_0 : Fin 1 → Memref sig .tc .smem S34 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Table.lean ====
/-
  The ring on the sixteen devices as plain arithmetic: the order of the devices, the neighbour in each direction, the device whose rows a
  transfer moves, and the partition of the result's sixty-four tiles of 1024 rows into the sixty a device receives and the four of its own.

  Transfers are numbered 0 … 59 in the order a device starts them: transfer `i` is hop `i / 4`, half `(i / 2) % 2` of the block's stripe,
  direction `i % 2` (0: to the next device of the ring, the upper half of a block; 1: to the one before, the lower half).
-/
module

public import proofs.«01_k».proof.Proof.Gen.KernelIdeal.Skeleton

@[expose] public section

namespace Cert.KernelIdeal.Hand

open Cert.KernelIdeal
open Idealize.ShloMosaic

/-! ## The ring -/

set_option backward.proofsInPublic true in
/-- The device at place `k` of the ring (places wrap at sixteen). -/
def ringAt (k : ℕ) : Dev nD :=
  (![0, 4, 8, 12, 13, 9, 5, 1, 2, 6, 10, 14, 15, 11, 7, 3] : Fin 16 → Fin 16) ⟨k % 16, Nat.mod_lt _ (by decide)⟩

/-- The place of a device on the ring. -/
def place (c : Dev nD) : ℕ := (![0, 7, 8, 15, 1, 6, 9, 14, 2, 5, 10, 13, 3, 4, 11, 12] : Fin 16 → ℕ) c

/-- The neighbour of `c` in direction `d`: the next device for 0, the one before otherwise. -/
def nbr (d : ℕ) (c : Dev nD) : Dev nD := if d = 0 then ringAt (place c + 1) else ringAt (place c + 15)

/-- The neighbour `c` receives from in direction `d`. -/
def src (d : ℕ) (c : Dev nD) : Dev nD := if d = 0 then ringAt (place c + 15) else ringAt (place c + 1)

/-- The neighbour of the device that `c` receives from is `c`. -/
theorem nbr_src : ∀ (d : Fin 2) (c : Dev nD), nbr d.val (src d.val c) = c := by decide +kernel
/-- The device that the neighbour of `c` receives from is `c`. -/
theorem src_nbr : ∀ (d : Fin 2) (c : Dev nD), src d.val (nbr d.val c) = c := by decide +kernel

/-- The device whose rows `c` sends in transfer `i`. -/
def org (c : Dev nD) (i : Fin 60) : Dev nD :=
  if i.val % 2 = 0 then ringAt (place c + 15 * (i.val / 4)) else ringAt (place c + i.val / 4)

set_option backward.proofsInPublic true in
/-- The tile `c` sends in transfer `i`. -/
def snd (c : Dev nD) (i : Fin 60) : Fin 64 :=
  ⟨4 * (org c i).val + 2 * (i.val % 2) + (i.val / 2) % 2, by have h : (org c i).val < 16 := (org c i).isLt; omega⟩

/-- The tile `c` receives in transfer `i`: the one the device before it in that direction sends. -/
def rcv (c : Dev nD) (i : Fin 60) : Fin 64 := snd (src (i.val % 2) c) i

/-- Where transfer `i` of `c` goes. -/
abbrev tgt (c : Dev nD) (i : Fin 60) : Dev nD := nbr (i.val % 2) c

/-- What is sent is what the target receives. -/
theorem rcv_tgt (c : Dev nD) (i : Fin 60) : rcv (tgt c i) i = snd c i := by
  unfold rcv tgt
  rw [show src (i.val % 2) (nbr (i.val % 2) c) = c from src_nbr ⟨i.val % 2, Nat.mod_lt _ (by decide)⟩ c]

/-- A tile sent in a later hop is the one received in the hop before. -/
theorem snd_later : ∀ (c : Dev nD) (i : Fin 56), snd c ⟨i.val + 4, by omega⟩ = rcv c ⟨i.val, by omega⟩ := by decide +kernel

/-- The first hop sends the device's own tiles. -/
theorem org_first : ∀ (c : Dev nD) (i : Fin 4), org c ⟨i.val, by omega⟩ = c := by decide +kernel

/-! ## The tiles of the result -/

/-- Which transfer brings tile `q` to `c`, if one does. -/
def cls (c : Dev nD) (q : Fin 64) : Option (Fin 60) := (List.finRange 60).find? fun i => decide (rcv c i = q)

/-- The transfer found for a tile brings it. -/
theorem cls_some {c : Dev nD} {q : Fin 64} {i : Fin 60} (h : cls c q = some i) : rcv c i = q := by
  unfold cls at h
  have h' := List.find?_some h
  exact of_decide_eq_true h'

set_option maxRecDepth 4000 in
/-- The transfer found for a tile received is the one that brought it: no two bring the same. -/
theorem cls_rcv : ∀ (c : Dev nD) (i : Fin 60), cls c (rcv c i) = some i := by decide +kernel

set_option maxRecDepth 4000 in
/-- No transfer brings exactly the device's own four tiles. -/
theorem cls_none : ∀ (c : Dev nD) (q : Fin 64), cls c q = none ↔ q.val / 4 = c.val := by decide +kernel

/-! ## The words of the table -/

/-- The table of device `c`: sixteen origins of the forward direction, sixteen of the backward one, the next device and the one before. -/
def table (c : Dev nD) (j : ℕ) : Dev nD :=
  if j < 16 then ringAt (place c + 15 * j) else if j < 32 then ringAt (place c + (j - 16))
  else if j = 32 then ringAt (place c + 1) else ringAt (place c + 15)

/-- Its words. -/
def metaW (c : Dev nD) (j : ℕ) : BitVec 32 := BitVec.ofNat 32 (table c j).val

/-- The word of transfer `i`'s origin. -/
abbrev oW (c : Dev nD) (i : Fin 60) : BitVec 32 := BitVec.ofNat 32 (org c i).val
/-- The word of the neighbour in direction `d`. -/
abbrev nW (c : Dev nD) (d : ℕ) : BitVec 32 := BitVec.ofNat 32 (nbr d c).val

/-- The first row of a tile, as the kernel computes it from the origin's word. -/
def rowW (w a b : BitVec 32) : BitVec 32 := Scalar.addi (Scalar.addi (Scalar.muli w 4096#32) a) b
/-- A device number, as the kernel computes it from a word of the table. -/
def devW (w : BitVec 32) : BitVec 32 := Scalar.addi 0#32 (Scalar.muli w 1#32)

/-- The first row as the kernel computes it is the tile's. -/
theorem rowW_ofNat : ∀ (n : Fin 16) (d s : Fin 2),
    (rowW (BitVec.ofNat 32 n.val) (BitVec.ofNat 32 (2048 * d.val)) (BitVec.ofNat 32 (1024 * s.val))).toNat = 1024 * (4 * n.val + 2 * d.val + s.val) := by
  decide +kernel
/-- The device number as the kernel computes it is the word's. -/
theorem devW_ofNat : ∀ n : Fin 16, (devW (BitVec.ofNat 32 n.val)).toNat = n.val := by decide +kernel
/-- The first row of a block as the kernel computes it. -/
theorem blockW_ofNat : ∀ n : Fin 16, (Scalar.muli (BitVec.ofNat 32 n.val) 4096#32).toNat = 4096 * n.val := by decide +kernel

/-- A tile's rectangle lies in the result. -/
theorem row_inb (n : Fin 16) (d s : Fin 2) (a : Fin 2) :
    (![(rowW (BitVec.ofNat 32 n.val) (BitVec.ofNat 32 (2048 * d.val)) (BitVec.ofNat 32 (1024 * s.val))).toNat, 0] : Fin 2 → ℕ) a
      + S1024x1024.size a ≤ S65536x1024.size a := by
  rw [rowW_ofNat]
  have := n.isLt; have := d.isLt; have := s.isLt
  fin_cases a
  · show 1024 * (4 * n.val + 2 * d.val + s.val) + 1024 ≤ 65536; omega
  · show 0 + 1024 ≤ 1024; omega

end Cert.KernelIdeal.Hand
-- ==== Proof.Schedule.lean ====
/-
  The protocol of the ring: its semaphores and cells, what the buffers hold, who pays what to which cell, what a device owes at launch and in
  which order waits may follow each other.

  Device `c` waits on its barrier cell for both neighbours. With its unit a neighbour hands over the tiles of its own result that `c`
  writes. Transfer `i` of `c` writes one tile on the neighbour and pays the neighbour's receive cell `i` with that tile, holding the rows of
  the argument they belong to; `c`'s send cell `i` gets the source back. The copy cell gets the device's own block.
-/
module

public import proofs.«01_k».proof.Proof.Table
public import proofs.«01_k».proof.Proof.Gen.KernelIdeal.Regions
public import Idealize.ShloMosaic.Lib.Pipeline.Launch
public import Idealize.ShloMosaic.Lib.Pipeline.Frame
public import Idealize.ShloMosaic.Lib.Pipeline.Value
public import Idealize.ShloMosaic.Lib.Pipeline.ValueKit.Geometry
public import Idealize.ShloMosaic.Lib.Tactic
public import Idealize.ShloMosaic.Lib.Rounds

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the rounds over the kernel's own cells. -/
abbrev UB : Type := URounds (GSem nD τ sig) Bool
/-- The ghost state of the proof: that of the pipeline and that of the rounds. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The part of the kernel's own rounds. -/
abbrev ER : Emb UB (MT nD τ sig Unit (Elt F) ℕ UU ℕ) := embR

/-- No loop of the kernel needs a variant. -/
abbrev 𝒱₀ : Variants := Variants.none

variable (m : (ℓ : Loc nD τ sig) → Buf (Elt F) ℓ)

/-! ## Semaphores and cells -/

/-- The barrier semaphore. -/
abbrev barS : Sem sig := (SemArray.scalar (sig.barrier 0 rfl) : Sems sig S_).sem
set_option backward.proofsInPublic true in
/-- The semaphore transfer `i` signals at its sender. -/
def sendS (i : Fin 60) : DmaSem sig := ⟨1 + i.val / 2 + 60 * (i.val % 2), by show _ < 122; omega⟩
set_option backward.proofsInPublic true in
/-- The semaphore transfer `i` signals at its receiver. -/
def recvS (i : Fin 60) : DmaSem sig := ⟨31 + i.val / 2 + 60 * (i.val % 2), by show _ < 122; omega⟩
set_option backward.proofsInPublic true in
/-- The semaphore of the copy of the device's own block. -/
def copyS : DmaSem sig := ⟨121, by decide⟩

set_option backward.proofsInPublic true in
/-- What a semaphore is for: `some (false, i)` send, `some (true, i)` receive of transfer `i`. -/
def role (q : DmaSem sig) : Option (Bool × Fin 60) :=
  if h : 1 ≤ q.val ∧ q.val < 121 then
    some (decide (30 ≤ (q.val - 1) % 60), ⟨2 * ((q.val - 1) % 30) + (q.val - 1) / 60, by omega⟩)
  else none

/-- A send semaphore is one. -/
theorem role_send : ∀ i : Fin 60, role (sendS i) = some (false, i) := by decide +kernel
/-- A receive semaphore is one. -/
theorem role_recv : ∀ i : Fin 60, role (recvS i) = some (true, i) := by decide +kernel
/-- The copy's semaphore is neither. -/
theorem role_copy : role copyS = none := by decide

/-- The barrier cell of `c`. -/
abbrev barCell (c : Dev nD) : GSem nD τ sig := ((c : Thread nD τ), .reg barS)
/-- The send cell of transfer `i` on `c`. -/
abbrev sendCell (c : Dev nD) (i : Fin 60) : GSem nD τ sig := ((c : Thread nD τ), .dma (sendS i))
/-- The receive cell of transfer `i` on `c`. -/
abbrev recvCell (c : Dev nD) (i : Fin 60) : GSem nD τ sig := ((c : Thread nD τ), .dma (recvS i))
/-- The cell of the copy on `c`. -/
abbrev copyCell (c : Dev nD) : GSem nD τ sig := ((c : Thread nD τ), .dma copyS)

/-! ## Memory -/

/-- The result. -/
abbrev outM : Memref sig .tc .hbm S65536x1024 .f32 := Memref.whole main_v49
/-- The argument. -/
abbrev argM : Memref sig .tc .hbm S4096x1024 .f32 := Memref.whole main_arg0

/-- A tile lies in the result. -/
theorem tile_inb (q : Fin 64) (a : Fin 2) : (![1024 * q.val, 0] : Fin 2 → ℕ) a + S1024x1024.size a ≤ S65536x1024.size a := by
  have := q.isLt
  fin_cases a
  · show 1024 * q.val + 1024 ≤ 65536; omega
  · show 0 + 1024 ≤ 1024; omega
/-- A tile lies in the argument. -/
theorem quarter_inb (k : Fin 4) (a : Fin 2) : (![1024 * k.val, 0] : Fin 2 → ℕ) a + S1024x1024.size a ≤ S4096x1024.size a := by
  have := k.isLt
  fin_cases a
  · show 1024 * k.val + 1024 ≤ 4096; omega
  · show 0 + 1024 ≤ 1024; omega
/-- A block lies in the result. -/
theorem block_inb (c : Dev nD) (a : Fin 2) : (![4096 * c.val, 0] : Fin 2 → ℕ) a + S4096x1024.size a ≤ S65536x1024.size a := by
  have : c.val < 16 := c.isLt
  fin_cases a
  · show 4096 * c.val + 4096 ≤ 65536; omega
  · show 0 + 1024 ≤ 1024; omega

/-- Tile `q` of the result. -/
abbrev tileR (q : Fin 64) : Rect S65536x1024 := Rect.unit (s := S65536x1024) ![1024 * q.val, 0] S1024x1024.size (tile_inb q)
/-- Tile `q` of the result, as memory. -/
abbrev tileM (q : Fin 64) : Memref sig .tc .hbm S1024x1024 .f32 := outM.slice (tileR q) (fun _ => rfl)
/-- Block `c` of the result. -/
abbrev blockR (c : Dev nD) : Rect S65536x1024 := Rect.unit (s := S65536x1024) ![4096 * c.val, 0] S4096x1024.size (block_inb c)
/-- Block `c` of the result, as memory. -/
abbrev blockM (c : Dev nD) : Memref sig .tc .hbm S4096x1024 .f32 := outM.slice (blockR c) (fun _ => rfl)
/-- Tile `k` of the argument. -/
abbrev quarterR (k : Fin 4) : Rect S4096x1024 := Rect.unit (s := S4096x1024) ![1024 * k.val, 0] S1024x1024.size (quarter_inb k)
/-- Tile `k` of the argument, as memory. -/
abbrev quarterM (k : Fin 4) : Memref sig .tc .hbm S1024x1024 .f32 := argM.slice (quarterR k) (fun _ => rfl)

set_option backward.proofsInPublic true in
/-- The tile of the argument that transfer `i` of the first hop reads. -/
def quart (i : Fin 60) : Fin 4 := ⟨2 * (i.val % 2) + (i.val / 2) % 2, by omega⟩

/-- What one transfer credits. -/
@[irreducible] def N : ℕ := (tileM 0).view.dmaCredit
/-- What the copy credits. -/
@[irreducible] def NC : ℕ := (blockM 0).view.dmaCredit
/-- Every tile credits the same. -/
theorem N_tile (q : Fin 64) : (tileM q).view.dmaCredit = N := by unfold N; rfl
/-- Every block credits the same. -/
theorem NC_block (c : Dev nD) : (blockM c).view.dmaCredit = NC := by unfold NC; rfl
/-- A transfer credits something. -/
theorem N_pos : 0 < N := by unfold N; exact View.dmaCredit_pos _ (by decide)
/-- The copy credits something. -/
theorem NC_pos : 0 < NC := by unfold NC; exact View.dmaCredit_pos _ (by decide)

/-- The argument of device `c`. -/
abbrev X (c : Dev nD) : Buf (Elt F) ((c : Thread nD τ).loc main_arg0) := m ((c : Thread nD τ).loc main_arg0)

set_option backward.proofsInPublic true in
/-- The result: the devices' arguments one after the other. -/
def G (c : Dev nD) : Buf (Elt F) ((c : Thread nD τ).loc main_v49) := fun (j : S65536x1024.Idx) =>
  X m (⟨(j 0).val / 4096, by have : (j 0).val < 65536 := (j 0).isLt; show _ < 16; omega⟩ : Dev nD)
    (fun a => if h : a = 0 then ⟨(j 0).val % 4096, by subst h; exact Nat.mod_lt _ (by decide)⟩
      else ⟨(j 1).val, by have : a = 1 := Fin.eq_one_of_ne_zero a h; subst this; exact (j 1).isLt⟩ : S4096x1024.Idx)

/-- Tile `q` of device `c`'s result at `f`. -/
def outPts (c : Dev nD) (q : Fin 64) (f : Buf (Elt F) ((c : Thread nD τ).loc main_v49)) : sProp 𝕄 :=
  (tileM q).view.loc (c : Thread nD τ) ↦[(tileM q).view.set]{fullShare} f
/-- Block `c` of its result at `f`. -/
def blockPts (c : Dev nD) (f : Buf (Elt F) ((c : Thread nD τ).loc main_v49)) : sProp 𝕄 :=
  (blockM c).view.loc (c : Thread nD τ) ↦[(blockM c).view.set]{fullShare} f
/-- Tile `k` of its argument, at the half of the share the transfers read with. -/
def quartPts (c : Dev nD) (k : Fin 4) : sProp 𝕄 :=
  (quarterM k).view.loc (c : Thread nD τ) ↦[(quarterM k).view.set]{fullShare.right} X m c
/-- Its argument at the half the copy reads with. -/
def argPts (c : Dev nD) : sProp 𝕄 :=
  argM.view.loc (c : Thread nD τ) ↦[argM.view.set]{fullShare.left} X m c

omit [FloatOps F] in
instance outPts_storable (c : Dev nD) (q) (f) : BI.Storable (upEmb : UEmb _ 𝕄) (outPts (F := F) c q f) := by unfold outPts; infer_instance
omit [FloatOps F] in
instance blockPts_storable (c : Dev nD) (f) : BI.Storable (upEmb : UEmb _ 𝕄) (blockPts (F := F) c f) := by unfold blockPts; infer_instance
omit [FloatOps F] in
instance quartPts_storable (c : Dev nD) (k) : BI.Storable (upEmb : UEmb _ 𝕄) (quartPts (F := F) m c k) := by unfold quartPts; infer_instance
omit [FloatOps F] in
instance argPts_storable (c : Dev nD) : BI.Storable (upEmb : UEmb _ 𝕄) (argPts (F := F) m c) := by unfold argPts; infer_instance

/-! ## What the cells are paid -/

/-- The number of a barrier duty's direction. -/
def dn (d : Bool) : ℕ := if d then 1 else 0
/-- A tile of the neighbour's result that `c` writes in transfer `i`, at any contents, and that the neighbour's receive cell is open. -/
def hand (c : Dev nD) (i : Fin 60) : sProp 𝕄 := iprop((∃ f, outPts (tgt c i) (snd c i) f) ∗ reached ER (recvCell (tgt c i) i) 0)
/-- What the neighbour of `c` in direction `d` pays to `c`'s barrier cell. -/
def barPay (c : Dev nD) (d : Bool) : sProp 𝕄 := bigSep Finset.univ fun i : Fin 60 => if i.val % 2 = dn d then hand c i else iprop(emp)
/-- The source of transfer `i`: a tile of the argument in the first hop, afterwards a tile of the result that holds its final rows. -/
def sendPay (c : Dev nD) (i : Fin 60) : sProp 𝕄 := if i.val < 4 then quartPts m c (quart i) else outPts c (snd c i) (G m c)
/-- What transfer `i` brings `c`. -/
def recvPay (c : Dev nD) (i : Fin 60) : sProp 𝕄 := outPts c (rcv c i) (G m c)
/-- What the copy brings. -/
def copyPay (c : Dev nD) : sProp 𝕄 := iprop(blockPts c (G m c) ∗ argPts m c)

omit [FloatOps F] in
instance hand_storable (c : Dev nD) (i) : BI.Storable (upEmb : UEmb _ 𝕄) (hand (F := F) c i) := by unfold hand; infer_instance
omit [FloatOps F] in
instance barPay_storable (c : Dev nD) (d) : BI.Storable (upEmb : UEmb _ 𝕄) (barPay (F := F) c d) := by
  unfold barPay
  have : ∀ i : Fin 60, BI.Storable (upEmb : UEmb _ 𝕄) (if i.val % 2 = dn d then hand (F := F) c i else iprop(emp)) := fun i => by split <;> infer_instance
  infer_instance
omit [FloatOps F] in
instance sendPay_storable (c : Dev nD) (i) : BI.Storable (upEmb : UEmb _ 𝕄) (sendPay (F := F) m c i) := by unfold sendPay; split <;> infer_instance
omit [FloatOps F] in
instance recvPay_storable (c : Dev nD) (i) : BI.Storable (upEmb : UEmb _ 𝕄) (recvPay (F := F) m c i) := by unfold recvPay; infer_instance
omit [FloatOps F] in
instance copyPay_storable (c : Dev nD) : BI.Storable (upEmb : UEmb _ 𝕄) (copyPay (F := F) m c) := by unfold copyPay; infer_instance

/-- The barrier cells. -/
abbrev IsBar (g : GSem nD τ sig) : Prop := g.1.2 = .tc ∧ g.2 = .reg barS
/-- The cells of the transfers and of the copy. -/
abbrev IsXfer (g : GSem nD τ sig) : Prop := g.1.2 = .tc ∧ ∃ q : DmaSem sig, q.val ≠ 0 ∧ g.2 = .dma q

/-- What a cell is paid with, by what it is for. -/
def pay (c : Dev nD) (s : SemLoc sig) (d : Bool) : sProp 𝕄 :=
  match s with
  | .reg _ => barPay c d
  | .dma q => match role q with
    | some (false, i) => sendPay m c i
    | some (true, i) => recvPay m c i
    | none => copyPay m c

/-- What a payment to a cell adds to its counter. -/
def amt (s : SemLoc sig) : ℕ :=
  match s with
  | .reg _ => 1
  | .dma q => if q = copyS then NC else N
/-- A payment is positive. -/
theorem amt_pos (s : SemLoc sig) : 0 < amt s := by
  unfold amt
  split
  · exact Nat.one_pos
  · split
    · exact NC_pos
    · exact N_pos

open Classical in
/-- The schedule: one round. The barrier cell is paid by both neighbours, every other cell once. -/
def Rd : Rounds.Schedule (GSem nD τ sig) Bool 𝕄 where
  duties g r := if r = 0 ∧ IsBar g then Finset.univ else if r = 0 ∧ IsXfer g then {false} else ∅
  unitless _ := False
  amount g _ _ := amt g.2
  payload g _ d := pay m g.1.1 g.2 d
  amount_pos g _ _ _ := amt_pos g.2

instance Rd_payload_storable (g : GSem nD τ sig) (r : ℕ) (d : Bool) :
    BI.Storable (upEmb : UEmb _ 𝕄) ((Rd (F := F) m).payload g r d) := by
  show BI.Storable upEmb (pay m g.1.1 g.2 d)
  unfold pay
  (repeat' split) <;> infer_instance

/-- A copy's semaphore is not the barrier. -/
theorem dma_ne_bar (q : DmaSem sig) : (SemLoc.dma q : SemLoc sig) ≠ .reg barS := fun h => by cases h

section Sched
variable (c : Dev nD)

omit [FloatOps F] in
/-- The barrier cell is paid in both directions. -/
theorem duties_bar : (Rd (F := F) m).duties (barCell c) 0 = Finset.univ := by dsimp only [Rd]; exact if_pos ⟨rfl, rfl, rfl⟩
omit [FloatOps F] in
/-- A copy's cell is paid once. -/
theorem duties_dma (q : DmaSem sig) (hq : q.val ≠ 0) : (Rd (F := F) m).duties ((c : Thread nD τ), .dma q) 0 = {false} := by
  dsimp only [Rd]; rw [if_neg (fun h => by cases h.2.2)]
  exact if_pos ⟨rfl, rfl, q, hq, rfl⟩
omit [FloatOps F] in
/-- There is no second round. -/
theorem duties_later (g : GSem nD τ sig) : ∀ r, 1 ≤ r → (Rd (F := F) m).duties g r = ∅ :=
  fun r hr => by dsimp only [Rd]; rw [if_neg fun h => by omega, if_neg fun h => by omega]

omit [FloatOps F] in
/-- A signal pays one unit. -/
theorem amount_bar (d : Bool) : (Rd (F := F) m).amount (barCell c) 0 d = 1 := rfl
omit [FloatOps F] in
/-- A transfer pays what a tile credits. -/
theorem amount_dma (q : DmaSem sig) (hq : q ≠ copyS) (d : Bool) : (Rd (F := F) m).amount ((c : Thread nD τ), .dma q) 0 d = N := by
  show amt (.dma q) = N
  unfold amt
  exact if_neg hq
omit [FloatOps F] in
/-- The copy pays what a block credits. -/
theorem amount_copy (d : Bool) : (Rd (F := F) m).amount (copyCell c) 0 d = NC := by
  show amt (.dma copyS) = NC
  unfold amt
  exact if_pos rfl

omit [FloatOps F] in
/-- The barrier cell gets two units in all. -/
theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
/-- A copy's cell gets one payment in all. -/
theorem expect_one (q : DmaSem sig) (h0 : q.val ≠ 0) : (Rd (F := F) m).expect ((c : Thread nD τ), .dma q) 0 = amt (.dma q) := by
  unfold Schedule.expect Schedule.amountOf; rw [duties_dma m c q h0, Finset.sum_singleton]; rfl
omit [FloatOps F] in
/-- A transfer's cell gets what a tile credits. -/
theorem expect_dma (q : DmaSem sig) (hq : q ≠ copyS) (h0 : q.val ≠ 0) : (Rd (F := F) m).expect ((c : Thread nD τ), .dma q) 0 = N :=
  (expect_one m c q h0).trans (amount_dma m c q hq false)
/-- The copy's semaphore is not the pipeline's. -/
theorem copyS_pos : copyS.val ≠ 0 := fun h => Nat.noConfusion (show 121 = 0 from h)
omit [FloatOps F] in
/-- The copy's cell gets what a block credits. -/
theorem expect_copy : (Rd (F := F) m).expect (copyCell c) 0 = NC := (expect_one m c copyS copyS_pos).trans (amount_copy m c false)

omit [FloatOps F] in
/-- What comes with a signal. -/
theorem payload_bar (d : Bool) : (Rd (F := F) m).payload (barCell c) 0 d = barPay c d := rfl
omit [FloatOps F] in
/-- What comes with the end of a send. -/
theorem payload_send (i : Fin 60) (d : Bool) : (Rd (F := F) m).payload (sendCell c i) 0 d = sendPay m c i := by
  show pay m c (.dma (sendS i)) d = _
  simp only [pay, role_send]
omit [FloatOps F] in
/-- What comes with a receive. -/
theorem payload_recv (i : Fin 60) (d : Bool) : (Rd (F := F) m).payload (recvCell c i) 0 d = recvPay m c i := by
  show pay m c (.dma (recvS i)) d = _
  simp only [pay, role_recv]
omit [FloatOps F] in
/-- What comes with the end of the copy. -/
theorem payload_copy (d : Bool) : (Rd (F := F) m).payload (copyCell c) 0 d = copyPay m c := by
  show pay m c (.dma copyS) d = _
  simp only [pay, role_copy]

omit [FloatOps F] in
/-- All that the barrier cell is paid with. -/
theorem rest_bar : bigSep ((Rd (F := F) m).duties (barCell c) 0 \ ∅) (fun d => (Rd (F := F) m).payload (barCell c) 0 d)
    = iprop(barPay c false ∗ barPay c true) := by
  rw [Finset.sdiff_empty, duties_bar, bigSep_univ_eq_bigSepL [false, true] (by decide) (by decide), bigSepL_cons_cons, bigSepL_singleton]
  rfl
omit [FloatOps F] in
/-- All that a copy's cell is paid with. -/
theorem rest_dma (q : DmaSem sig) (hq : q.val ≠ 0) :
    bigSep ((Rd (F := F) m).duties ((c : Thread nD τ), .dma q) 0 \ ∅) (fun d => (Rd (F := F) m).payload ((c : Thread nD τ), .dma q) 0 d)
      = (Rd (F := F) m).payload ((c : Thread nD τ), .dma q) 0 false := by
  rw [Finset.sdiff_empty, duties_dma m c q hq, bigSep_singleton]

end Sched

/-- A send semaphore is not the copy's. -/
theorem sendS_ne (i : Fin 60) : sendS i ≠ copyS := fun h => by
  have := congrArg Fin.val h
  have h' : 1 + i.val / 2 + 60 * (i.val % 2) = 121 := this
  omega
/-- A receive semaphore is not the copy's. -/
theorem recvS_ne (i : Fin 60) : recvS i ≠ copyS := fun h => by
  have := congrArg Fin.val h
  have h' : 31 + i.val / 2 + 60 * (i.val % 2) = 121 := this
  omega
/-- A send semaphore is not the pipeline's. -/
theorem sendS_pos (i : Fin 60) : (sendS i).val ≠ 0 := by show 1 + i.val / 2 + 60 * (i.val % 2) ≠ 0; omega
/-- A receive semaphore is not the pipeline's. -/
theorem recvS_pos (i : Fin 60) : (recvS i).val ≠ 0 := by show 31 + i.val / 2 + 60 * (i.val % 2) ≠ 0; omega

/-! ## What a device owes, and the levels -/

/-- What `c` still owes when it has started its first `a` transfers. -/
def Ow (c : Dev nD) (a : ℕ) : CellTallies nD τ sig Unit :=
  ∑ i ∈ (Finset.univ : Finset (Fin 60)).filter (fun i => a ≤ i.val), tallyAt (recvCell (tgt c i) i) () N
/-- What it owes after its signal to the device before: all transfers, and a unit to the next device's barrier cell. -/
def O₁ (c : Dev nD) : CellTallies nD τ sig Unit := Ow c 0 + tallyAt (barCell (nbr 0 c)) () 1
/-- What it owes at launch: a unit to the barrier cell of the device before besides. -/
def O₀ (c : Dev nD) : CellTallies nD τ sig Unit := O₁ c + tallyAt (barCell (nbr 1 c)) () 1

/-- A start takes one transfer off what is owed. -/
theorem Ow_step (c : Dev nD) (i : Fin 60) : Ow c i.val = Ow c (i.val + 1) + tallyAt (recvCell (tgt c i) i) () N := by
  unfold Ow
  rw [show (Finset.univ : Finset (Fin 60)).filter (fun j => i.val ≤ j.val) = insert i ((Finset.univ : Finset (Fin 60)).filter (fun j => i.val + 1 ≤ j.val)) from by
    ext j; simp only [Finset.mem_filter, Finset.mem_univ, true_and, Finset.mem_insert, Fin.ext_iff]; omega]
  rw [Finset.sum_insert (by simp), add_comm]
/-- After the last start nothing is owed. -/
theorem Ow_last (c : Dev nD) : Ow c 60 = 0 := by
  unfold Ow
  rw [Finset.filter_false_of_mem (fun j _ => by have := j.isLt; omega), Finset.sum_empty]

/-- Every cell of a core has a level. -/
def L (g : GSem nD τ sig) : Finset Unit := if g.1.2 = .tc then {()} else ∅
/-- Barrier cells first, then the receive cells hop by hop. -/
def lv (g : GSem nD τ sig) (_ : Unit) : ℕ :=
  match g.2 with
  | .reg _ => 1
  | .dma q => match role q with
    | some (true, i) => i.val / 4 + 2
    | _ => 0

/-- A cell that no core owns has none. -/
theorem L_of_ne (g : GSem nD τ sig) (h : g.1.2 ≠ .tc) : L g = ∅ := if_neg h
/-- A core's cell has one. -/
theorem L_tc (c : Dev nD) (sm : SemLoc sig) : L ((c : Thread nD τ), sm) = {()} := if_pos rfl
/-- The level of a barrier cell. -/
theorem lv_bar (c : Dev nD) : lv (barCell c) () = 1 := rfl
/-- The level of a receive cell: its hop's. -/
theorem lv_recv (c : Dev nD) (i : Fin 60) : lv (recvCell c i) () = i.val / 4 + 2 := by
  simp only [lv, role_recv]

/-- What is owed later is a transfer not yet started. -/
theorem Ow_pos {c : Dev nD} {a : ℕ} {g : GSem nD τ sig} {u : Unit} (h : 0 < Ow c a g u) : ∃ i : Fin 60, a ≤ i.val ∧ g = recvCell (tgt c i) i := by
  unfold Ow at h
  rw [Finset.sum_apply, Finsupp.finset_sum_apply] at h
  obtain ⟨i, hi, hp⟩ := Finset.exists_ne_zero_of_sum_ne_zero (Nat.pos_iff_ne_zero.mp h)
  rw [tallyAt_apply] at hp
  by_cases he : g = recvCell (tgt c i) i ∧ u = ()
  · exact ⟨i, (Finset.mem_filter.mp hi).2, he.1⟩
  · rw [if_neg he] at hp; exact absurd rfl hp
/-- What is owed at launch is a transfer or a signal to a neighbour. -/
theorem O₀_pos {c : Dev nD} {g : GSem nD τ sig} {u : Unit} (h : 0 < O₀ c g u) :
    (∃ i : Fin 60, g = recvCell (tgt c i) i) ∨ ∃ d, g = barCell (nbr d c) := by
  unfold O₀ O₁ at h
  rw [Pi.add_apply, Finsupp.add_apply, Pi.add_apply, Finsupp.add_apply, tallyAt_apply, tallyAt_apply] at h
  by_cases h0 : 0 < Ow c 0 g u
  · obtain ⟨i, -, hi⟩ := Ow_pos h0; exact .inl ⟨i, hi⟩
  by_cases h1 : g = barCell (nbr 0 c) ∧ u = ()
  · exact .inr ⟨0, h1.1⟩
  by_cases h2 : g = barCell (nbr 1 c) ∧ u = ()
  · exact .inr ⟨1, h2.1⟩
  rw [if_neg h1, if_neg h2, Nat.add_zero] at h
  exact absurd h h0

omit [FloatOps F] in
/-- A device may wait on a cell of a low level while it owes only transfers of higher ones. -/
theorem mayWait (c : Dev nD) (s : SemLoc sig) (a : ℕ) (h : ∀ i : Fin 60, a ≤ i.val → lv ((c : Thread nD τ), s) () < i.val / 4 + 2) :
    (levAts L lv : sProp 𝕄) ⊢ MayWait (c : Thread nD τ) s () (Ow c a) :=
  MayOwe.of_cut (L := L) (lev := lv) (lv ((c : Thread nD τ), s) ()) (fun p hp => by rw [Finset.mem_singleton.mp hp, L_tc]; exact Finset.mem_singleton_self _)
    (fun g u hg => by obtain ⟨i, -, rfl⟩ := Ow_pos hg; rw [L_tc]; exact Finset.mem_singleton_self _)
    (fun p hp => le_of_eq (by rw [Finset.mem_singleton.mp hp]))
    (fun g u hg => by obtain ⟨i, hi, rfl⟩ := Ow_pos hg; rw [show u = () from rfl, lv_recv]; exact h i hi)

end Cert.KernelIdeal.Hand
-- ==== Proof.Contents.lean ====
/-
  What the copies of the ring write: on its destination each leaves the rows of the result.
-/
module

public import proofs.«01_k».proof.Proof.Schedule

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- The result at row `4096 e + x₀` is the argument of device `e` at row `x₀`. -/
theorem G_at (c e : Dev nD) (x : S4096x1024.Idx) (j : S65536x1024.Idx) (h0 : (j 0).val = 4096 * e.val + (x 0).val) (h1 : (j 1).val = (x 1).val) :
    (G m c : S65536x1024.Idx → Elt F .f32) j = (X m e : S4096x1024.Idx → Elt F .f32) x := by
  have hx : (x 0).val < 4096 := (x 0).isLt
  have hj : (j 0).val < 65536 := (j 0).isLt
  have he : e = (⟨(j 0).val / 4096, by show _ < 16; omega⟩ : Dev nD) := Fin.ext (by show e.val = (j 0).val / 4096; omega)
  have hG : (G m c : S65536x1024.Idx → Elt F .f32) j = X m (⟨(j 0).val / 4096, by show _ < 16; omega⟩ : Dev nD)
    (fun a => if h : a = 0 then ⟨(j 0).val % 4096, by subst h; exact Nat.mod_lt _ (by decide)⟩
      else ⟨(j 1).val, by have : a = 1 := Fin.eq_one_of_ne_zero a h; subst this; exact (j 1).isLt⟩ : S4096x1024.Idx) := rfl
  rw [hG, ← he]
  refine congrArg _ (funext fun a => ?_)
  fin_cases a
  · exact Fin.ext (by show (j 0).val % 4096 = (x 0).val; omega)
  · exact Fin.ext (by show (j 1).val = (x 1).val; exact h1)

/-- Where an element of a tile lies in the result. -/
theorem tile_emb (q : Fin 64) (j : S1024x1024.Idx) (a : Fin 2) :
    (((tileM q).view.emb j : S65536x1024.Idx) a).val = (![1024 * q.val, 0] : Fin 2 → ℕ) a + (j a).val :=
  ValueKit.view_emb_slice_whole_unit_val main_v49 ![1024 * q.val, 0] S1024x1024.size (tile_inb q) j a
/-- Where an element of a tile lies in the argument. -/
theorem quarter_emb (k : Fin 4) (j : S1024x1024.Idx) (a : Fin 2) :
    (((quarterM k).view.emb j : S4096x1024.Idx) a).val = (![1024 * k.val, 0] : Fin 2 → ℕ) a + (j a).val :=
  ValueKit.view_emb_slice_whole_unit_val main_arg0 ![1024 * k.val, 0] S1024x1024.size (quarter_inb k) j a
/-- Where an element of a block lies in the result. -/
theorem block_emb (c : Dev nD) (j : S4096x1024.Idx) (a : Fin 2) :
    (((blockM c).view.emb j : S65536x1024.Idx) a).val = (![4096 * c.val, 0] : Fin 2 → ℕ) a + (j a).val :=
  ValueKit.view_emb_slice_whole_unit_val main_v49 ![4096 * c.val, 0] S4096x1024.size (block_inb c) j a

omit [FloatOps F] in
/-- A tile of the argument, written to its place in the result. -/
theorem land_quarter (c n : Dev nD) (k : Fin 4) (q : Fin 64) (hq : q.val = 4 * c.val + k.val) (fd : Buf (Elt F) ((n : Thread nD τ).loc main_v49)) :
    ∀ i ∈ (tileM q).view.set, (tileM q).view.write (Elt F) fd ((quarterM k).view.read (Elt F) (X m c)) Finset.univ i = G m n i := by
  intro i hi
  obtain ⟨j, rfl⟩ := View.exists_emb_of_mem_set _ hi
  rw [View.write_emb_of_mem _ _ (Finset.mem_univ _), View.read_apply]
  refine (G_at m n c ((quarterM k).view.emb j) ((tileM q).view.emb j) ?_ ?_).symm
  · rw [tile_emb, quarter_emb]; show 1024 * q.val + _ = 4096 * c.val + (1024 * k.val + _); omega
  · rw [tile_emb, quarter_emb]; rfl

omit [FloatOps F] in
/-- A tile of the result, written to the same tile on another device. -/
theorem land_tile (c n : Dev nD) (q : Fin 64) (fd : Buf (Elt F) ((n : Thread nD τ).loc main_v49)) :
    ∀ i ∈ (tileM q).view.set, (tileM q).view.write (Elt F) fd ((tileM q).view.read (Elt F) (G m c)) Finset.univ i = G m n i := by
  intro i hi
  obtain ⟨j, rfl⟩ := View.exists_emb_of_mem_set _ hi
  rw [View.write_emb_of_mem _ _ (Finset.mem_univ _), View.read_apply]
  rfl

omit [FloatOps F] in
/-- The argument, written to the device's own block of the result. -/
theorem land_block (c : Dev nD) (fd : Buf (Elt F) ((c : Thread nD τ).loc main_v49)) :
    ∀ i ∈ (blockM c).view.set, (blockM c).view.write (Elt F) fd (argM.view.read (Elt F) (X m c)) Finset.univ i = G m c i := by
  intro i hi
  obtain ⟨j, rfl⟩ := View.exists_emb_of_mem_set _ hi
  rw [View.write_emb_of_mem _ _ (Finset.mem_univ _), View.read_apply]
  refine (G_at m c c j ((blockM c).view.emb j) ?_ ?_).symm
  · rw [block_emb]; rfl
  · rw [block_emb]; show 0 + _ = _; omega

/-- The tile a transfer of the first hop sends is a tile of the device's own block. -/
theorem snd_first (c : Dev nD) (i : Fin 60) (h : i.val < 4) : (snd c i).val = 4 * c.val + (quart i).val := by
  have ho := org_first c ⟨i.val, h⟩
  show 4 * (org c i).val + 2 * (i.val % 2) + (i.val / 2) % 2 = 4 * c.val + (2 * (i.val % 2) + (i.val / 2) % 2)
  rw [show org c i = c from ho]; omega

end Cert.KernelIdeal.Hand
-- ==== Proof.Steps.lean ====
/-
  What a device holds after its first `a` starts, `b` receives and `e` completed sends, and what each operation of the kernel does to it.
-/
module

public import proofs.«01_k».proof.Proof.Contents
public import proofs.«01_k».proof.Proof.Gen.KernelIdeal.Points

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells, listed -/

set_option backward.proofsInPublic true in
/-- The counters of the copies: every one but the pipeline's. -/
def osem (k : Fin 121) : SemLoc sig := .dma ⟨k.val + 1, by show _ < 122; have := k.isLt; omega⟩
/-- The copies' cell `k` on device `c`. -/
abbrev kcell (p : Dev nD × Fin 121) : GSem nD τ sig := ((p.1 : Thread nD τ), osem p.2)

/-- The copies' counters are told apart by their numbers. -/
theorem osem_inj : ∀ j k : Fin 121, osem j = osem k → j = k := fun j k h => by
  unfold osem at h
  have := congrArg Fin.val (SemLoc.dma.inj h)
  have h' : j.val + 1 = k.val + 1 := this
  exact Fin.ext (by omega)

/-- Barrier cells as an embedding of the devices. -/
def barEmb : Dev nD ↪ GSem nD τ sig := ⟨fun c => barCell c, fun a b h => by
  have h1 : (a : Thread nD τ) = (b : Thread nD τ) := congrArg Prod.fst h
  exact congrArg Prod.fst h1⟩
/-- The copies' cells as an embedding. -/
def kEmb : (Dev nD × Fin 121) ↪ GSem nD τ sig := ⟨fun p => kcell p, fun a b h => by
  have h1 : (a.1 : Thread nD τ) = (b.1 : Thread nD τ) := congrArg Prod.fst h
  have h2 : osem a.2 = osem b.2 := congrArg Prod.snd h
  exact Prod.ext (show (a.1 : Thread nD τ).1 = (b.1 : Thread nD τ).1 from congrArg Prod.fst h1) (osem_inj _ _ h2)⟩
/-- All barrier cells. -/
def barCells : Finset (GSem nD τ sig) := Finset.univ.map barEmb
/-- All cells of copies. -/
def kCells : Finset (GSem nD τ sig) := Finset.univ.map kEmb

/-- The invariants of all cells. -/
def recs (κ : GSem nD τ sig → ℕ) : sProp 𝕄 := bigSep (barCells ∪ kCells) fun g => cellInv ER (Rd m) (κ g) g

instance recs_persistent (κ) : BI.Persistent (recs (F := F) m κ) := by unfold recs; infer_instance

omit [FloatOps F] in
/-- The invariant of one barrier cell. -/
theorem recs_bar (κ) (c : Dev nD) : recs m κ ⊢ cellInv ER (Rd (F := F) m) (κ (barCell c)) (barCell c) :=
  bigSep_elim (Finset.mem_union_left _ (Finset.mem_map.mpr ⟨c, Finset.mem_univ _, rfl⟩))
omit [FloatOps F] in
/-- The invariant of one copy's cell. -/
theorem recs_dma (κ) (c : Dev nD) (q : DmaSem sig) (hq : q.val ≠ 0) :
    recs m κ ⊢ cellInv ER (Rd (F := F) m) (κ ((c : Thread nD τ), .dma q)) ((c : Thread nD τ), .dma q) := by
  have hlt : q.val < 122 := q.isLt
  refine bigSep_elim (Finset.mem_union_right _ (Finset.mem_map.mpr ⟨(c, ⟨q.val - 1, by omega⟩), Finset.mem_univ _, ?_⟩))
  show ((c : Thread nD τ), osem ⟨q.val - 1, _⟩) = _
  unfold osem
  exact congrArg (fun x => ((c : Thread nD τ), SemLoc.dma x)) (Fin.ext (by show q.val - 1 + 1 = q.val; omega))

/-! ## The columns -/

section State
variable (κ : GSem nD τ sig → ℕ) (c : Dev nD)

/-- Transfers not yet started: the tile to write and the tokens. -/
def colA (a : ℕ) (i : Fin 60) : sProp 𝕄 :=
  if i.val < a then iprop(emp)
  else iprop(hand c i ∗ dutyTok ER (recvCell (tgt c i) i) 0 false ∗ dutyTok ER (sendCell c i) 0 false)
/-- Sources at hand: not yet sent, and here since the start or since their receive. -/
def colB (a b : ℕ) (i : Fin 60) : sProp 𝕄 :=
  if i.val < a then iprop(emp) else if i.val < b + 4 then sendPay m c i else iprop(emp)
/-- Send cells: completed ones with their source back, those in flight with the credit, the rest. -/
def colC (a e : ℕ) (i : Fin 60) : sProp 𝕄 :=
  if i.val < e then iprop(sendPay m c i ∗ atPos ER (sendCell c i) 1 ∅ 0)
  else if i.val < a then iprop(cred (tallyAt (sendCell c i) () N) ∗ atPos ER (sendCell c i) 0 ∅ 0)
  else atPos ER (sendCell c i) 0 ∅ 0
/-- Receive cells: received ones, of which the last hop's tiles stay, and the rest with the credit. -/
def colD (b : ℕ) (i : Fin 60) : sProp 𝕄 :=
  if i.val < b then (if 56 ≤ i.val then iprop(recvPay m c i ∗ atPos ER (recvCell c i) 1 ∅ 0) else atPos ER (recvCell c i) 1 ∅ 0)
  else iprop(cred (tallyAt (recvCell c i) () N) ∗ atPos ER (recvCell c i) 0 ∅ 0)

/-- The device after `a` starts, `b` receives and `e` completed sends, with `R` besides. -/
def St (R : sProp 𝕄) (a b e : ℕ) : sProp 𝕄 :=
  iprop(R ∗ recs m κ ∗ levAts L lv ∗ (bigSep Finset.univ fun i : Fin 60 => reached ER (sendCell c i) 0)
    ∗ bigSep Finset.univ (colA c a) ∗ bigSep Finset.univ (colB m c a b) ∗ bigSep Finset.univ (colC m c a e) ∗ bigSep Finset.univ (colD m c b)
    ∗ ∃ W, owes (c : Thread nD τ) (Ow c a) W)

omit [FloatOps F] in
/-- A start takes the tile to write and the tokens of its transfer. -/
theorem colA_start {a : ℕ} (ha : a < 60) : bigSep Finset.univ (colA (F := F) c a)
    ⊢ iprop((hand c ⟨a, ha⟩ ∗ dutyTok ER (recvCell (tgt c ⟨a, ha⟩) ⟨a, ha⟩) 0 false ∗ dutyTok ER (sendCell c ⟨a, ha⟩) 0 false)
        ∗ bigSep Finset.univ (colA (F := F) c (a + 1))) := by
  have h := bigSep_univ_update (Φ := colA (F := F) c a) (Ψ := colA (F := F) c (a + 1)) ⟨a, ha⟩ fun j hj => by
    have hj' : j.val ≠ a := fun h => hj (Fin.ext h)
    unfold colA
    by_cases hlt : j.val < a
    · rw [if_pos hlt, if_pos (by omega)]
    · rw [if_neg hlt, if_neg (by omega)]
  have e1 : colA (F := F) c a ⟨a, ha⟩ = iprop(hand c ⟨a, ha⟩ ∗ dutyTok ER (recvCell (tgt c ⟨a, ha⟩) ⟨a, ha⟩) 0 false ∗ dutyTok ER (sendCell c ⟨a, ha⟩) 0 false) := by
    unfold colA; exact if_neg (lt_irrefl a)
  have e2 : colA (F := F) c (a + 1) ⟨a, ha⟩ = iprop(emp) := by unfold colA; exact if_pos (Nat.lt_succ_self a)
  rw [e1, e2] at h
  refine h.trans ?_
  iintro ⟨$, H⟩
  iapply H
  iempintro

omit [FloatOps F] in
/-- A start takes the source of its transfer. -/
theorem colB_start {a b : ℕ} (ha : a < 60) (hb : a < b + 4) : bigSep Finset.univ (colB (F := F) m c a b)
    ⊢ iprop(sendPay m c ⟨a, ha⟩ ∗ bigSep Finset.univ (colB (F := F) m c (a + 1) b)) := by
  have h := bigSep_univ_update (Φ := colB (F := F) m c a b) (Ψ := colB (F := F) m c (a + 1) b) ⟨a, ha⟩ fun j hj => by
    have hj' : j.val ≠ a := fun h => hj (Fin.ext h)
    unfold colB
    by_cases hlt : j.val < a
    · rw [if_pos hlt, if_pos (by omega)]
    · rw [if_neg hlt, if_neg (show ¬ j.val < a + 1 by omega)]
  have e1 : colB (F := F) m c a b ⟨a, ha⟩ = sendPay m c ⟨a, ha⟩ := by
    unfold colB; rw [if_neg (lt_irrefl a), if_pos hb]
  have e2 : colB (F := F) m c (a + 1) b ⟨a, ha⟩ = iprop(emp) := by unfold colB; exact if_pos (Nat.lt_succ_self a)
  rw [e1, e2] at h
  refine h.trans ?_
  iintro ⟨$, H⟩
  iapply H
  iempintro

omit [FloatOps F] in
/-- A start puts the credit to the send cell of its transfer. -/
theorem colC_start {a e : ℕ} (ha : a < 60) (he : e ≤ a) : iprop(cred (tallyAt (sendCell c ⟨a, ha⟩) () N) ∗ bigSep Finset.univ (colC (F := F) m c a e))
    ⊢ bigSep Finset.univ (colC (F := F) m c (a + 1) e) := by
  have h := bigSep_univ_update (Φ := colC (F := F) m c a e) (Ψ := colC (F := F) m c (a + 1) e) ⟨a, ha⟩ fun j hj => by
    have hj' : j.val ≠ a := fun h => hj (Fin.ext h)
    unfold colC
    by_cases hlt : j.val < a
    · rw [if_pos hlt, if_pos (show j.val < a + 1 by omega)]
    · rw [if_neg hlt, if_neg (show ¬ j.val < a + 1 by omega)]
  have e1 : colC (F := F) m c a e ⟨a, ha⟩ = atPos ER (sendCell c ⟨a, ha⟩) 0 ∅ 0 := by
    unfold colC; rw [if_neg (show ¬ a < e by omega), if_neg (lt_irrefl a)]
  have e2 : colC (F := F) m c (a + 1) e ⟨a, ha⟩ = iprop(cred (tallyAt (sendCell c ⟨a, ha⟩) () N) ∗ atPos ER (sendCell c ⟨a, ha⟩) 0 ∅ 0) := by
    unfold colC; rw [if_neg (show ¬ a < e by omega), if_pos (Nat.lt_succ_self a)]
  rw [e1, e2] at h
  refine (sep_mono_right h).trans ?_
  iintro ⟨HC, HP, H⟩
  iapply H
  isplitl [HC] <;> iassumption

omit [FloatOps F] in
/-- The end of a send gives the credit and takes back the source. -/
theorem colC_send {a e : ℕ} (he : e < 60) (hea : e < a) : bigSep Finset.univ (colC (F := F) m c a e)
    ⊢ iprop((cred (tallyAt (sendCell c ⟨e, he⟩) () N) ∗ atPos ER (sendCell c ⟨e, he⟩) 0 ∅ 0)
        ∗ ((sendPay m c ⟨e, he⟩ ∗ atPos ER (sendCell c ⟨e, he⟩) 1 ∅ 0) -∗ bigSep Finset.univ (colC (F := F) m c a (e + 1)))) := by
  have h := bigSep_univ_update (Φ := colC (F := F) m c a e) (Ψ := colC (F := F) m c a (e + 1)) ⟨e, he⟩ fun j hj => by
    have hj' : j.val ≠ e := fun h => hj (Fin.ext h)
    unfold colC
    by_cases hlt : j.val < e
    · rw [if_pos hlt, if_pos (show j.val < e + 1 by omega)]
    · rw [if_neg hlt, if_neg (show ¬ j.val < e + 1 by omega)]
  have e1 : colC (F := F) m c a e ⟨e, he⟩ = iprop(cred (tallyAt (sendCell c ⟨e, he⟩) () N) ∗ atPos ER (sendCell c ⟨e, he⟩) 0 ∅ 0) := by
    unfold colC; rw [if_neg (lt_irrefl e), if_pos hea]
  have e2 : colC (F := F) m c a (e + 1) ⟨e, he⟩ = iprop(sendPay m c ⟨e, he⟩ ∗ atPos ER (sendCell c ⟨e, he⟩) 1 ∅ 0) := by
    unfold colC; exact if_pos (Nat.lt_succ_self e)
  rw [e1, e2] at h
  exact h

omit [FloatOps F] in
/-- What a receive brings is the source of the transfer four later, except in the last hop. -/
theorem recvPay_eq {b : ℕ} (hb : b + 4 < 60) : recvPay (F := F) m c ⟨b, by omega⟩ = sendPay m c ⟨b + 4, hb⟩ := by
  unfold recvPay sendPay
  rw [if_neg (show ¬ b + 4 < 4 by omega), show snd c ⟨b + 4, hb⟩ = rcv c ⟨b, by omega⟩ from snd_later c ⟨b, by omega⟩]

omit [FloatOps F] in
/-- A receive gives the credit, and the tile received becomes the source four transfers later. -/
theorem colBD_recv {a b : ℕ} (hb : b < 60) (hab : a ≤ b + 4) : iprop(bigSep Finset.univ (colB (F := F) m c a b) ∗ bigSep Finset.univ (colD (F := F) m c b))
    ⊢ iprop((cred (tallyAt (recvCell c ⟨b, hb⟩) () N) ∗ atPos ER (recvCell c ⟨b, hb⟩) 0 ∅ 0)
        ∗ ((recvPay m c ⟨b, hb⟩ ∗ atPos ER (recvCell c ⟨b, hb⟩) 1 ∅ 0)
            -∗ (bigSep Finset.univ (colB (F := F) m c a (b + 1)) ∗ bigSep Finset.univ (colD (F := F) m c (b + 1))))) := by
  have h := bigSep_univ_update (Φ := colD (F := F) m c b) (Ψ := colD (F := F) m c (b + 1)) ⟨b, hb⟩ fun j hj => by
    have hj' : j.val ≠ b := fun h => hj (Fin.ext h)
    unfold colD
    by_cases hlt : j.val < b
    · rw [if_pos hlt, if_pos (show j.val < b + 1 by omega)]
    · rw [if_neg hlt, if_neg (show ¬ j.val < b + 1 by omega)]
  have e1 : colD (F := F) m c b ⟨b, hb⟩ = iprop(cred (tallyAt (recvCell c ⟨b, hb⟩) () N) ∗ atPos ER (recvCell c ⟨b, hb⟩) 0 ∅ 0) := by
    unfold colD; exact if_neg (lt_irrefl b)
  rw [e1] at h
  by_cases h56 : 56 ≤ b
  · have e2 : colD (F := F) m c (b + 1) ⟨b, hb⟩ = iprop(recvPay m c ⟨b, hb⟩ ∗ atPos ER (recvCell c ⟨b, hb⟩) 1 ∅ 0) := by
      unfold colD; rw [if_pos (Nat.lt_succ_self b), if_pos h56]
    have e3 : colB (F := F) m c a (b + 1) = colB (F := F) m c a b := by
      funext j
      have := j.isLt
      unfold colB
      rw [if_pos (show j.val < b + 1 + 4 by omega), if_pos (show j.val < b + 4 by omega)]
    rw [e2] at h
    rw [e3]
    refine (sep_mono_right h).trans ?_
    iintro ⟨$, $, H⟩ HP
    iapply H $$ HP
  · have hb4 : b + 4 < 60 := by omega
    have h2 := bigSep_univ_update (Φ := colB (F := F) m c a b) (Ψ := colB (F := F) m c a (b + 1)) ⟨b + 4, hb4⟩ fun j hj => by
      have hj' : j.val ≠ b + 4 := fun h => hj (Fin.ext h)
      unfold colB
      by_cases hlt : j.val < b + 4
      · rw [if_pos hlt, if_pos (show j.val < b + 1 + 4 by omega)]
      · rw [if_neg hlt, if_neg (show ¬ j.val < b + 1 + 4 by omega)]
    have e2 : colD (F := F) m c (b + 1) ⟨b, hb⟩ = atPos ER (recvCell c ⟨b, hb⟩) 1 ∅ 0 := by
      unfold colD; rw [if_pos (Nat.lt_succ_self b), if_neg h56]
    have e4 : colB (F := F) m c a b ⟨b + 4, hb4⟩ = iprop(emp) := by
      unfold colB; rw [if_neg (show ¬ b + 4 < a by omega), if_neg (lt_irrefl (b + 4))]
    have e5 : colB (F := F) m c a (b + 1) ⟨b + 4, hb4⟩ = sendPay m c ⟨b + 4, hb4⟩ := by
      unfold colB; rw [if_neg (show ¬ b + 4 < a by omega), if_pos (show b + 4 < b + 1 + 4 by omega)]
    rw [e2] at h
    rw [e4, e5] at h2
    rw [recvPay_eq m c hb4]
    refine ((sep_mono_left h2).trans (sep_mono_right h)).trans ?_
    iintro ⟨⟨-, H2⟩, $, H⟩ ⟨HP, HA⟩
    isplitl [H2 HP]
    · iapply H2 $$ HP
    · iapply H $$ HA

/-! ## The operations -/

/-- What device `c` runs from `P` ends in `Q`. -/
abbrev TP {α : Type} (P : sProp 𝕄) (p : Prog (TpuEff nD τ sig (Elt F) Λ₀ .tc) α) (Q : α → sProp 𝕄) : Prop :=
  P ⊢ wp frame (wpE (defs₀ (F := F)) 𝒱₀ (c : Thread nD τ) none) Set.univ p Q

/-- One step after another. -/
theorem tp_bind {α β : Type} {P : sProp 𝕄} {p : Prog (TpuEff nD τ sig (Elt F) Λ₀ .tc) α} {k : α → Prog (TpuEff nD τ sig (Elt F) Λ₀ .tc) β} {Q : β → sProp 𝕄}
    (h : TP c P p fun a => wp frame (wpE (defs₀ (F := F)) 𝒱₀ (c : Thread nD τ) none) Set.univ (k a) Q) : TP c P (p >>= k) Q := by
  unfold TP; rw [wp_bind]; exact h

/-- A step that does nothing. -/
theorem tp_pure {α : Type} {P : sProp 𝕄} {a : α} {Q : α → sProp 𝕄} (h : P ⊢ Q a) : TP c P (pure a) Q := by
  unfold TP; rw [show (pure a : Prog (TpuEff nD τ sig (Elt F) Λ₀ .tc) α) = .ret a from rfl, wp_ret]
  iintro H; imodintro
  iapply h $$ H

/-- A check that holds passes. -/
theorem tp_assume {P : sProp 𝕄} {φ : Prop} {d : Decidable φ} {Q : PLift φ → sProp 𝕄} (hφ : φ) (h : P ⊢ Q ⟨hφ⟩) :
    TP c P (Prog.lift (TpuEff.assume φ d)) Q := by
  unfold TP Prog.lift
  rw [wp_assume_of 𝒱₀ (c : Thread nD τ) none Set.univ hφ]
  exact tp_pure c h

/-- The table in the device's scalar memory. -/
def tabPts : sProp 𝕄 :=
  ((Memref.whole cc0_stg0_0 : Memref sig .tc .smem S34 .i32).view.loc (c : Thread nD τ)) ↦{fullShare} (fun i : S34.Idx => metaW c (i 0).val)

/-- A load of word `j` of the table. -/
theorem tp_load {R : sProp 𝕄} {j : ℕ} {w : BitVec 32} (hw : metaW c j = w) {inb : ∀ a, (![j] : Fin 1 → ℕ) a + S1.size a ≤ S34.size a} {h1} {hp} {Q : Elt F .i32 → sProp 𝕄}
    (h : iprop(tabPts c ∗ R) ⊢ Q w) :
    TP c iprop(tabPts c ∗ R) (smemLoad (Memref.whole cc0_stg0_0 : Memref sig .tc .smem S34 .i32) (Rect.unit (s := S34) ![j] S1.size inb) h1 hp) Q := by
  subst hw
  unfold TP smemLoad smemLoadElt tabPts
  unfold tabPts at h
  iintro ⟨Ht, HR⟩
  iapply (wp_load_rect 𝒱₀ (c : Thread nD τ) none Set.univ (m := (Memref.whole cc0_stg0_0 : Memref sig .tc .smem S34 .i32))
    (r := Rect.unit (s := S34) ![j] S1.size inb) (Finset.subset_univ _)) $$ Ht
  iintro Ht
  rw [wp_ret]
  imodintro
  have e : ∀ x, ((Memref.whole cc0_stg0_0 : Memref sig .tc .smem S34 .i32).access (Rect.unit (s := S34) ![j] S1.size inb) : View sig .tc .smem S1 .i32).read (Elt F)
      (fun i : S34.Idx => metaW c (i 0).val) x = metaW c j := fun x => by
    rw [View.read_apply]
    show metaW c _ = _
    refine congrArg (metaW c) ?_
    have h0 := ValueKit.view_emb_slice_whole_unit_val cc0_stg0_0 ![j] S1.size inb x (0 : Fin 1)
    refine h0.trans ?_
    have hx : (x 0).val < 1 := (x 0).isLt
    show j + (x 0).val = j
    omega
  rw [e]
  iapply h
  isplitl [Ht] <;> iassumption

omit [FloatOps F] in
/-- A tile of the result credits the same wherever it starts. -/
theorem N_slice (off : Fin 2 → ℕ) (inb : ∀ a, off a + S1024x1024.size a ≤ S65536x1024.size a) :
    (outM.slice (Rect.unit (s := S65536x1024) off S1024x1024.size inb) (fun _ => rfl)).view.dmaCredit = N := by unfold N; rfl
omit [FloatOps F] in
/-- A tile of the argument credits the same wherever it starts. -/
theorem N_slice_arg (off : Fin 2 → ℕ) (inb : ∀ a, off a + S1024x1024.size a ≤ S4096x1024.size a) :
    (argM.slice (Rect.unit (s := S4096x1024) off S1024x1024.size inb) (fun _ => rfl)).view.dmaCredit = N := by unfold N; rfl

/-- A receive. -/
theorem tp_recv {A R : sProp 𝕄} {a : ℕ} (b : ℕ) (e : ℕ) (hb : b < 60) (hab : a ≤ b + 4) (hab' : b + 4 ≤ a ∨ 60 ≤ a) {q : DmaSem sig} (hq : q = recvS ⟨b, hb⟩)
    {s d : Memref sig .tc .hbm S1024x1024 .f32} {hs : s.view.WordExact} {hd : d.view.WordExact} (hN : d.view.dmaCredit = N) {Q : PUnit → sProp 𝕄}
    (h : iprop(A ∗ St m κ c R a (b + 1) e) ⊢ Q ⟨⟩) :
    TP c iprop(A ∗ St m κ c R a b e) (Prog.lift (.waitDma2 q s d hs hd)) Q := by
  subst hq
  unfold TP Prog.lift
  unfold St at h ⊢
  iintro ⟨HA, HR, #Hrec, #Hlev, #Hr, Ha, Hb, Hc, Hd, ⟨%W, HO⟩⟩
  icombine Hb Hd as Hbd
  ihave Hbd := (colBD_recv m c hb hab) $$ Hbd
  icases Hbd with ⟨⟨Hcr, Hat⟩, Hbd⟩
  iapply (Rounds.wp_wait_rest_token 𝒱₀ ER (Rd m) (c : Thread nD τ) none (κ := κ (recvCell c ⟨b, hb⟩)) (sm := .dma (recvS ⟨b, hb⟩)) (k' := N)
    (by rw [← hN]; exact wpE_waitDma2_eq 𝒱₀ (c : Thread nD τ) none Set.univ) (Set.mem_univ _) () (O := Ow c a) (W := W) (R := 0) (m := 0) (T := ∅)
    (by rw [Nat.zero_add, expect_dma m c _ (recvS_ne _) (recvS_pos _)])) $$ [Hcr HO Hat]
  · isplitr [Hcr HO Hat]
    · iapply (recs_dma m κ c (recvS ⟨b, hb⟩) (recvS_pos _)) $$ Hrec
    isplitl [Hcr]; · iexact Hcr
    isplitl [HO]; · iexact HO
    isplitl []
    · iapply (mayWait c (.dma (recvS ⟨b, hb⟩)) a (fun i hi => by
        rw [lv_recv]; show b / 4 + 2 < _; have := i.isLt; omega)) $$ Hlev
    iexact Hat
  iintro ⟨HO, Hat, -, Hp⟩
  ihave Hp := (Entails.of_eq ((rest_dma m c (recvS ⟨b, hb⟩) (recvS_pos _)).trans (payload_recv m c ⟨b, hb⟩ false))) $$ Hp
  ihave Hbd := Hbd $$ [Hp Hat]
  · isplitl [Hp] <;> iassumption
  icases Hbd with ⟨Hb, Hd⟩
  rw [wp_ret]
  imodintro
  iapply h
  isplitl [HA]; · iexact HA
  isplitl [HR]; · iexact HR
  isplitr; · iexact Hrec
  isplitr; · iexact Hlev
  isplitr; · iexact Hr
  isplitl [Ha]; · iexact Ha
  isplitl [Hb]; · iexact Hb
  isplitl [Hc]; · iexact Hc
  isplitl [Hd]; · iexact Hd
  iexists _
  iexact HO

/-- The wait for a send, after the last start. -/
theorem tp_send {A R : sProp 𝕄} (e : ℕ) (b : ℕ) (he : e < 60) {q : DmaSem sig} (hq : q = sendS ⟨e, he⟩)
    {s d : Memref sig .tc .hbm S1024x1024 .f32} {hs : s.view.WordExact} {hd : d.view.WordExact} (hN : d.view.dmaCredit = N) {Q : PUnit → sProp 𝕄}
    (h : iprop(A ∗ St m κ c R 60 b (e + 1)) ⊢ Q ⟨⟩) :
    TP c iprop(A ∗ St m κ c R 60 b e) (Prog.lift (.waitDma2 q s d hs hd)) Q := by
  subst hq
  unfold TP Prog.lift
  unfold St at h ⊢
  iintro ⟨HA, HR, #Hrec, #Hlev, #Hr, Ha, Hb, Hc, Hd, ⟨%W, HO⟩⟩
  ihave Hc := (colC_send m c he he) $$ Hc
  icases Hc with ⟨⟨Hcr, Hat⟩, Hc⟩
  iapply (Rounds.wp_wait_rest_token 𝒱₀ ER (Rd m) (c : Thread nD τ) none (κ := κ (sendCell c ⟨e, he⟩)) (sm := .dma (sendS ⟨e, he⟩)) (k' := N)
    (by rw [← hN]; exact wpE_waitDma2_eq 𝒱₀ (c : Thread nD τ) none Set.univ) (Set.mem_univ _) () (O := Ow c 60) (W := W) (R := 0) (m := 0) (T := ∅)
    (by rw [Nat.zero_add, expect_dma m c _ (sendS_ne _) (sendS_pos _)])) $$ [Hcr HO Hat]
  · isplitr [Hcr HO Hat]
    · iapply (recs_dma m κ c (sendS ⟨e, he⟩) (sendS_pos _)) $$ Hrec
    isplitl [Hcr]; · iexact Hcr
    isplitl [HO]; · iexact HO
    isplitl []
    · iapply (mayWait c (.dma (sendS ⟨e, he⟩)) 60 (fun i hi => by have := i.isLt; omega)) $$ Hlev
    iexact Hat
  iintro ⟨HO, Hat, -, Hp⟩
  ihave Hp := (Entails.of_eq ((rest_dma m c (sendS ⟨e, he⟩) (sendS_pos _)).trans (payload_send m c ⟨e, he⟩ false))) $$ Hp
  ihave Hc := Hc $$ [Hp Hat]
  · isplitl [Hp] <;> iassumption
  rw [wp_ret]
  imodintro
  iapply h
  isplitl [HA]; · iexact HA
  isplitl [HR]; · iexact HR
  isplitr; · iexact Hrec
  isplitr; · iexact Hlev
  isplitr; · iexact Hr
  isplitl [Ha]; · iexact Ha
  isplitl [Hb]; · iexact Hb
  isplitl [Hc]; · iexact Hc
  isplitl [Hd]; · iexact Hd
  iexists _
  iexact HO

omit [FloatOps F] in
/-- Each send cell is open. -/
theorem sends_reached (i : Fin 60) : (bigSep Finset.univ fun i : Fin 60 => reached ER (sendCell c i) 0 : sProp 𝕄) ⊢ reached ER (sendCell c i) 0 :=
  bigSep_elim (Finset.mem_univ i)

/-- What a transfer takes and leaves, from whatever memory it reads. -/
theorem start_core {A R : sProp 𝕄} {a : ℕ} (b e : ℕ) (ha : a < 60) (hb : a < b + 4) (he : e ≤ a)
    {sM : Memref sig .tc .hbm S1024x1024 .f32} {qs : PosShare TreeShare} {fs : Buf (Elt F) (sM.view.loc (c : Thread nD τ))}
    (hsrc : sendPay m c ⟨a, ha⟩ = (sM.view.loc (c : Thread nD τ) ↦[sM.view.set]{qs} fs))
    (hland : ∀ fd, ∀ i ∈ (tileM (snd c ⟨a, ha⟩)).view.set, (tileM (snd c ⟨a, ha⟩)).view.write (Elt F) fd (sM.view.read (Elt F) fs) Finset.univ i
      = G m (tgt c ⟨a, ha⟩) i)
    {hsc : (tileM (snd c ⟨a, ha⟩)).view.ref.isScScratch = false} {hs : sM.view.WordExact} {hd : (tileM (snd c ⟨a, ha⟩)).view.WordExact}
    {hsem : DmaTarget.Typed .hbm (.dma (recvS ⟨a, ha⟩)) (.remote (Dev.tc (tgt c ⟨a, ha⟩) : Thread nD τ) (tileM (snd c ⟨a, ha⟩)) (.dma (sendS ⟨a, ha⟩)) hsc)}
    {Q : PUnit → sProp 𝕄}
    (h : iprop(A ∗ St m κ c R (a + 1) b e) ⊢ Q ⟨⟩) :
    TP c iprop(A ∗ St m κ c R a b e)
      (Prog.lift (.enqueueDma sM (.remote (Dev.tc (tgt c ⟨a, ha⟩) : Thread nD τ) (tileM (snd c ⟨a, ha⟩)) (.dma (sendS ⟨a, ha⟩)) hsc) (.dma (recvS ⟨a, ha⟩)) hs hd hsem)) Q := by
  unfold TP Prog.lift
  unfold St at h ⊢
  iintro ⟨HA, HR, #Hrec, #Hlev, #Hr, Ha, Hb, Hc, Hd, ⟨%W, HO⟩⟩
  ihave Ha := (colA_start c ha) $$ Ha
  ihave Hb := (colB_start m c ha hb) $$ Hb
  rw [hsrc]
  unfold hand outPts
  icases Ha with ⟨⟨⟨⟨%fd, Hdst⟩, Hrr⟩, Ht1, Ht2⟩, Ha⟩
  icases Hb with ⟨Hsrc, Hb⟩
  iapply (Rounds.wp_send_pointsTo 𝒱₀ ER (Rd m) (c : Thread nD τ) none (c' := (tgt c ⟨a, ha⟩ : Thread nD τ)) (src := sM) (dst := tileM (snd c ⟨a, ha⟩))
    (sS := .dma (sendS ⟨a, ha⟩)) (sem := .dma (recvS ⟨a, ha⟩)) (q := qs) (fs := fs) (fd := fd)
    (κ₁ := κ (sendCell c ⟨a, ha⟩)) (κ₂ := κ (recvCell (tgt c ⟨a, ha⟩) ⟨a, ha⟩)) (r₁ := 0) (r₂ := 0) (d₁ := false) (d₂ := false)
    (by rw [duties_dma m c _ (sendS_pos _)]; exact Finset.mem_singleton_self _)
    (by rw [duties_dma m (tgt c ⟨a, ha⟩) _ (recvS_pos _)]; exact Finset.mem_singleton_self _) () () N (N_tile _)
    (amount_dma m c _ (sendS_ne _) _) (amount_dma m (tgt c ⟨a, ha⟩) _ (recvS_ne _) _) (Ow c (a + 1)) (Ow_step c ⟨a, ha⟩) (W := W)
    (by rw [payload_send, hsrc])
    (by rw [payload_recv]; unfold recvPay outPts; rw [rcv_tgt, pointsTo_congr (hland fd)])) $$ [Hsrc Hdst Hrr Ht1 Ht2 HO]
  · isplitr; · iapply (recs_dma m κ c (sendS ⟨a, ha⟩) (sendS_pos _)) $$ Hrec
    isplitr; · iapply (recs_dma m κ (tgt c ⟨a, ha⟩) (recvS ⟨a, ha⟩) (recvS_pos _)) $$ Hrec
    isplitl [Hsrc]; · iexact Hsrc
    isplitl [Hdst]; · iexact Hdst
    isplitl [HO]; · iexact HO
    isplitl [Ht2]; · iexact Ht2
    isplitr; · iapply (sends_reached c ⟨a, ha⟩) $$ Hr
    isplitl [Ht1]; · iexact Ht1
    iexact Hrr
  iintro ⟨Hcr, HO⟩
  icombine Hcr Hc as Hc
  ihave Hc := (colC_start m c ha he) $$ Hc
  rw [wp_ret]
  imodintro
  iapply h
  isplitl [HA]; · iexact HA
  isplitl [HR]; · iexact HR
  isplitr; · iexact Hrec
  isplitr; · iexact Hlev
  isplitr; · iexact Hr
  isplitl [Ha]; · iexact Ha
  isplitl [Hb]; · iexact Hb
  isplitl [Hc]; · iexact Hc
  isplitl [Hd]; · iexact Hd
  iexists _
  iexact HO

/-- A transfer of a later hop. -/
theorem tp_start {A R : sProp 𝕄} (a : ℕ) (b e : ℕ) (ha : a < 60) (h4 : 4 ≤ a) (hb : a < b + 4) (he : e ≤ a)
    {n : ℕ} {hn : n < nD} (en : n = (tgt c ⟨a, ha⟩).val) {o₁ o₂ : Fin 2 → ℕ}
    {i₁ : ∀ x, o₁ x + S1024x1024.size x ≤ S65536x1024.size x} {i₂ : ∀ x, o₂ x + S1024x1024.size x ≤ S65536x1024.size x}
    (e₁ : o₁ = ![1024 * (snd c ⟨a, ha⟩).val, 0]) (e₂ : o₂ = ![1024 * (snd c ⟨a, ha⟩).val, 0])
    {qs qr : DmaSem sig} (es : qs = sendS ⟨a, ha⟩) (er : qr = recvS ⟨a, ha⟩)
    {hsc} {hs} {hd} {hsem} {Q : PUnit → sProp 𝕄}
    (h : iprop(A ∗ St m κ c R (a + 1) b e) ⊢ Q ⟨⟩) :
    TP c iprop(A ∗ St m κ c R a b e)
      (Prog.lift (.enqueueDma (outM.slice (Rect.unit (s := S65536x1024) o₁ S1024x1024.size i₁) (fun _ => rfl))
        (.remote (Dev.tc (⟨n, hn⟩ : Dev nD) : Thread nD τ) (outM.slice (Rect.unit (s := S65536x1024) o₂ S1024x1024.size i₂) (fun _ => rfl)) (.dma qs) hsc)
        (.dma qr) hs hd hsem)) Q := by
  subst en e₁ e₂ es er
  exact start_core m κ c b e ha hb he (qs := fullShare) (fs := G m c) (by unfold sendPay outPts; exact if_neg (by show ¬ a < 4; omega))
    (land_tile m c _ _) h

/-- A transfer of the first hop. -/
theorem tp_first {A R : sProp 𝕄} (a : ℕ) (b e : ℕ) (ha : a < 60) (h4 : a < 4) (hb : a < b + 4) (he : e ≤ a)
    {n : ℕ} {hn : n < nD} (en : n = (tgt c ⟨a, ha⟩).val) {o₁ o₂ : Fin 2 → ℕ}
    {i₁ : ∀ x, o₁ x + S1024x1024.size x ≤ S4096x1024.size x} {i₂ : ∀ x, o₂ x + S1024x1024.size x ≤ S65536x1024.size x}
    (e₁ : o₁ = ![1024 * (quart ⟨a, ha⟩).val, 0]) (e₂ : o₂ = ![1024 * (snd c ⟨a, ha⟩).val, 0])
    {qs qr : DmaSem sig} (es : qs = sendS ⟨a, ha⟩) (er : qr = recvS ⟨a, ha⟩)
    {hsc} {hs} {hd} {hsem} {Q : PUnit → sProp 𝕄}
    (h : iprop(A ∗ St m κ c R (a + 1) b e) ⊢ Q ⟨⟩) :
    TP c iprop(A ∗ St m κ c R a b e)
      (Prog.lift (.enqueueDma (argM.slice (Rect.unit (s := S4096x1024) o₁ S1024x1024.size i₁) (fun _ => rfl))
        (.remote (Dev.tc (⟨n, hn⟩ : Dev nD) : Thread nD τ) (outM.slice (Rect.unit (s := S65536x1024) o₂ S1024x1024.size i₂) (fun _ => rfl)) (.dma qs) hsc)
        (.dma qr) hs hd hsem)) Q := by
  subst en e₁ e₂ es er
  exact start_core m κ c b e ha hb he (qs := fullShare.right) (fs := X m c) (by unfold sendPay quartPts; exact if_pos h4)
    (land_quarter m c _ _ _ (snd_first c _ h4)) h

end State

end Cert.KernelIdeal.Hand
-- ==== Proof.Mem.lean ====
/-
  The result split into the own block and the tiles that come over the ring, the argument into the shares it is read with.
-/
module

public import proofs.«01_k».proof.Proof.Steps

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

omit [FloatOps F] in
/-- Two assertions each of which gives the other are one. -/
theorem eq_of {P Q : sProp 𝕄} (h : P ⊣⊢ Q) : P = Q := BI.equiv_iff.mp ⟨h.1, h.2⟩

/-! ## Which rows a tile and a block have -/

/-- A tile's entries are those of its 1024 rows. -/
theorem mem_tile (q : Fin 64) (j : S65536x1024.Idx) : j ∈ (tileM q).view.set ↔ (j 0).val / 1024 = q.val := by
  show j ∈ ((View.whole main_v49).slice (tileR q)).set ↔ _
  rw [View.set_slice_whole, Rect.mem_set_unit]
  have h0 : (j 0).val < 65536 := (j 0).isLt
  have h1 : (j 1).val < 1024 := (j 1).isLt
  constructor
  · intro h
    have h' : 1024 * q.val ≤ (j 0).val ∧ (j 0).val < 1024 * q.val + 1024 := h 0
    omega
  · intro h a
    fin_cases a
    · show 1024 * q.val ≤ (j 0).val ∧ (j 0).val < 1024 * q.val + 1024; omega
    · show 0 ≤ (j 1).val ∧ (j 1).val < 0 + 1024; omega
/-- A block's entries are those of its 4096 rows. -/
theorem mem_block (j : S65536x1024.Idx) : j ∈ (blockM c).view.set ↔ (j 0).val / 4096 = c.val := by
  show j ∈ ((View.whole main_v49).slice (blockR c)).set ↔ _
  rw [View.set_slice_whole, Rect.mem_set_unit]
  have h0 : (j 0).val < 65536 := (j 0).isLt
  have h1 : (j 1).val < 1024 := (j 1).isLt
  constructor
  · intro h
    have h' : 4096 * c.val ≤ (j 0).val ∧ (j 0).val < 4096 * c.val + 4096 := h 0
    omega
  · intro h a
    fin_cases a
    · show 4096 * c.val ≤ (j 0).val ∧ (j 0).val < 4096 * c.val + 4096; omega
    · show 0 ≤ (j 1).val ∧ (j 1).val < 0 + 1024; omega
/-- A quarter's entries are those of its 1024 rows of the argument. -/
theorem mem_quarter (k : Fin 4) (j : S4096x1024.Idx) : j ∈ (quarterM k).view.set ↔ (j 0).val / 1024 = k.val := by
  show j ∈ ((View.whole main_arg0).slice (quarterR k)).set ↔ _
  rw [View.set_slice_whole, Rect.mem_set_unit]
  have h0 : (j 0).val < 4096 := (j 0).isLt
  have h1 : (j 1).val < 1024 := (j 1).isLt
  constructor
  · intro h
    have h' : 1024 * k.val ≤ (j 0).val ∧ (j 0).val < 1024 * k.val + 1024 := h 0
    omega
  · intro h a
    fin_cases a
    · show 1024 * k.val ≤ (j 0).val ∧ (j 0).val < 1024 * k.val + 1024; omega
    · show 0 ≤ (j 1).val ∧ (j 1).val < 0 + 1024; omega

/-- No tile that comes over the ring is of the device's own block. -/
theorem rcv_other (i : Fin 60) : (rcv c i).val / 4 ≠ c.val := fun h => by
  have h1 := (cls_none c (rcv c i)).2 h
  rw [cls_rcv] at h1
  exact Option.some_ne_none _ h1
/-- Two transfers bring different tiles. -/
theorem rcv_inj {i j : Fin 60} (h : rcv c i = rcv c j) : i = j := by
  have h1 := cls_rcv c i
  rw [h, cls_rcv] at h1
  exact (Option.some.inj h1).symm

/-- The own block and the tiles that come over the ring are the whole result. -/
theorem out_cover : (Finset.univ : Finset S65536x1024.Idx)
    = (blockM c).view.set ∪ (Finset.univ : Finset (Fin 60)).biUnion fun i => (tileM (rcv c i)).view.set := by
  refine (Finset.eq_univ_iff_forall.mpr fun j => ?_).symm
  have hj : (j 0).val < 65536 := (j 0).isLt
  rw [Finset.mem_union, Finset.mem_biUnion]
  rcases h : cls c ⟨(j 0).val / 1024, by omega⟩ with _ | i
  · refine .inl ((mem_block c j).2 ?_)
    have h1 : (j 0).val / 1024 / 4 = c.val := (cls_none c _).1 h
    omega
  · exact .inr ⟨i, Finset.mem_univ _, (mem_tile _ j).2 (congrArg Fin.val (cls_some h)).symm⟩
/-- No tile overlaps the own block. -/
theorem out_disjoint : Disjoint (blockM c).view.set ((Finset.univ : Finset (Fin 60)).biUnion fun i => (tileM (rcv c i)).view.set) := by
  rw [Finset.disjoint_left]
  intro j h1 h2
  obtain ⟨i, -, hi⟩ := Finset.mem_biUnion.mp h2
  have a := (mem_block c j).1 h1
  have b := (mem_tile _ j).1 hi
  exact rcv_other c i (by omega)
/-- No two tiles overlap. -/
theorem tiles_disjoint (i j : Fin 60) (h : i ≠ j) : Disjoint (tileM (rcv c i)).view.set (tileM (rcv c j)).view.set := by
  rw [Finset.disjoint_left]
  intro x h1 h2
  have a := (mem_tile _ x).1 h1
  have b := (mem_tile _ x).1 h2
  exact h (rcv_inj c (Fin.ext (by omega)))

omit [FloatOps F] in
/-- The result, whole, is the own block and the tiles. -/
theorem out_split (f : Buf (Elt F) ((c : Thread nD τ).loc main_v49)) :
    (((c : Thread nD τ).loc main_v49) ↦{fullShare} f : sProp 𝕄) = iprop(blockPts c f ∗ bigSep Finset.univ fun i : Fin 60 => outPts c (rcv c i) f) := by
  have h1 : (((c : Thread nD τ).loc main_v49) ↦{fullShare} f : sProp 𝕄)
      = (((c : Thread nD τ).loc main_v49) ↦[(blockM c).view.set ∪ (Finset.univ : Finset (Fin 60)).biUnion fun i => (tileM (rcv c i)).view.set]{fullShare} f : sProp 𝕄) :=
    congrArg (fun S : Finset S65536x1024.Idx => (((c : Thread nD τ).loc main_v49) ↦[S]{fullShare} f : sProp 𝕄)) (out_cover c)
  have h2 : (((c : Thread nD τ).loc main_v49) ↦[(Finset.univ : Finset (Fin 60)).biUnion fun i => (tileM (rcv c i)).view.set]{fullShare} f : sProp 𝕄)
      = bigSep Finset.univ fun i : Fin 60 => outPts c (rcv c i) f :=
    pointsTo_biUnion _ _ fun i _ j _ h => tiles_disjoint c i j h
  rw [h1, eq_of (pointsTo_union (out_disjoint c)), h2]
  rfl

/-- The quarters are the whole argument. -/
theorem arg_cover : (Finset.univ : Finset S4096x1024.Idx) = (Finset.univ : Finset (Fin 4)).biUnion fun k => (quarterM k).view.set := by
  refine (Finset.eq_univ_iff_forall.mpr fun j => ?_).symm
  have hj : (j 0).val < 4096 := (j 0).isLt
  rw [Finset.mem_biUnion]
  exact ⟨⟨(j 0).val / 1024, by omega⟩, Finset.mem_univ _, (mem_quarter _ j).2 rfl⟩
/-- No two of them overlap. -/
theorem quarters_disjoint (i j : Fin 4) (h : i ≠ j) : Disjoint (quarterM i).view.set (quarterM j).view.set := by
  rw [Finset.disjoint_left]
  intro x h1 h2
  have a := (mem_quarter _ x).1 h1
  have b := (mem_quarter _ x).1 h2
  exact h (Fin.ext (by omega))

omit [FloatOps F] in
/-- The argument, whole, is the half the copy reads with and the quarters the transfers read with. -/
theorem arg_split :
    (((c : Thread nD τ).loc main_arg0) ↦{fullShare} X m c : sProp 𝕄) = iprop(argPts m c ∗ bigSep Finset.univ fun k : Fin 4 => quartPts m c k) := by
  have h1 : (((c : Thread nD τ).loc main_arg0) ↦{fullShare.right} X m c : sProp 𝕄)
      = (((c : Thread nD τ).loc main_arg0) ↦[(Finset.univ : Finset (Fin 4)).biUnion fun k => (quarterM k).view.set]{fullShare.right} X m c : sProp 𝕄) :=
    congrArg (fun S : Finset S4096x1024.Idx => (((c : Thread nD τ).loc main_arg0) ↦[S]{fullShare.right} X m c : sProp 𝕄)) arg_cover
  have h2 : (((c : Thread nD τ).loc main_arg0) ↦[(Finset.univ : Finset (Fin 4)).biUnion fun k => (quarterM k).view.set]{fullShare.right} X m c : sProp 𝕄)
      = bigSep Finset.univ fun k : Fin 4 => quartPts m c k :=
    pointsTo_biUnion _ _ fun i _ j _ h => quarters_disjoint i j h
  have h3 : argPts m c = (((c : Thread nD τ).loc main_arg0) ↦{fullShare.left} X m c : sProp 𝕄) := by
    unfold argPts
    rw [show (argM.view.set) = Finset.univ from View.set_whole _]
  rw [eq_of (pointsTo_share (PosShare.mem_left_op_right fullShare)), h1, h2, h3]

/-! ## Families over the sixty transfers -/

omit [FloatOps F] in
/-- The first four and the others. -/
theorem first_four (Φ : Fin 60 → sProp 𝕄) : bigSep Finset.univ Φ
    = iprop((bigSep Finset.univ fun i : Fin 4 => Φ ⟨i.val, by omega⟩) ∗ bigSep Finset.univ fun i : Fin 56 => Φ ⟨i.val + 4, by omega⟩) := by
  have h := (bigSep_univ_equiv (finSumFinEquiv (m := 4) (n := 56)) (Φ : Fin (4 + 56) → sProp 𝕄)).trans (bigSep_univ_sum _)
  refine (h : bigSep Finset.univ Φ = _).trans (congrArg₂ BI.sep (bigSep_congr fun i _ => congrArg Φ (Fin.ext ?_)) (bigSep_congr fun i _ => congrArg Φ (Fin.ext ?_)))
  · exact congrArg Fin.val (finSumFinEquiv_apply_left i)
  · exact (congrArg Fin.val (finSumFinEquiv_apply_right i)).trans (Nat.add_comm _ _)
omit [FloatOps F] in
/-- The last four and the others. -/
theorem last_four (Φ : Fin 60 → sProp 𝕄) : bigSep Finset.univ Φ
    = iprop((bigSep Finset.univ fun i : Fin 56 => Φ ⟨i.val, by omega⟩) ∗ bigSep Finset.univ fun i : Fin 4 => Φ ⟨56 + i.val, by omega⟩) := by
  have h := (bigSep_univ_equiv (finSumFinEquiv (m := 56) (n := 4)) (Φ : Fin (56 + 4) → sProp 𝕄)).trans (bigSep_univ_sum _)
  refine (h : bigSep Finset.univ Φ = _).trans (congrArg₂ BI.sep (bigSep_congr fun i _ => congrArg Φ (Fin.ext ?_)) (bigSep_congr fun i _ => congrArg Φ (Fin.ext ?_)))
  · exact congrArg Fin.val (finSumFinEquiv_apply_left i)
  · exact congrArg Fin.val (finSumFinEquiv_apply_right i)

set_option backward.proofsInPublic true in
/-- The quarters in the order the first four transfers read them. -/
def quartE : Fin 4 ≃ Fin 4 where
  toFun i := quart ⟨i.val, by omega⟩
  invFun i := quart ⟨i.val, by omega⟩
  left_inv := by decide
  right_inv := by decide

omit [FloatOps F] in
/-- The sources of the first hop are the quarters. -/
theorem sources_first : (bigSep Finset.univ fun i : Fin 4 => sendPay m c ⟨i.val, by omega⟩) = bigSep Finset.univ fun k : Fin 4 => quartPts m c k := by
  rw [bigSep_univ_equiv quartE fun k : Fin 4 => quartPts m c k]
  refine bigSep_congr fun i _ => ?_
  unfold sendPay
  exact if_pos i.isLt
omit [FloatOps F] in
/-- At the start the sources at hand are the quarters. -/
theorem sources_start : bigSep Finset.univ (colB m c 0 0) = bigSep Finset.univ fun k : Fin 4 => quartPts m c k := by
  rw [first_four, ← sources_first]
  have h1 : (bigSep Finset.univ fun i : Fin 4 => colB m c 0 0 ⟨i.val, by omega⟩) = bigSep Finset.univ fun i : Fin 4 => sendPay m c ⟨i.val, by omega⟩ :=
    bigSep_congr fun i _ => by
      unfold colB
      rw [if_neg (Nat.not_lt_zero _), if_pos (show i.val < 0 + 4 by have := i.isLt; omega)]
  have h2 : (bigSep Finset.univ fun i : Fin 56 => colB m c 0 0 ⟨i.val + 4, by omega⟩) = iprop(emp) :=
    (bigSep_congr fun i _ => by
      unfold colB
      rw [if_neg (Nat.not_lt_zero _), if_neg (show ¬ i.val + 4 < 0 + 4 by omega)]; rfl).trans (BI.bigSep_emp_const _)
  rw [h1, h2]
  exact eq_of sep_emp
omit [FloatOps F] in
/-- The tiles sent after the first hop and those of the last receive are all tiles that came. -/
theorem tiles_end : bigSep Finset.univ (fun i : Fin 60 => outPts c (rcv c i) (G m c))
    = iprop((bigSep Finset.univ fun i : Fin 56 => sendPay m c ⟨i.val + 4, by omega⟩) ∗ bigSep Finset.univ fun i : Fin 4 => recvPay m c ⟨56 + i.val, by omega⟩) := by
  rw [last_four]
  refine congrArg₂ BI.sep (bigSep_congr fun i _ => ?_) (bigSep_congr fun i _ => rfl)
  unfold sendPay
  rw [if_neg (show ¬ i.val + 4 < 4 by omega), snd_later]

end Cert.KernelIdeal.Hand
-- ==== Proof.Enter.lean ====
/-
  The barrier and the copy of a device's own block.
-/
module

public import proofs.«01_k».proof.Proof.Steps

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-- The unit for the barrier cell of the neighbour `n` of `c`, for its direction `d`, with what it carries. -/
def barDuty (n : Dev nD) (d : Bool) : sProp 𝕄 := iprop(dutyTok ER (barCell n) 0 d ∗ barPay n d ∗ reached ER (barCell n) 0)

/-- A run from less is a run from more. -/
theorem tp_mono {α : Type} {P P' : sProp 𝕄} {p : Prog (TpuEff nD τ sig (Elt F) Λ₀ .tc) α} {Q : α → sProp 𝕄} (hP : P ⊢ P') (h : TP c P' p Q) : TP c P p Q :=
  hP.trans h

/-- A unit to a neighbour's barrier cell, for which `c` owes `O + 1`. -/
theorem tp_signal {A : sProp 𝕄} (d : Bool) (nb : Dev nD) {n : ℕ} {hn : n < nD} (en : n = nb.val) (O₁ O : CellTallies nD τ sig Unit)
    (hO : O₁ = O + tallyAt (barCell nb) () 1) {Q : PUnit → sProp 𝕄}
    (h : iprop(A ∗ recs m κ ∗ ∃ W, owes (c : Thread nD τ) O W) ⊢ Q ⟨⟩) :
    TP c iprop(A ∗ recs m κ ∗ barDuty nb d ∗ ∃ W, owes (c : Thread nD τ) O₁ W) (semSignalWord (⟨n, hn⟩ : Dev nD) barS 1#32) Q := by
  subst en
  unfold TP semSignalWord
  rw [show (1#32 : BitVec 32).toInt = ((1#32 : BitVec 32).toNat : Int) from rfl]
  unfold barDuty
  iintro ⟨HA, #Hrec, ⟨Htok, Hp, Hr⟩, ⟨%W, HO⟩⟩
  iapply (Rounds.wp_signal 𝒱₀ ER (Rd m) (c : Thread nD τ) none (dst := (nb : Thread nD τ)) (sem := barS) (r := 0) (d := d) (κ := κ (barCell nb))
    (by rw [duties_bar]; exact Finset.mem_univ _) ((amount_bar m nb d).trans (by decide)) () O hO) $$ [HO Htok Hp Hr]
  · isplitr; · iapply (recs_bar m κ nb) $$ Hrec
    isplitl [HO]; · iexact HO
    isplitl [Htok]; · iexact Htok
    isplitl [Hp]
    · rw [payload_bar]; iexact Hp
    iexact Hr
  iintro HO
  rw [wp_ret]
  imodintro
  iapply h
  isplitl [HA]; · iexact HA
  isplitr; · iexact Hrec
  iexists _
  iexact HO

/-- The wait for both neighbours. -/
theorem tp_barrier {A : sProp 𝕄} {Q : PUnit → sProp 𝕄}
    (h : iprop(A ∗ recs m κ ∗ levAts L lv ∗ (barPay c false ∗ barPay c true) ∗ atPos ER (barCell c) 1 ∅ 0 ∗ ∃ W, owes (c : Thread nD τ) (Ow c 0) W) ⊢ Q ⟨⟩) :
    TP c iprop(A ∗ recs m κ ∗ levAts L lv ∗ (cred (tallyAt (barCell c) () 2) ∗ atPos ER (barCell c) 0 ∅ 0) ∗ ∃ W, owes (c : Thread nD τ) (Ow c 0) W)
      (semWaitWord barS 2#32) Q := by
  unfold TP semWaitWord
  rw [show (2#32 : BitVec 32).toInt = ((2#32 : BitVec 32).toNat : Int) from rfl]
  iintro ⟨HA, #Hrec, #Hlev, ⟨Hcr, Hat⟩, ⟨%W, HO⟩⟩
  iapply (Rounds.wp_wait_rest_token 𝒱₀ ER (Rd m) (c : Thread nD τ) none (κ := κ (barCell c)) (sm := .reg barS)
    (wpE_semWait_eq 𝒱₀ (c : Thread nD τ) none Set.univ) (Set.mem_univ _) () (O := Ow c 0) (W := W) (R := 0) (m := 0) (T := ∅)
    (by rw [expect_bar]; decide)) $$ [Hcr HO Hat]
  · isplitr; · iapply (recs_bar m κ c) $$ Hrec
    isplitl [Hcr]; · iexact Hcr
    isplitl [HO]; · iexact HO
    isplitr
    · iapply (mayWait c (.reg barS) 0 (fun i hi => by rw [lv_bar]; omega)) $$ Hlev
    iexact Hat
  iintro ⟨HO, Hat, -, Hp⟩
  ihave Hp := (Entails.of_eq (rest_bar m c)) $$ Hp
  rw [wp_ret]
  imodintro
  iapply h
  isplitl [HA]; · iexact HA
  isplitr; · iexact Hrec
  isplitr; · iexact Hlev
  isplitl [Hp]; · iexact Hp
  isplitl [Hat]; · iexact Hat
  iexists _
  iexact HO

/-- The start of the copy of the own block. -/
theorem tp_copy {A : sProp 𝕄} {o : Fin 2 → ℕ} {inb : ∀ x, o x + S4096x1024.size x ≤ S65536x1024.size x} (eo : o = ![4096 * c.val, 0]) {q : DmaSem sig} (eq : q = copyS)
    {hs} {hd} {hsem} {Q : PUnit → sProp 𝕄}
    (h : iprop(A ∗ recs m κ ∗ cred (tallyAt (copyCell c) () NC)) ⊢ Q ⟨⟩) :
    TP c iprop(A ∗ recs m κ ∗ (∃ f, blockPts c f) ∗ argPts m c ∗ dutyTok ER (copyCell c) 0 false ∗ reached ER (copyCell c) 0)
      (Prog.lift (.enqueueDma argM (.here (outM.slice (Rect.unit (s := S65536x1024) o S4096x1024.size inb) (fun _ => rfl))) (.dma q) hs hd hsem)) Q := by
  subst eo eq
  unfold TP Prog.lift
  unfold blockPts argPts
  iintro ⟨HA, #Hrec, ⟨%f, Hb⟩, Hx, Htok, Hr⟩
  iapply (Rounds.wp_copy_pointsTo 𝒱₀ ER (Rd m) (c : Thread nD τ) none (src := argM) (dst := blockM c) (sem := .dma copyS) (q := fullShare.left) (fs := X m c) (fd := f)
    (r := 0) (d := false) (κ := κ (copyCell c)) (by rw [duties_dma m c _ copyS_pos]; exact Finset.mem_singleton_self _) () NC (NC_block c) (amount_copy m c false)
    (by rw [payload_copy]; unfold copyPay blockPts argPts; rw [pointsTo_congr (land_block m c f)])) $$ [Hb Hx Htok Hr]
  · isplitr; · iapply (recs_dma m κ c copyS copyS_pos) $$ Hrec
    isplitl [Hx]; · iexact Hx
    isplitl [Hb]; · iexact Hb
    isplitl [Htok]; · iexact Htok
    iexact Hr
  iintro Hcr
  rw [wp_ret]
  imodintro
  iapply h
  isplitl [HA]; · iexact HA
  isplitr; · iexact Hrec
  iexact Hcr

/-- The wait for the copy, at the end. -/
theorem tp_copied {A : sProp 𝕄} {q : DmaSem sig} (eq : q = copyS) {s d : Memref sig .tc .hbm S4096x1024 .f32} {hs : s.view.WordExact} {hd : d.view.WordExact}
    (hN : d.view.dmaCredit = NC) {Q : PUnit → sProp 𝕄}
    (h : iprop(A ∗ recs m κ ∗ levAts L lv ∗ copyPay m c ∗ atPos ER (copyCell c) 1 ∅ 0 ∗ ∃ W, owes (c : Thread nD τ) (Ow c 60) W) ⊢ Q ⟨⟩) :
    TP c iprop(A ∗ recs m κ ∗ levAts L lv ∗ (cred (tallyAt (copyCell c) () NC) ∗ atPos ER (copyCell c) 0 ∅ 0) ∗ ∃ W, owes (c : Thread nD τ) (Ow c 60) W)
      (Prog.lift (.waitDma2 q s d hs hd)) Q := by
  subst eq
  unfold TP Prog.lift
  iintro ⟨HA, #Hrec, #Hlev, ⟨Hcr, Hat⟩, ⟨%W, HO⟩⟩
  iapply (Rounds.wp_wait_rest_token 𝒱₀ ER (Rd m) (c : Thread nD τ) none (κ := κ (copyCell c)) (sm := .dma copyS) (k' := NC)
    (by rw [← hN]; exact wpE_waitDma2_eq 𝒱₀ (c : Thread nD τ) none Set.univ) (Set.mem_univ _) () (O := Ow c 60) (W := W) (R := 0) (m := 0) (T := ∅)
    (by rw [Nat.zero_add, expect_copy])) $$ [Hcr HO Hat]
  · isplitr; · iapply (recs_dma m κ c copyS copyS_pos) $$ Hrec
    isplitl [Hcr]; · iexact Hcr
    isplitl [HO]; · iexact HO
    isplitr
    · iapply (mayWait c (.dma copyS) 60 (fun i hi => by have := i.isLt; omega)) $$ Hlev
    iexact Hat
  iintro ⟨HO, Hat, -, Hp⟩
  ihave Hp := (Entails.of_eq ((rest_dma m c copyS copyS_pos).trans (payload_copy m c false))) $$ Hp
  rw [wp_ret]
  imodintro
  iapply h
  isplitl [HA]; · iexact HA
  isplitr; · iexact Hrec
  isplitr; · iexact Hlev
  isplitl [Hp]; · iexact Hp
  isplitl [Hat]; · iexact Hat
  iexists _
  iexact HO

/-! ## The state before the barrier -/

/-- The tokens of the transfers. -/
def toks : sProp 𝕄 :=
  bigSep Finset.univ fun i : Fin 60 => iprop(dutyTok ER (recvCell (tgt c i) i) 0 false ∗ dutyTok ER (sendCell c i) 0 false)

/-- What a device starts with. -/
def Start (R : sProp 𝕄) : sProp 𝕄 :=
  iprop(R ∗ recs m κ ∗ levAts L lv ∗ (bigSep Finset.univ fun i : Fin 60 => reached ER (sendCell c i) 0)
    ∗ (barDuty (nbr 1 c) false ∗ barDuty (nbr 0 c) true) ∗ (cred (tallyAt (barCell c) () 2) ∗ atPos ER (barCell c) 0 ∅ 0)
    ∗ ((∃ f, blockPts c f) ∗ argPts m c ∗ dutyTok ER (copyCell c) 0 false ∗ reached ER (copyCell c) 0)
    ∗ atPos ER (copyCell c) 0 ∅ 0
    ∗ toks c ∗ bigSep Finset.univ (colB m c 0 0) ∗ bigSep Finset.univ (colC m c 0 0) ∗ bigSep Finset.univ (colD m c 0)
    ∗ ∃ W, owes (c : Thread nD τ) (O₀ c) W)

/-- What stays besides the state of the transfers. -/
def Rest (R : sProp 𝕄) : sProp 𝕄 :=
  iprop(R ∗ atPos ER (barCell c) 1 ∅ 0 ∗ cred (tallyAt (copyCell c) () NC) ∗ atPos ER (copyCell c) 0 ∅ 0)

omit [FloatOps F] in
/-- With the tiles the neighbours hand over every transfer can start. -/
theorem colA_intro : iprop((barPay (F := F) c false ∗ barPay c true) ∗ toks c) ⊢ bigSep Finset.univ (colA (F := F) c 0) := by
  unfold barPay toks
  rw [← bigSep_sep', ← bigSep_sep']
  refine bigSep_mono fun i _ => ?_
  unfold colA
  rw [if_neg (Nat.not_lt_zero _)]
  rcases Nat.mod_two_eq_zero_or_one i.val with h | h
  · rw [if_pos (show i.val % 2 = dn false from h), if_neg (show ¬ i.val % 2 = dn true by rw [h]; decide)]
    exact sep_mono_left (sep_emp (PROP := sProp 𝕄)).1
  · rw [if_neg (show ¬ i.val % 2 = dn false by rw [h]; decide), if_pos (show i.val % 2 = dn true from h)]
    exact sep_mono_left (emp_sep (PROP := sProp 𝕄)).1

end Cert.KernelIdeal.Hand
-- ==== Proof.Words.lean ====
/-
  The side conditions of the kernel on the words of the table.
-/
module

public import proofs.«01_k».proof.Proof.Enter

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-- The device number of a neighbour is in range. -/
theorem dev_in (d : ℕ) {n : ℕ} (h : n = (devW (nW c d)).toNat) : n < nD := h.trans_lt ((devW_ofNat (nbr d c)).trans_lt (nbr d c).isLt)

/-- The word of a device's own number. -/
abbrev cW : BitVec 32 := BitVec.ofNat 32 c.val

/-- The first word of the table is the device's own number. -/
theorem own_word : metaW c 0 = cW c := by
  show BitVec.ofNat 32 (org c ⟨0, by decide⟩).val = _
  rw [show org c ⟨0, by decide⟩ = c from org_first c ⟨0, by decide⟩]

/-- The word of transfer `i`'s origin stands in the table at its hop, in the half of its direction. -/
theorem word_of (i : Fin 60) {j : ℕ} (hj : j = 16 * (i.val % 2) + i.val / 4) : metaW c j = oW c i := by
  subst hj
  have := i.isLt
  unfold metaW
  refine congrArg (fun d : Dev nD => BitVec.ofNat 32 d.val) ?_
  unfold table org
  rcases Nat.mod_two_eq_zero_or_one i.val with h | h
  · rw [if_pos (show 16 * (i.val % 2) + i.val / 4 < 16 by omega), if_pos h, h, Nat.mul_zero, Nat.zero_add]
  · rw [if_neg (show ¬ 16 * (i.val % 2) + i.val / 4 < 16 by omega), if_pos (show 16 * (i.val % 2) + i.val / 4 < 32 by omega),
      if_neg (show ¬ i.val % 2 = 0 by omega), h, show 16 * 1 + i.val / 4 - 16 = i.val / 4 by omega]

/-- The rows of a transfer, as the kernel computes them. -/
theorem row_off (i : Fin 60) : (![(rowW (oW c i) (BitVec.ofNat 32 (2048 * (i.val % 2))) (BitVec.ofNat 32 (1024 * ((i.val / 2) % 2)))).toNat, 0] : Fin 2 → ℕ)
    = ![1024 * (snd c i).val, 0] := by
  rw [rowW_ofNat (org c i) ⟨i.val % 2, by omega⟩ ⟨(i.val / 2) % 2, by omega⟩]
  rfl

/-- The rows of a transfer lie in the result. -/
theorem row_in (i : Fin 60) (a : Fin 2) :
    (![(rowW (oW c i) (BitVec.ofNat 32 (2048 * (i.val % 2))) (BitVec.ofNat 32 (1024 * ((i.val / 2) % 2)))).toNat, 0] : Fin 2 → ℕ) a
      + S1024x1024.size a ≤ S65536x1024.size a := by
  rw [row_off]; exact tile_inb _ a

/-- The rows of the own block, as the kernel computes them. -/
theorem block_off : (![(Scalar.muli (cW c) 4096#32).toNat, 0] : Fin 2 → ℕ) = ![4096 * c.val, 0] := by
  rw [blockW_ofNat c]

/-- They lie in the result. -/
theorem block_in (a : Fin 2) : (![(Scalar.muli (cW c) 4096#32).toNat, 0] : Fin 2 → ℕ) a + S4096x1024.size a ≤ S65536x1024.size a := by
  rw [block_off]; exact block_inb c a

/-- The neighbour in a direction, as the kernel computes it. -/
theorem nbr_word (d : ℕ) : (devW (nW c d)).toNat = (nbr d c).val := devW_ofNat (nbr d c)

/-- The side conditions on the word of the device before it hold. -/
theorem chk1 : k0_chk1 (nW c 1) := ⟨dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl, dev_in c 1 rfl⟩

/-- The side conditions on the word of the next device hold. -/
theorem chk2 : k0_chk2 (nW c 0) := ⟨dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl, dev_in c 0 rfl⟩

/-- The side conditions on the word of the device's own block hold. -/
theorem chk3 : k0_chk3 (cW c) := ⟨block_in c, block_in c⟩

/-- The side conditions on the word of the origin of transfer 0 hold. -/
theorem chk4 : k0_chk4 (oW c 0) := ⟨row_in c 0, row_in c 0, row_in c 0⟩

/-- The side conditions on the word of the origin of transfer 1 hold. -/
theorem chk5 : k0_chk5 (oW c 1) := ⟨row_in c 1, row_in c 1, row_in c 1⟩

/-- The side conditions on the word of the origin of transfer 2 hold. -/
theorem chk6 : k0_chk6 (oW c 2) := ⟨row_in c 2, row_in c 2, row_in c 2⟩

/-- The side conditions on the word of the origin of transfer 3 hold. -/
theorem chk7 : k0_chk7 (oW c 3) := ⟨row_in c 3, row_in c 3, row_in c 3⟩

/-- The side conditions on the word of the origin of transfer 4 hold. -/
theorem chk8 : k0_chk8 (oW c 4) := ⟨row_in c 4, row_in c 4, row_in c 4⟩

/-- The side conditions on the word of the origin of transfer 5 hold. -/
theorem chk9 : k0_chk9 (oW c 5) := ⟨row_in c 5, row_in c 5, row_in c 5⟩

/-- The side conditions on the word of the origin of transfer 6 hold. -/
theorem chk10 : k0_chk10 (oW c 6) := ⟨row_in c 6, row_in c 6, row_in c 6⟩

/-- The side conditions on the word of the origin of transfer 7 hold. -/
theorem chk11 : k0_chk11 (oW c 7) := ⟨row_in c 7, row_in c 7, row_in c 7⟩

/-- The side conditions on the word of the origin of transfer 8 hold. -/
theorem chk12 : k0_chk12 (oW c 8) := ⟨row_in c 8, row_in c 8, row_in c 8⟩

/-- The side conditions on the word of the origin of transfer 9 hold. -/
theorem chk13 : k0_chk13 (oW c 9) := ⟨row_in c 9, row_in c 9, row_in c 9⟩

/-- The side conditions on the word of the origin of transfer 10 hold. -/
theorem chk14 : k0_chk14 (oW c 10) := ⟨row_in c 10, row_in c 10, row_in c 10⟩

/-- The side conditions on the word of the origin of transfer 11 hold. -/
theorem chk15 : k0_chk15 (oW c 11) := ⟨row_in c 11, row_in c 11, row_in c 11⟩

/-- The side conditions on the word of the origin of transfer 12 hold. -/
theorem chk16 : k0_chk16 (oW c 12) := ⟨row_in c 12, row_in c 12, row_in c 12⟩

/-- The side conditions on the word of the origin of transfer 13 hold. -/
theorem chk17 : k0_chk17 (oW c 13) := ⟨row_in c 13, row_in c 13, row_in c 13⟩

/-- The side conditions on the word of the origin of transfer 14 hold. -/
theorem chk18 : k0_chk18 (oW c 14) := ⟨row_in c 14, row_in c 14, row_in c 14⟩

/-- The side conditions on the word of the origin of transfer 15 hold. -/
theorem chk19 : k0_chk19 (oW c 15) := ⟨row_in c 15, row_in c 15, row_in c 15⟩

/-- The side conditions on the word of the origin of transfer 16 hold. -/
theorem chk20 : k0_chk20 (oW c 16) := ⟨row_in c 16, row_in c 16, row_in c 16⟩

/-- The side conditions on the word of the origin of transfer 17 hold. -/
theorem chk21 : k0_chk21 (oW c 17) := ⟨row_in c 17, row_in c 17, row_in c 17⟩

/-- The side conditions on the word of the origin of transfer 18 hold. -/
theorem chk22 : k0_chk22 (oW c 18) := ⟨row_in c 18, row_in c 18, row_in c 18⟩

/-- The side conditions on the word of the origin of transfer 19 hold. -/
theorem chk23 : k0_chk23 (oW c 19) := ⟨row_in c 19, row_in c 19, row_in c 19⟩

/-- The side conditions on the word of the origin of transfer 20 hold. -/
theorem chk24 : k0_chk24 (oW c 20) := ⟨row_in c 20, row_in c 20, row_in c 20⟩

/-- The side conditions on the word of the origin of transfer 21 hold. -/
theorem chk25 : k0_chk25 (oW c 21) := ⟨row_in c 21, row_in c 21, row_in c 21⟩

/-- The side conditions on the word of the origin of transfer 22 hold. -/
theorem chk26 : k0_chk26 (oW c 22) := ⟨row_in c 22, row_in c 22, row_in c 22⟩

/-- The side conditions on the word of the origin of transfer 23 hold. -/
theorem chk27 : k0_chk27 (oW c 23) := ⟨row_in c 23, row_in c 23, row_in c 23⟩

/-- The side conditions on the word of the origin of transfer 24 hold. -/
theorem chk28 : k0_chk28 (oW c 24) := ⟨row_in c 24, row_in c 24, row_in c 24⟩

/-- The side conditions on the word of the origin of transfer 25 hold. -/
theorem chk29 : k0_chk29 (oW c 25) := ⟨row_in c 25, row_in c 25, row_in c 25⟩

/-- The side conditions on the word of the origin of transfer 26 hold. -/
theorem chk30 : k0_chk30 (oW c 26) := ⟨row_in c 26, row_in c 26, row_in c 26⟩

/-- The side conditions on the word of the origin of transfer 27 hold. -/
theorem chk31 : k0_chk31 (oW c 27) := ⟨row_in c 27, row_in c 27, row_in c 27⟩

/-- The side conditions on the word of the origin of transfer 28 hold. -/
theorem chk32 : k0_chk32 (oW c 28) := ⟨row_in c 28, row_in c 28, row_in c 28⟩

/-- The side conditions on the word of the origin of transfer 29 hold. -/
theorem chk33 : k0_chk33 (oW c 29) := ⟨row_in c 29, row_in c 29, row_in c 29⟩

/-- The side conditions on the word of the origin of transfer 30 hold. -/
theorem chk34 : k0_chk34 (oW c 30) := ⟨row_in c 30, row_in c 30, row_in c 30⟩

/-- The side conditions on the word of the origin of transfer 31 hold. -/
theorem chk35 : k0_chk35 (oW c 31) := ⟨row_in c 31, row_in c 31, row_in c 31⟩

/-- The side conditions on the word of the origin of transfer 32 hold. -/
theorem chk36 : k0_chk36 (oW c 32) := ⟨row_in c 32, row_in c 32, row_in c 32⟩

/-- The side conditions on the word of the origin of transfer 33 hold. -/
theorem chk37 : k0_chk37 (oW c 33) := ⟨row_in c 33, row_in c 33, row_in c 33⟩

/-- The side conditions on the word of the origin of transfer 34 hold. -/
theorem chk38 : k0_chk38 (oW c 34) := ⟨row_in c 34, row_in c 34, row_in c 34⟩

/-- The side conditions on the word of the origin of transfer 35 hold. -/
theorem chk39 : k0_chk39 (oW c 35) := ⟨row_in c 35, row_in c 35, row_in c 35⟩

/-- The side conditions on the word of the origin of transfer 36 hold. -/
theorem chk40 : k0_chk40 (oW c 36) := ⟨row_in c 36, row_in c 36, row_in c 36⟩

/-- The side conditions on the word of the origin of transfer 37 hold. -/
theorem chk41 : k0_chk41 (oW c 37) := ⟨row_in c 37, row_in c 37, row_in c 37⟩

/-- The side conditions on the word of the origin of transfer 38 hold. -/
theorem chk42 : k0_chk42 (oW c 38) := ⟨row_in c 38, row_in c 38, row_in c 38⟩

/-- The side conditions on the word of the origin of transfer 39 hold. -/
theorem chk43 : k0_chk43 (oW c 39) := ⟨row_in c 39, row_in c 39, row_in c 39⟩

/-- The side conditions on the word of the origin of transfer 40 hold. -/
theorem chk44 : k0_chk44 (oW c 40) := ⟨row_in c 40, row_in c 40, row_in c 40⟩

/-- The side conditions on the word of the origin of transfer 41 hold. -/
theorem chk45 : k0_chk45 (oW c 41) := ⟨row_in c 41, row_in c 41, row_in c 41⟩

/-- The side conditions on the word of the origin of transfer 42 hold. -/
theorem chk46 : k0_chk46 (oW c 42) := ⟨row_in c 42, row_in c 42, row_in c 42⟩

/-- The side conditions on the word of the origin of transfer 43 hold. -/
theorem chk47 : k0_chk47 (oW c 43) := ⟨row_in c 43, row_in c 43, row_in c 43⟩

/-- The side conditions on the word of the origin of transfer 44 hold. -/
theorem chk48 : k0_chk48 (oW c 44) := ⟨row_in c 44, row_in c 44, row_in c 44⟩

/-- The side conditions on the word of the origin of transfer 45 hold. -/
theorem chk49 : k0_chk49 (oW c 45) := ⟨row_in c 45, row_in c 45, row_in c 45⟩

/-- The side conditions on the word of the origin of transfer 46 hold. -/
theorem chk50 : k0_chk50 (oW c 46) := ⟨row_in c 46, row_in c 46, row_in c 46⟩

/-- The side conditions on the word of the origin of transfer 47 hold. -/
theorem chk51 : k0_chk51 (oW c 47) := ⟨row_in c 47, row_in c 47, row_in c 47⟩

/-- The side conditions on the word of the origin of transfer 48 hold. -/
theorem chk52 : k0_chk52 (oW c 48) := ⟨row_in c 48, row_in c 48, row_in c 48⟩

/-- The side conditions on the word of the origin of transfer 49 hold. -/
theorem chk53 : k0_chk53 (oW c 49) := ⟨row_in c 49, row_in c 49, row_in c 49⟩

/-- The side conditions on the word of the origin of transfer 50 hold. -/
theorem chk54 : k0_chk54 (oW c 50) := ⟨row_in c 50, row_in c 50, row_in c 50⟩

/-- The side conditions on the word of the origin of transfer 51 hold. -/
theorem chk55 : k0_chk55 (oW c 51) := ⟨row_in c 51, row_in c 51, row_in c 51⟩

/-- The side conditions on the word of the origin of transfer 52 hold. -/
theorem chk56 : k0_chk56 (oW c 52) := ⟨row_in c 52, row_in c 52, row_in c 52⟩

/-- The side conditions on the word of the origin of transfer 53 hold. -/
theorem chk57 : k0_chk57 (oW c 53) := ⟨row_in c 53, row_in c 53, row_in c 53⟩

/-- The side conditions on the word of the origin of transfer 54 hold. -/
theorem chk58 : k0_chk58 (oW c 54) := ⟨row_in c 54, row_in c 54, row_in c 54⟩

/-- The side conditions on the word of the origin of transfer 55 hold. -/
theorem chk59 : k0_chk59 (oW c 55) := ⟨row_in c 55, row_in c 55, row_in c 55⟩

/-- The side conditions on the word of the origin of transfer 56 hold. -/
theorem chk60 : k0_chk60 (oW c 56) := ⟨row_in c 56, row_in c 56⟩

/-- The side conditions on the word of the origin of transfer 57 hold. -/
theorem chk61 : k0_chk61 (oW c 57) := ⟨row_in c 57, row_in c 57⟩

/-- The side conditions on the word of the origin of transfer 58 hold. -/
theorem chk62 : k0_chk62 (oW c 58) := ⟨row_in c 58, row_in c 58⟩

/-- The side conditions on the word of the origin of transfer 59 hold. -/
theorem chk63 : k0_chk63 (oW c 59) := row_in c 59

end Cert.KernelIdeal.Hand
-- ==== Proof.Enter1.lean ====
/-
  The first part of the kernel: the barrier and the copy.
-/
module

public import proofs.«01_k».proof.Proof.Words

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-- Part 1: the barrier, the start of the copy, the first words of the table. -/
theorem part1 {R : sProp 𝕄} {h0 h1 h2} {Q}
    (h : iprop(tabPts c ∗ St m κ c (Rest c R) 0 0 0) ⊢ Q ⟨nW c 0, chk2 c, nW c 1, chk1 c, cW c, chk3 c, oW c 0, chk4 c, oW c 1, chk5 c, oW c 2, chk6 c, oW c 3, chk7 c⟩) :
    TP c iprop(tabPts c ∗ Start m κ c R) (k0_part1 (F := F) (Memref.whole cc0_stg0_0) h0 (Memref.whole main_arg0) h1 (Memref.whole main_v49) h2 cc0_scratch0 cc0_scratch1 cc0_scratch2 cc0_scratch3 cc0_scratch4) Q := by
  rw [k0_part1_eq_skeleton]
  unfold k0_part1_skel
  refine tp_bind c (tp_load c (j := 32) (w := nW c 0) rfl ?_)
  refine tp_bind c (tp_assume c (chk2 c) ?_)
  refine tp_bind c (tp_load c (j := 33) (w := nW c 1) rfl ?_)
  refine tp_bind c (tp_assume c (chk1 c) ?_)
  unfold Start
  refine tp_mono c (P' := iprop((tabPts c ∗ R ∗ levAts L lv ∗ (bigSep Finset.univ fun i : Fin 60 => reached ER (sendCell c i) 0)
    ∗ barDuty (nbr 0 c) true ∗ (cred (tallyAt (barCell c) () 2) ∗ atPos ER (barCell c) 0 ∅ 0)
    ∗ ((∃ f, blockPts c f) ∗ argPts m c ∗ dutyTok ER (copyCell c) 0 false ∗ reached ER (copyCell c) 0)
    ∗ atPos ER (copyCell c) 0 ∅ 0 ∗ toks c ∗ bigSep Finset.univ (colB m c 0 0) ∗ bigSep Finset.univ (colC m c 0 0) ∗ bigSep Finset.univ (colD m c 0))
    ∗ recs m κ ∗ barDuty (nbr 1 c) false ∗ ∃ W, owes (c : Thread nD τ) (O₀ c) W)) ?_ ?_
  · iintro ⟨$, $, $, $, $, ⟨$, $⟩, $, $, $, $, $, $, $, $⟩
  refine tp_bind c (tp_signal m κ c false (nbr 1 c) (nbr_word c 1) (O₀ c) (O₁ c) rfl ?_)
  refine tp_mono c (P' := iprop((tabPts c ∗ R ∗ levAts L lv ∗ (bigSep Finset.univ fun i : Fin 60 => reached ER (sendCell c i) 0)
    ∗ (cred (tallyAt (barCell c) () 2) ∗ atPos ER (barCell c) 0 ∅ 0)
    ∗ ((∃ f, blockPts c f) ∗ argPts m c ∗ dutyTok ER (copyCell c) 0 false ∗ reached ER (copyCell c) 0)
    ∗ atPos ER (copyCell c) 0 ∅ 0 ∗ toks c ∗ bigSep Finset.univ (colB m c 0 0) ∗ bigSep Finset.univ (colC m c 0 0) ∗ bigSep Finset.univ (colD m c 0))
    ∗ recs m κ ∗ barDuty (nbr 0 c) true ∗ ∃ W, owes (c : Thread nD τ) (O₁ c) W)) ?_ ?_
  · iintro ⟨⟨$, $, $, $, $, $, $, $, $, $, $, $⟩, $, $⟩
  refine tp_bind c (tp_signal m κ c true (nbr 0 c) (nbr_word c 0) (O₁ c) (Ow c 0) rfl ?_)
  refine tp_mono c (P' := iprop((tabPts c ∗ R ∗ (bigSep Finset.univ fun i : Fin 60 => reached ER (sendCell c i) 0)
    ∗ ((∃ f, blockPts c f) ∗ argPts m c ∗ dutyTok ER (copyCell c) 0 false ∗ reached ER (copyCell c) 0)
    ∗ atPos ER (copyCell c) 0 ∅ 0 ∗ toks c ∗ bigSep Finset.univ (colB m c 0 0) ∗ bigSep Finset.univ (colC m c 0 0) ∗ bigSep Finset.univ (colD m c 0))
    ∗ recs m κ ∗ levAts L lv ∗ (cred (tallyAt (barCell c) () 2) ∗ atPos ER (barCell c) 0 ∅ 0) ∗ ∃ W, owes (c : Thread nD τ) (Ow c 0) W)) ?_ ?_
  · iintro ⟨⟨$, $, $, $, $, $, $, $, $, $, $⟩, $, $⟩
  refine tp_bind c (tp_barrier m κ c ?_)
  refine tp_mono c (P' := iprop(tabPts c ∗ R ∗ recs m κ ∗ levAts L lv ∗ (bigSep Finset.univ fun i : Fin 60 => reached ER (sendCell c i) 0)
    ∗ ((∃ f, blockPts c f) ∗ argPts m c ∗ dutyTok ER (copyCell c) 0 false ∗ reached ER (copyCell c) 0)
    ∗ atPos ER (copyCell c) 0 ∅ 0 ∗ atPos ER (barCell c) 1 ∅ 0 ∗ bigSep Finset.univ (colA c 0)
    ∗ bigSep Finset.univ (colB m c 0 0) ∗ bigSep Finset.univ (colC m c 0 0) ∗ bigSep Finset.univ (colD m c 0)
    ∗ ∃ W, owes (c : Thread nD τ) (Ow c 0) W)) ?_ ?_
  · iintro ⟨⟨$, $, $, $, $, Ht, $, $, $⟩, $, $, Hp, $, $⟩
    iapply (colA_intro c)
    isplitl [Hp] <;> iassumption
  refine tp_bind c (tp_load c (j := 0) (w := cW c) (own_word c) ?_)
  refine tp_bind c (tp_assume c (chk3 c) ?_)
  refine tp_mono c (P' := iprop((tabPts c ∗ R ∗ levAts L lv ∗ (bigSep Finset.univ fun i : Fin 60 => reached ER (sendCell c i) 0)
    ∗ atPos ER (copyCell c) 0 ∅ 0 ∗ atPos ER (barCell c) 1 ∅ 0 ∗ bigSep Finset.univ (colA c 0)
    ∗ bigSep Finset.univ (colB m c 0 0) ∗ bigSep Finset.univ (colC m c 0 0) ∗ bigSep Finset.univ (colD m c 0)
    ∗ ∃ W, owes (c : Thread nD τ) (Ow c 0) W) ∗ recs m κ
    ∗ (∃ f, blockPts c f) ∗ argPts m c ∗ dutyTok ER (copyCell c) 0 false ∗ reached ER (copyCell c) 0)) ?_ ?_
  · iintro ⟨$, $, $, $, $, $, $, $, $, $, $, $, $⟩
  refine tp_bind c (tp_copy m κ c (block_off c) (by decide) ?_)
  refine tp_mono c (P' := iprop(tabPts c ∗ St m κ c (Rest c R) 0 0 0)) ?_ ?_
  · unfold St Rest
    iintro ⟨⟨$, $, $, $, $, $, $, $, $, $, $⟩, $, $⟩
  refine tp_bind c (tp_load c (j := 0) (w := oW c 0) (word_of c 0 (by decide)) ?_)
  refine tp_bind c (tp_assume c (chk4 c) ?_)
  refine tp_bind c (tp_load c (j := 16) (w := oW c 1) (word_of c 1 (by decide)) ?_)
  refine tp_bind c (tp_assume c (chk5 c) ?_)
  refine tp_bind c (tp_load c (j := 0) (w := oW c 2) (word_of c 2 (by decide)) ?_)
  refine tp_bind c (tp_assume c (chk6 c) ?_)
  refine tp_bind c (tp_load c (j := 16) (w := oW c 3) (word_of c 3 (by decide)) ?_)
  refine tp_bind c (tp_assume c (chk7 c) ?_)
  exact tp_pure c h

end Cert.KernelIdeal.Hand
-- ==== Proof.Loads.lean ====
/-
  The parts of the kernel that load the table.
-/
module

public import proofs.«01_k».proof.Proof.Words

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-- Part 2 loads words of the table. -/
theorem part2 {R : sProp 𝕄} {h0 h1 h2 } {Q} (h : iprop(tabPts c ∗ R) ⊢ Q ⟨oW c 4, chk8 c, oW c 5, chk9 c, oW c 6, chk10 c, oW c 7, chk11 c, oW c 8, chk12 c, oW c 9, chk13 c⟩) :
    TP c iprop(tabPts c ∗ R) (k0_part2 (F := F) (Memref.whole cc0_stg0_0) h0 (Memref.whole main_arg0) h1 (Memref.whole main_v49) h2 cc0_scratch0 cc0_scratch1 cc0_scratch2 cc0_scratch3 cc0_scratch4
      (oW c 3)) Q := by
  rw [k0_part2_eq_skeleton]
  unfold k0_part2_skel
  refine tp_bind c (tp_load c (j := 1) (w := oW c 4) (word_of c 4 (by decide)) ?_)
  refine tp_bind c (tp_assume c (chk8 c) ?_)
  refine tp_bind c (tp_load c (j := 17) (w := oW c 5) (word_of c 5 (by decide)) ?_)
  refine tp_bind c (tp_assume c (chk9 c) ?_)
  refine tp_bind c (tp_load c (j := 1) (w := oW c 6) (word_of c 6 (by decide)) ?_)
  refine tp_bind c (tp_assume c (chk10 c) ?_)
  refine tp_bind c (tp_load c (j := 17) (w := oW c 7) (word_of c 7 (by decide)) ?_)
  refine tp_bind c (tp_assume c (chk11 c) ?_)
  refine tp_bind c (tp_load c (j := 2) (w := oW c 8) (word_of c 8 (by decide)) ?_)
  refine tp_bind c (tp_assume c (chk12 c) ?_)
  refine tp_bind c (tp_load c (j := 18) (w := oW c 9) (word_of c 9 (by decide)) ?_)
  refine tp_bind c (tp_assume c (chk13 c) ?_)
  exact tp_pure c h

/-- Part 3 loads words of the table. -/
theorem part3 {R : sProp 𝕄} {h0 h1 h2 } {Q} (h : ∀ z0 z1, iprop(tabPts c ∗ R) ⊢ Q ⟨oW c 10, chk14 c, oW c 11, chk15 c, oW c 12, chk16 c, oW c 13, chk17 c, oW c 14, chk18 c, oW c 15, chk19 c, oW c 16, chk20 c, z0, z1⟩) :
    TP c iprop(tabPts c ∗ R) (k0_part3 (F := F) (Memref.whole cc0_stg0_0) h0 (Memref.whole main_arg0) h1 (Memref.whole main_v49) h2 cc0_scratch0 cc0_scratch1 cc0_scratch2 cc0_scratch3 cc0_scratch4
      ) Q := by
  rw [k0_part3_eq_skeleton]
  unfold k0_part3_skel
  refine tp_bind c (tp_load c (j := 2) (w := oW c 10) (word_of c 10 (by decide)) ?_)
  refine tp_bind c (tp_assume c (chk14 c) ?_)
  refine tp_bind c (tp_load c (j := 18) (w := oW c 11) (word_of c 11 (by decide)) ?_)
  refine tp_bind c (tp_assume c (chk15 c) ?_)
  refine tp_bind c (tp_load c (j := 3) (w := oW c 12) (word_of c 12 (by decide)) ?_)
  refine tp_bind c (tp_assume c (chk16 c) ?_)
  refine tp_bind c (tp_load c (j := 19) (w := oW c 13) (word_of c 13 (by decide)) ?_)
  refine tp_bind c (tp_assume c (chk17 c) ?_)
  refine tp_bind c (tp_load c (j := 3) (w := oW c 14) (word_of c 14 (by decide)) ?_)
  refine tp_bind c (tp_assume c (chk18 c) ?_)
  refine tp_bind c (tp_load c (j := 19) (w := oW c 15) (word_of c 15 (by decide)) ?_)
  refine tp_bind c (tp_assume c (chk19 c) ?_)
  refine tp_bind c (tp_load c (j := 4) (w := oW c 16) (word_of c 16 (by decide)) ?_)
  refine tp_bind c (tp_assume c (chk20 c) ?_)
  exact tp_pure c (h _ _)

/-- Part 4 loads words of the table. -/
theorem part4 {R : sProp 𝕄} {h0 h1 h2 xv75 yc0i3261} {Q} (h : iprop(tabPts c ∗ R) ⊢ Q ⟨oW c 17, chk21 c, oW c 18, chk22 c, oW c 19, chk23 c, oW c 20, chk24 c, oW c 21, chk25 c, oW c 22, chk26 c, oW c 23, chk27 c⟩) :
    TP c iprop(tabPts c ∗ R) (k0_part4 (F := F) (Memref.whole cc0_stg0_0) h0 (Memref.whole main_arg0) h1 (Memref.whole main_v49) h2 cc0_scratch0 cc0_scratch1 cc0_scratch2 cc0_scratch3 cc0_scratch4
      xv75 yc0i3261) Q := by
  rw [k0_part4_eq_skeleton]
  unfold k0_part4_skel
  refine tp_bind c (tp_load c (j := 20) (w := oW c 17) (word_of c 17 (by decide)) ?_)
  refine tp_bind c (tp_assume c (chk21 c) ?_)
  refine tp_bind c (tp_load c (j := 4) (w := oW c 18) (word_of c 18 (by decide)) ?_)
  refine tp_bind c (tp_assume c (chk22 c) ?_)
  refine tp_bind c (tp_load c (j := 20) (w := oW c 19) (word_of c 19 (by decide)) ?_)
  refine tp_bind c (tp_assume c (chk23 c) ?_)
  refine tp_bind c (tp_load c (j := 5) (w := oW c 20) (word_of c 20 (by decide)) ?_)
  refine tp_bind c (tp_assume c (chk24 c) ?_)
  refine tp_bind c (tp_load c (j := 21) (w := oW c 21) (word_of c 21 (by decide)) ?_)
  refine tp_bind c (tp_assume c (chk25 c) ?_)
  refine tp_bind c (tp_load c (j := 5) (w := oW c 22) (word_of c 22 (by decide)) ?_)
  refine tp_bind c (tp_assume c (chk26 c) ?_)
  refine tp_bind c (tp_load c (j := 21) (w := oW c 23) (word_of c 23 (by decide)) ?_)
  refine tp_bind c (tp_assume c (chk27 c) ?_)
  exact tp_pure c h

/-- Part 5 loads words of the table. -/
theorem part5 {R : sProp 𝕄} {h0 h1 h2 } {Q} (h : iprop(tabPts c ∗ R) ⊢ Q ⟨oW c 24, chk28 c, oW c 25, chk29 c, oW c 26, chk30 c, oW c 27, chk31 c, oW c 28, chk32 c, oW c 29, chk33 c⟩) :
    TP c iprop(tabPts c ∗ R) (k0_part5 (F := F) (Memref.whole cc0_stg0_0) h0 (Memref.whole main_arg0) h1 (Memref.whole main_v49) h2 cc0_scratch0 cc0_scratch1 cc0_scratch2 cc0_scratch3 cc0_scratch4
      (oW c 23)) Q := by
  rw [k0_part5_eq_skeleton]
  unfold k0_part5_skel
  refine tp_bind c (tp_load c (j := 6) (w := oW c 24) (word_of c 24 (by decide)) ?_)
  refine tp_bind c (tp_assume c (chk28 c) ?_)
  refine tp_bind c (tp_load c (j := 22) (w := oW c 25) (word_of c 25 (by decide)) ?_)
  refine tp_bind c (tp_assume c (chk29 c) ?_)
  refine tp_bind c (tp_load c (j := 6) (w := oW c 26) (word_of c 26 (by decide)) ?_)
  refine tp_bind c (tp_assume c (chk30 c) ?_)
  refine tp_bind c (tp_load c (j := 22) (w := oW c 27) (word_of c 27 (by decide)) ?_)
  refine tp_bind c (tp_assume c (chk31 c) ?_)
  refine tp_bind c (tp_load c (j := 7) (w := oW c 28) (word_of c 28 (by decide)) ?_)
  refine tp_bind c (tp_assume c (chk32 c) ?_)
  refine tp_bind c (tp_load c (j := 23) (w := oW c 29) (word_of c 29 (by decide)) ?_)
  refine tp_bind c (tp_assume c (chk33 c) ?_)
  exact tp_pure c h

/-- Part 6 loads words of the table. -/
theorem part6 {R : sProp 𝕄} {h0 h1 h2 } {Q} (h : ∀ z0 z1, iprop(tabPts c ∗ R) ⊢ Q ⟨oW c 30, chk34 c, oW c 31, chk35 c, oW c 32, chk36 c, oW c 33, chk37 c, oW c 34, chk38 c, oW c 35, chk39 c, oW c 36, chk40 c, z0, z1⟩) :
    TP c iprop(tabPts c ∗ R) (k0_part6 (F := F) (Memref.whole cc0_stg0_0) h0 (Memref.whole main_arg0) h1 (Memref.whole main_v49) h2 cc0_scratch0 cc0_scratch1 cc0_scratch2 cc0_scratch3 cc0_scratch4
      ) Q := by
  rw [k0_part6_eq_skeleton]
  unfold k0_part6_skel
  refine tp_bind c (tp_load c (j := 7) (w := oW c 30) (word_of c 30 (by decide)) ?_)
  refine tp_bind c (tp_assume c (chk34 c) ?_)
  refine tp_bind c (tp_load c (j := 23) (w := oW c 31) (word_of c 31 (by decide)) ?_)
  refine tp_bind c (tp_assume c (chk35 c) ?_)
  refine tp_bind c (tp_load c (j := 8) (w := oW c 32) (word_of c 32 (by decide)) ?_)
  refine tp_bind c (tp_assume c (chk36 c) ?_)
  refine tp_bind c (tp_load c (j := 24) (w := oW c 33) (word_of c 33 (by decide)) ?_)
  refine tp_bind c (tp_assume c (chk37 c) ?_)
  refine tp_bind c (tp_load c (j := 8) (w := oW c 34) (word_of c 34 (by decide)) ?_)
  refine tp_bind c (tp_assume c (chk38 c) ?_)
  refine tp_bind c (tp_load c (j := 24) (w := oW c 35) (word_of c 35 (by decide)) ?_)
  refine tp_bind c (tp_assume c (chk39 c) ?_)
  refine tp_bind c (tp_load c (j := 9) (w := oW c 36) (word_of c 36 (by decide)) ?_)
  refine tp_bind c (tp_assume c (chk40 c) ?_)
  exact tp_pure c (h _ _)

/-- Part 7 loads words of the table. -/
theorem part7 {R : sProp 𝕄} {h0 h1 h2 xv155 yc0i32131} {Q} (h : iprop(tabPts c ∗ R) ⊢ Q ⟨oW c 37, chk41 c, oW c 38, chk42 c, oW c 39, chk43 c, oW c 40, chk44 c, oW c 41, chk45 c, oW c 42, chk46 c, oW c 43, chk47 c⟩) :
    TP c iprop(tabPts c ∗ R) (k0_part7 (F := F) (Memref.whole cc0_stg0_0) h0 (Memref.whole main_arg0) h1 (Memref.whole main_v49) h2 cc0_scratch0 cc0_scratch1 cc0_scratch2 cc0_scratch3 cc0_scratch4
      xv155 yc0i32131) Q := by
  rw [k0_part7_eq_skeleton]
  unfold k0_part7_skel
  refine tp_bind c (tp_load c (j := 25) (w := oW c 37) (word_of c 37 (by decide)) ?_)
  refine tp_bind c (tp_assume c (chk41 c) ?_)
  refine tp_bind c (tp_load c (j := 9) (w := oW c 38) (word_of c 38 (by decide)) ?_)
  refine tp_bind c (tp_assume c (chk42 c) ?_)
  refine tp_bind c (tp_load c (j := 25) (w := oW c 39) (word_of c 39 (by decide)) ?_)
  refine tp_bind c (tp_assume c (chk43 c) ?_)
  refine tp_bind c (tp_load c (j := 10) (w := oW c 40) (word_of c 40 (by decide)) ?_)
  refine tp_bind c (tp_assume c (chk44 c) ?_)
  refine tp_bind c (tp_load c (j := 26) (w := oW c 41) (word_of c 41 (by decide)) ?_)
  refine tp_bind c (tp_assume c (chk45 c) ?_)
  refine tp_bind c (tp_load c (j := 10) (w := oW c 42) (word_of c 42 (by decide)) ?_)
  refine tp_bind c (tp_assume c (chk46 c) ?_)
  refine tp_bind c (tp_load c (j := 26) (w := oW c 43) (word_of c 43 (by decide)) ?_)
  refine tp_bind c (tp_assume c (chk47 c) ?_)
  exact tp_pure c h

/-- Part 8 loads words of the table. -/
theorem part8 {R : sProp 𝕄} {h0 h1 h2 } {Q} (h : iprop(tabPts c ∗ R) ⊢ Q ⟨oW c 44, chk48 c, oW c 45, chk49 c, oW c 46, chk50 c, oW c 47, chk51 c, oW c 48, chk52 c, oW c 49, chk53 c⟩) :
    TP c iprop(tabPts c ∗ R) (k0_part8 (F := F) (Memref.whole cc0_stg0_0) h0 (Memref.whole main_arg0) h1 (Memref.whole main_v49) h2 cc0_scratch0 cc0_scratch1 cc0_scratch2 cc0_scratch3 cc0_scratch4
      (oW c 43)) Q := by
  rw [k0_part8_eq_skeleton]
  unfold k0_part8_skel
  refine tp_bind c (tp_load c (j := 11) (w := oW c 44) (word_of c 44 (by decide)) ?_)
  refine tp_bind c (tp_assume c (chk48 c) ?_)
  refine tp_bind c (tp_load c (j := 27) (w := oW c 45) (word_of c 45 (by decide)) ?_)
  refine tp_bind c (tp_assume c (chk49 c) ?_)
  refine tp_bind c (tp_load c (j := 11) (w := oW c 46) (word_of c 46 (by decide)) ?_)
  refine tp_bind c (tp_assume c (chk50 c) ?_)
  refine tp_bind c (tp_load c (j := 27) (w := oW c 47) (word_of c 47 (by decide)) ?_)
  refine tp_bind c (tp_assume c (chk51 c) ?_)
  refine tp_bind c (tp_load c (j := 12) (w := oW c 48) (word_of c 48 (by decide)) ?_)
  refine tp_bind c (tp_assume c (chk52 c) ?_)
  refine tp_bind c (tp_load c (j := 28) (w := oW c 49) (word_of c 49 (by decide)) ?_)
  refine tp_bind c (tp_assume c (chk53 c) ?_)
  exact tp_pure c h

/-- Part 9 loads words of the table. -/
theorem part9 {R : sProp 𝕄} {h0 h1 h2 } {Q} (h : ∀ z0 z1, iprop(tabPts c ∗ R) ⊢ Q ⟨oW c 50, chk54 c, oW c 51, chk55 c, oW c 52, chk56 c, oW c 53, chk57 c, oW c 54, chk58 c, oW c 55, chk59 c, oW c 56, chk60 c, z0, z1⟩) :
    TP c iprop(tabPts c ∗ R) (k0_part9 (F := F) (Memref.whole cc0_stg0_0) h0 (Memref.whole main_arg0) h1 (Memref.whole main_v49) h2 cc0_scratch0 cc0_scratch1 cc0_scratch2 cc0_scratch3 cc0_scratch4
      ) Q := by
  rw [k0_part9_eq_skeleton]
  unfold k0_part9_skel
  refine tp_bind c (tp_load c (j := 12) (w := oW c 50) (word_of c 50 (by decide)) ?_)
  refine tp_bind c (tp_assume c (chk54 c) ?_)
  refine tp_bind c (tp_load c (j := 28) (w := oW c 51) (word_of c 51 (by decide)) ?_)
  refine tp_bind c (tp_assume c (chk55 c) ?_)
  refine tp_bind c (tp_load c (j := 13) (w := oW c 52) (word_of c 52 (by decide)) ?_)
  refine tp_bind c (tp_assume c (chk56 c) ?_)
  refine tp_bind c (tp_load c (j := 29) (w := oW c 53) (word_of c 53 (by decide)) ?_)
  refine tp_bind c (tp_assume c (chk57 c) ?_)
  refine tp_bind c (tp_load c (j := 13) (w := oW c 54) (word_of c 54 (by decide)) ?_)
  refine tp_bind c (tp_assume c (chk58 c) ?_)
  refine tp_bind c (tp_load c (j := 29) (w := oW c 55) (word_of c 55 (by decide)) ?_)
  refine tp_bind c (tp_assume c (chk59 c) ?_)
  refine tp_bind c (tp_load c (j := 14) (w := oW c 56) (word_of c 56 (by decide)) ?_)
  refine tp_bind c (tp_assume c (chk60 c) ?_)
  exact tp_pure c (h _ _)

end Cert.KernelIdeal.Hand
-- ==== Proof.Hops1.lean ====
/-
  The first half of the hops.
-/
module

public import proofs.«01_k».proof.Proof.Words

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-- Part 10 loads the last words of the table and starts the first transfer. -/
theorem part10 {R : sProp 𝕄} {h0 h1 h2 w2 w4 xv235 yc0i32201} {Q} (h : iprop(tabPts c ∗ St m κ c R 1 0 0) ⊢ Q ⟨oW c 57, chk61 c, oW c 58, chk62 c, oW c 59, chk63 c⟩) :
    TP c iprop(tabPts c ∗ St m κ c R 0 0 0) (k0_part10 (F := F) (Memref.whole cc0_stg0_0) h0 (Memref.whole main_arg0) h1 (Memref.whole main_v49) h2 cc0_scratch0 cc0_scratch1 cc0_scratch2 cc0_scratch3 cc0_scratch4
      (nW c 0) w2 (nW c 1) (oW c 0) w4 xv235 yc0i32201) Q := by
  rw [k0_part10_eq_skeleton]
  unfold k0_part10_skel
  refine tp_bind c (tp_load c (j := 30) (w := oW c 57) (word_of c 57 (by decide)) ?_)
  refine tp_bind c (tp_assume c (chk61 c) ?_)
  refine tp_bind c (tp_load c (j := 14) (w := oW c 58) (word_of c 58 (by decide)) ?_)
  refine tp_bind c (tp_assume c (chk62 c) ?_)
  refine tp_bind c (tp_load c (j := 30) (w := oW c 59) (word_of c 59 (by decide)) ?_)
  refine tp_bind c (tp_assume c (chk63 c) ?_)
  refine tp_bind c (tp_first m κ c 0 0 0 (by decide) (by decide) (by decide) (by decide) (nbr_word c 0) (by decide) (row_off c 0) (by decide) (by decide) ?_)
  exact tp_pure c h

/-- Part 11 starts transfers 1 to 3 and receives 0. -/
theorem part11 {R : sProp 𝕄} {h0 h1 h2 w2 w1 w4 w5 w6 w7} {Q} (h : iprop(tabPts c ∗ St m κ c R 4 1 0) ⊢ Q ⟨⟩) :
    TP c iprop(tabPts c ∗ St m κ c R 1 0 0) (k0_part11 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 0) w4 (oW c 1) w5 (oW c 2) w6 (oW c 3) w7) Q := by
  rw [k0_part11_eq_skeleton]
  unfold k0_part11_skel
  refine tp_bind c (tp_first m κ c 1 0 0 (by decide) (by decide) (by decide) (by decide) (nbr_word c 1) (by decide) (row_off c 1) (by decide) (by decide) ?_)
  refine tp_bind c (tp_first m κ c 2 0 0 (by decide) (by decide) (by decide) (by decide) (nbr_word c 0) (by decide) (row_off c 2) (by decide) (by decide) ?_)
  refine tp_bind c (tp_first m κ c 3 0 0 (by decide) (by decide) (by decide) (by decide) (nbr_word c 1) (by decide) (row_off c 3) (by decide) (by decide) ?_)
  refine tp_bind c (tp_recv m κ c 0 0 (by decide) (by decide) (by decide) (by decide) (N_slice _ _) ?_)
  exact tp_pure c h

/-- Part 12 starts transfers 4 to 5 and receives 1. -/
theorem part12 {R : sProp 𝕄} {h0 h1 h2 w2 w1 w5 w6 w8 w9} {Q} (h : iprop(tabPts c ∗ St m κ c R 6 2 0) ⊢ Q ⟨⟩) :
    TP c iprop(tabPts c ∗ St m κ c R 4 1 0) (k0_part12 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 1) w5 (oW c 2) w6 (oW c 4) w8 (oW c 5) w9) Q := by
  rw [k0_part12_eq_skeleton]
  unfold k0_part12_skel
  refine tp_bind c (tp_start m κ c 4 1 0 (by decide) (by decide) (by decide) (by decide) (nbr_word c 0) (row_off c 4) (row_off c 4) (by decide) (by decide) ?_)
  refine tp_bind c (tp_recv m κ c 1 0 (by decide) (by decide) (by decide) (by decide) (N_slice _ _) ?_)
  refine tp_bind c (tp_start m κ c 5 2 0 (by decide) (by decide) (by decide) (by decide) (nbr_word c 1) (row_off c 5) (row_off c 5) (by decide) (by decide) ?_)
  exact tp_pure c h

/-- Part 13 starts transfers 6 to 7 and receives 2 to 3. -/
theorem part13 {R : sProp 𝕄} {h0 h1 h2 w2 w1 w6 w7 w10 w11} {Q} (h : ∀ z0, iprop(tabPts c ∗ St m κ c R 8 4 0) ⊢ Q z0) :
    TP c iprop(tabPts c ∗ St m κ c R 6 2 0) (k0_part13 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 2) w6 (oW c 3) w7 (oW c 6) w10 (oW c 7) w11) Q := by
  rw [k0_part13_eq_skeleton]
  unfold k0_part13_skel
  refine tp_bind c (tp_recv m κ c 2 0 (by decide) (by decide) (by decide) (by decide) (N_slice _ _) ?_)
  refine tp_bind c (tp_start m κ c 6 3 0 (by decide) (by decide) (by decide) (by decide) (nbr_word c 0) (row_off c 6) (row_off c 6) (by decide) (by decide) ?_)
  refine tp_bind c (tp_recv m κ c 3 0 (by decide) (by decide) (by decide) (by decide) (N_slice _ _) ?_)
  refine tp_bind c (tp_start m κ c 7 4 0 (by decide) (by decide) (by decide) (by decide) (nbr_word c 1) (row_off c 7) (row_off c 7) (by decide) (by decide) ?_)
  exact tp_pure c (h _)

/-- Part 14 starts transfers 8 to 9 and receives 4 to 5. -/
theorem part14 {R : sProp 𝕄} {h0 h1 h2 w2 w1 w8 w9 w12 w13 xv338} {Q} (h : iprop(tabPts c ∗ St m κ c R 10 6 0) ⊢ Q ⟨⟩) :
    TP c iprop(tabPts c ∗ St m κ c R 8 4 0) (k0_part14 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 4) w8 (oW c 5) w9 (oW c 8) w12 (oW c 9) w13 xv338) Q := by
  rw [k0_part14_eq_skeleton]
  unfold k0_part14_skel
  refine tp_bind c (tp_recv m κ c 4 0 (by decide) (by decide) (by decide) (by decide) (N_slice _ _) ?_)
  refine tp_bind c (tp_start m κ c 8 5 0 (by decide) (by decide) (by decide) (by decide) (nbr_word c 0) (row_off c 8) (row_off c 8) (by decide) (by decide) ?_)
  refine tp_bind c (tp_recv m κ c 5 0 (by decide) (by decide) (by decide) (by decide) (N_slice _ _) ?_)
  refine tp_bind c (tp_start m κ c 9 6 0 (by decide) (by decide) (by decide) (by decide) (nbr_word c 1) (row_off c 9) (row_off c 9) (by decide) (by decide) ?_)
  exact tp_pure c h

/-- Part 15 starts transfer 10 and receives 6 to 7. -/
theorem part15 {R : sProp 𝕄} {h0 h1 h2 w2 w10 w11 w14 w15} {Q} (h : iprop(tabPts c ∗ St m κ c R 11 8 0) ⊢ Q ⟨⟩) :
    TP c iprop(tabPts c ∗ St m κ c R 10 6 0) (k0_part15 (F := F) (Memref.whole cc0_stg0_0) h0 (Memref.whole main_arg0) h1 (Memref.whole main_v49) h2 cc0_scratch0 cc0_scratch1 cc0_scratch2 cc0_scratch3 cc0_scratch4
      (nW c 0) w2 (nW c 1) (oW c 6) w10 (oW c 7) w11 (oW c 10) w14 (oW c 11) w15) Q := by
  rw [k0_part15_eq_skeleton]
  unfold k0_part15_skel
  refine tp_bind c (tp_recv m κ c 6 0 (by decide) (by decide) (by decide) (by decide) (N_slice _ _) ?_)
  refine tp_bind c (tp_start m κ c 10 7 0 (by decide) (by decide) (by decide) (by decide) (nbr_word c 0) (row_off c 10) (row_off c 10) (by decide) (by decide) ?_)
  refine tp_bind c (tp_recv m κ c 7 0 (by decide) (by decide) (by decide) (by decide) (N_slice _ _) ?_)
  exact tp_pure c h

/-- Part 16 starts transfers 11 to 12 and receives 8 to 9. -/
theorem part16 {R : sProp 𝕄} {h0 h1 h2 w2 w1 w12 w13 w15 w16} {Q} (h : iprop(tabPts c ∗ St m κ c R 13 10 0) ⊢ Q ⟨⟩) :
    TP c iprop(tabPts c ∗ St m κ c R 11 8 0) (k0_part16 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 8) w12 (oW c 9) w13 (oW c 11) w15 (oW c 12) w16) Q := by
  rw [k0_part16_eq_skeleton]
  unfold k0_part16_skel
  refine tp_bind c (tp_start m κ c 11 8 0 (by decide) (by decide) (by decide) (by decide) (nbr_word c 1) (row_off c 11) (row_off c 11) (by decide) (by decide) ?_)
  refine tp_bind c (tp_recv m κ c 8 0 (by decide) (by decide) (by decide) (by decide) (N_slice _ _) ?_)
  refine tp_bind c (tp_start m κ c 12 9 0 (by decide) (by decide) (by decide) (by decide) (nbr_word c 0) (row_off c 12) (row_off c 12) (by decide) (by decide) ?_)
  refine tp_bind c (tp_recv m κ c 9 0 (by decide) (by decide) (by decide) (by decide) (N_slice _ _) ?_)
  exact tp_pure c h

/-- Part 17 starts transfers 13 to 14 and receives 10 to 11. -/
theorem part17 {R : sProp 𝕄} {h0 h1 h2 w2 w1 w14 w15 w17 w18} {Q} (h : ∀ z0 z1, iprop(tabPts c ∗ St m κ c R 15 12 0) ⊢ Q ⟨z0, z1⟩) :
    TP c iprop(tabPts c ∗ St m κ c R 13 10 0) (k0_part17 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 10) w14 (oW c 11) w15 (oW c 13) w17 (oW c 14) w18) Q := by
  rw [k0_part17_eq_skeleton]
  unfold k0_part17_skel
  refine tp_bind c (tp_start m κ c 13 10 0 (by decide) (by decide) (by decide) (by decide) (nbr_word c 1) (row_off c 13) (row_off c 13) (by decide) (by decide) ?_)
  refine tp_bind c (tp_recv m κ c 10 0 (by decide) (by decide) (by decide) (by decide) (N_slice _ _) ?_)
  refine tp_bind c (tp_start m κ c 14 11 0 (by decide) (by decide) (by decide) (by decide) (nbr_word c 0) (row_off c 14) (row_off c 14) (by decide) (by decide) ?_)
  refine tp_bind c (tp_recv m κ c 11 0 (by decide) (by decide) (by decide) (by decide) (N_slice _ _) ?_)
  exact tp_pure c (h _ _)

/-- Part 18 starts transfers 15 to 16 and receives 12 to 13. -/
theorem part18 {R : sProp 𝕄} {h0 h1 h2 w2 w1 w16 w17 w19 w20 xv442 yc0i32441} {Q} (h : iprop(tabPts c ∗ St m κ c R 17 14 0) ⊢ Q ⟨⟩) :
    TP c iprop(tabPts c ∗ St m κ c R 15 12 0) (k0_part18 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 12) w16 (oW c 13) w17 (oW c 15) w19 (oW c 16) w20 xv442 yc0i32441) Q := by
  rw [k0_part18_eq_skeleton]
  unfold k0_part18_skel
  refine tp_bind c (tp_start m κ c 15 12 0 (by decide) (by decide) (by decide) (by decide) (nbr_word c 1) (row_off c 15) (row_off c 15) (by decide) (by decide) ?_)
  refine tp_bind c (tp_recv m κ c 12 0 (by decide) (by decide) (by decide) (by decide) (N_slice _ _) ?_)
  refine tp_bind c (tp_start m κ c 16 13 0 (by decide) (by decide) (by decide) (by decide) (nbr_word c 0) (row_off c 16) (row_off c 16) (by decide) (by decide) ?_)
  refine tp_bind c (tp_recv m κ c 13 0 (by decide) (by decide) (by decide) (by decide) (N_slice _ _) ?_)
  exact tp_pure c h

/-- Part 19 starts transfers 17 to 18 and receives 14. -/
theorem part19 {R : sProp 𝕄} {h0 h1 h2 w2 w1 w18 w19 w21 w22} {Q} (h : iprop(tabPts c ∗ St m κ c R 19 15 0) ⊢ Q ⟨⟩) :
    TP c iprop(tabPts c ∗ St m κ c R 17 14 0) (k0_part19 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 14) w18 (oW c 15) w19 (oW c 17) w21 (oW c 18) w22) Q := by
  rw [k0_part19_eq_skeleton]
  unfold k0_part19_skel
  refine tp_bind c (tp_start m κ c 17 14 0 (by decide) (by decide) (by decide) (by decide) (nbr_word c 1) (row_off c 17) (row_off c 17) (by decide) (by decide) ?_)
  refine tp_bind c (tp_recv m κ c 14 0 (by decide) (by decide) (by decide) (by decide) (N_slice _ _) ?_)
  refine tp_bind c (tp_start m κ c 18 15 0 (by decide) (by decide) (by decide) (by decide) (nbr_word c 0) (row_off c 18) (row_off c 18) (by decide) (by decide) ?_)
  exact tp_pure c h

/-- Part 20 starts transfers 19 to 20 and receives 15 to 16. -/
theorem part20 {R : sProp 𝕄} {h0 h1 h2 w2 w1 w19 w20 w23 w24} {Q} (h : iprop(tabPts c ∗ St m κ c R 21 17 0) ⊢ Q ⟨⟩) :
    TP c iprop(tabPts c ∗ St m κ c R 19 15 0) (k0_part20 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 15) w19 (oW c 16) w20 (oW c 19) w23 (oW c 20) w24) Q := by
  rw [k0_part20_eq_skeleton]
  unfold k0_part20_skel
  refine tp_bind c (tp_recv m κ c 15 0 (by decide) (by decide) (by decide) (by decide) (N_slice _ _) ?_)
  refine tp_bind c (tp_start m κ c 19 16 0 (by decide) (by decide) (by decide) (by decide) (nbr_word c 1) (row_off c 19) (row_off c 19) (by decide) (by decide) ?_)
  refine tp_bind c (tp_recv m κ c 16 0 (by decide) (by decide) (by decide) (by decide) (N_slice _ _) ?_)
  refine tp_bind c (tp_start m κ c 20 17 0 (by decide) (by decide) (by decide) (by decide) (nbr_word c 0) (row_off c 20) (row_off c 20) (by decide) (by decide) ?_)
  exact tp_pure c h

/-- Part 21 starts transfers 21 to 22 and receives 17 to 18. -/
theorem part21 {R : sProp 𝕄} {h0 h1 h2 w2 w1 w21 w22 w25 w26} {Q} (h : ∀ z0, iprop(tabPts c ∗ St m κ c R 23 19 0) ⊢ Q z0) :
    TP c iprop(tabPts c ∗ St m κ c R 21 17 0) (k0_part21 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 17) w21 (oW c 18) w22 (oW c 21) w25 (oW c 22) w26) Q := by
  rw [k0_part21_eq_skeleton]
  unfold k0_part21_skel
  refine tp_bind c (tp_recv m κ c 17 0 (by decide) (by decide) (by decide) (by decide) (N_slice _ _) ?_)
  refine tp_bind c (tp_start m κ c 21 18 0 (by decide) (by decide) (by decide) (by decide) (nbr_word c 1) (row_off c 21) (row_off c 21) (by decide) (by decide) ?_)
  refine tp_bind c (tp_recv m κ c 18 0 (by decide) (by decide) (by decide) (by decide) (N_slice _ _) ?_)
  refine tp_bind c (tp_start m κ c 22 19 0 (by decide) (by decide) (by decide) (by decide) (nbr_word c 0) (row_off c 22) (row_off c 22) (by decide) (by decide) ?_)
  exact tp_pure c (h _)

/-- Part 22 starts transfers 23 to 24 and receives 19 to 20. -/
theorem part22 {R : sProp 𝕄} {h0 h1 h2 w2 w1 w23 w24 w27 w28 xv548} {Q} (h : iprop(tabPts c ∗ St m κ c R 25 21 0) ⊢ Q ⟨⟩) :
    TP c iprop(tabPts c ∗ St m κ c R 23 19 0) (k0_part22 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 19) w23 (oW c 20) w24 (oW c 23) w27 (oW c 24) w28 xv548) Q := by
  rw [k0_part22_eq_skeleton]
  unfold k0_part22_skel
  refine tp_bind c (tp_recv m κ c 19 0 (by decide) (by decide) (by decide) (by decide) (N_slice _ _) ?_)
  refine tp_bind c (tp_start m κ c 23 20 0 (by decide) (by decide) (by decide) (by decide) (nbr_word c 1) (row_off c 23) (row_off c 23) (by decide) (by decide) ?_)
  refine tp_bind c (tp_recv m κ c 20 0 (by decide) (by decide) (by decide) (by decide) (N_slice _ _) ?_)
  refine tp_bind c (tp_start m κ c 24 21 0 (by decide) (by decide) (by decide) (by decide) (nbr_word c 0) (row_off c 24) (row_off c 24) (by decide) (by decide) ?_)
  exact tp_pure c h

/-- Part 23 starts transfer 25 and receives 21 to 22. -/
theorem part23 {R : sProp 𝕄} {h0 h1 h2 w1 w25 w26 w29 w30} {Q} (h : iprop(tabPts c ∗ St m κ c R 26 23 0) ⊢ Q ⟨⟩) :
    TP c iprop(tabPts c ∗ St m κ c R 25 21 0) (k0_part23 (F := F) (Memref.whole cc0_stg0_0) h0 (Memref.whole main_arg0) h1 (Memref.whole main_v49) h2 cc0_scratch0 cc0_scratch1 cc0_scratch2 cc0_scratch3 cc0_scratch4
      (nW c 0) (nW c 1) w1 (oW c 21) w25 (oW c 22) w26 (oW c 25) w29 (oW c 26) w30) Q := by
  rw [k0_part23_eq_skeleton]
  unfold k0_part23_skel
  refine tp_bind c (tp_recv m κ c 21 0 (by decide) (by decide) (by decide) (by decide) (N_slice _ _) ?_)
  refine tp_bind c (tp_start m κ c 25 22 0 (by decide) (by decide) (by decide) (by decide) (nbr_word c 1) (row_off c 25) (row_off c 25) (by decide) (by decide) ?_)
  refine tp_bind c (tp_recv m κ c 22 0 (by decide) (by decide) (by decide) (by decide) (N_slice _ _) ?_)
  exact tp_pure c h

/-- Part 24 starts transfers 26 to 27 and receives 23 to 24. -/
theorem part24 {R : sProp 𝕄} {h0 h1 h2 w2 w1 w27 w28 w30 w31} {Q} (h : iprop(tabPts c ∗ St m κ c R 28 25 0) ⊢ Q ⟨⟩) :
    TP c iprop(tabPts c ∗ St m κ c R 26 23 0) (k0_part24 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 23) w27 (oW c 24) w28 (oW c 26) w30 (oW c 27) w31) Q := by
  rw [k0_part24_eq_skeleton]
  unfold k0_part24_skel
  refine tp_bind c (tp_start m κ c 26 23 0 (by decide) (by decide) (by decide) (by decide) (nbr_word c 0) (row_off c 26) (row_off c 26) (by decide) (by decide) ?_)
  refine tp_bind c (tp_recv m κ c 23 0 (by decide) (by decide) (by decide) (by decide) (N_slice _ _) ?_)
  refine tp_bind c (tp_start m κ c 27 24 0 (by decide) (by decide) (by decide) (by decide) (nbr_word c 1) (row_off c 27) (row_off c 27) (by decide) (by decide) ?_)
  refine tp_bind c (tp_recv m κ c 24 0 (by decide) (by decide) (by decide) (by decide) (N_slice _ _) ?_)
  exact tp_pure c h

/-- Part 25 starts transfers 28 to 29 and receives 25 to 26. -/
theorem part25 {R : sProp 𝕄} {h0 h1 h2 w2 w1 w29 w30 w32 w33} {Q} (h : ∀ z0 z1, iprop(tabPts c ∗ St m κ c R 30 27 0) ⊢ Q ⟨z0, z1⟩) :
    TP c iprop(tabPts c ∗ St m κ c R 28 25 0) (k0_part25 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 25) w29 (oW c 26) w30 (oW c 28) w32 (oW c 29) w33) Q := by
  rw [k0_part25_eq_skeleton]
  unfold k0_part25_skel
  refine tp_bind c (tp_start m κ c 28 25 0 (by decide) (by decide) (by decide) (by decide) (nbr_word c 0) (row_off c 28) (row_off c 28) (by decide) (by decide) ?_)
  refine tp_bind c (tp_recv m κ c 25 0 (by decide) (by decide) (by decide) (by decide) (N_slice _ _) ?_)
  refine tp_bind c (tp_start m κ c 29 26 0 (by decide) (by decide) (by decide) (by decide) (nbr_word c 1) (row_off c 29) (row_off c 29) (by decide) (by decide) ?_)
  refine tp_bind c (tp_recv m κ c 26 0 (by decide) (by decide) (by decide) (by decide) (N_slice _ _) ?_)
  exact tp_pure c (h _ _)

/-- Part 26 starts transfers 30 to 31 and receives 27 to 28. -/
theorem part26 {R : sProp 𝕄} {h0 h1 h2 w2 w1 w31 w32 w34 w35 xv652 yc0i32677} {Q} (h : iprop(tabPts c ∗ St m κ c R 32 29 0) ⊢ Q ⟨⟩) :
    TP c iprop(tabPts c ∗ St m κ c R 30 27 0) (k0_part26 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 27) w31 (oW c 28) w32 (oW c 30) w34 (oW c 31) w35 xv652 yc0i32677) Q := by
  rw [k0_part26_eq_skeleton]
  unfold k0_part26_skel
  refine tp_bind c (tp_start m κ c 30 27 0 (by decide) (by decide) (by decide) (by decide) (nbr_word c 0) (row_off c 30) (row_off c 30) (by decide) (by decide) ?_)
  refine tp_bind c (tp_recv m κ c 27 0 (by decide) (by decide) (by decide) (by decide) (N_slice _ _) ?_)
  refine tp_bind c (tp_start m κ c 31 28 0 (by decide) (by decide) (by decide) (by decide) (nbr_word c 1) (row_off c 31) (row_off c 31) (by decide) (by decide) ?_)
  refine tp_bind c (tp_recv m κ c 28 0 (by decide) (by decide) (by decide) (by decide) (N_slice _ _) ?_)
  exact tp_pure c h

end Cert.KernelIdeal.Hand
-- ==== Proof.Hops2.lean ====
/-
  The second half of the hops.
-/
module

public import proofs.«01_k».proof.Proof.Words

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-- Part 27 starts transfers 32 to 33 and receives 29. -/
theorem part27 {R : sProp 𝕄} {h0 h1 h2 w2 w1 w33 w34 w36 w37} {Q} (h : iprop(tabPts c ∗ St m κ c R 34 30 0) ⊢ Q ⟨⟩) :
    TP c iprop(tabPts c ∗ St m κ c R 32 29 0) (k0_part27 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 29) w33 (oW c 30) w34 (oW c 32) w36 (oW c 33) w37) Q := by
  rw [k0_part27_eq_skeleton]
  unfold k0_part27_skel
  refine tp_bind c (tp_start m κ c 32 29 0 (by decide) (by decide) (by decide) (by decide) (nbr_word c 0) (row_off c 32) (row_off c 32) (by decide) (by decide) ?_)
  refine tp_bind c (tp_recv m κ c 29 0 (by decide) (by decide) (by decide) (by decide) (N_slice _ _) ?_)
  refine tp_bind c (tp_start m κ c 33 30 0 (by decide) (by decide) (by decide) (by decide) (nbr_word c 1) (row_off c 33) (row_off c 33) (by decide) (by decide) ?_)
  exact tp_pure c h

/-- Part 28 starts transfers 34 to 35 and receives 30 to 31. -/
theorem part28 {R : sProp 𝕄} {h0 h1 h2 w2 w1 w34 w35 w38 w39} {Q} (h : iprop(tabPts c ∗ St m κ c R 36 32 0) ⊢ Q ⟨⟩) :
    TP c iprop(tabPts c ∗ St m κ c R 34 30 0) (k0_part28 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 30) w34 (oW c 31) w35 (oW c 34) w38 (oW c 35) w39) Q := by
  rw [k0_part28_eq_skeleton]
  unfold k0_part28_skel
  refine tp_bind c (tp_recv m κ c 30 0 (by decide) (by decide) (by decide) (by decide) (N_slice _ _) ?_)
  refine tp_bind c (tp_start m κ c 34 31 0 (by decide) (by decide) (by decide) (by decide) (nbr_word c 0) (row_off c 34) (row_off c 34) (by decide) (by decide) ?_)
  refine tp_bind c (tp_recv m κ c 31 0 (by decide) (by decide) (by decide) (by decide) (N_slice _ _) ?_)
  refine tp_bind c (tp_start m κ c 35 32 0 (by decide) (by decide) (by decide) (by decide) (nbr_word c 1) (row_off c 35) (row_off c 35) (by decide) (by decide) ?_)
  exact tp_pure c h

/-- Part 29 starts transfers 36 to 37 and receives 32 to 33. -/
theorem part29 {R : sProp 𝕄} {h0 h1 h2 w2 w1 w36 w37 w40 w41} {Q} (h : ∀ z0, iprop(tabPts c ∗ St m κ c R 38 34 0) ⊢ Q z0) :
    TP c iprop(tabPts c ∗ St m κ c R 36 32 0) (k0_part29 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 32) w36 (oW c 33) w37 (oW c 36) w40 (oW c 37) w41) Q := by
  rw [k0_part29_eq_skeleton]
  unfold k0_part29_skel
  refine tp_bind c (tp_recv m κ c 32 0 (by decide) (by decide) (by decide) (by decide) (N_slice _ _) ?_)
  refine tp_bind c (tp_start m κ c 36 33 0 (by decide) (by decide) (by decide) (by decide) (nbr_word c 0) (row_off c 36) (row_off c 36) (by decide) (by decide) ?_)
  refine tp_bind c (tp_recv m κ c 33 0 (by decide) (by decide) (by decide) (by decide) (N_slice _ _) ?_)
  refine tp_bind c (tp_start m κ c 37 34 0 (by decide) (by decide) (by decide) (by decide) (nbr_word c 1) (row_off c 37) (row_off c 37) (by decide) (by decide) ?_)
  exact tp_pure c (h _)

/-- Part 30 starts transfers 38 to 39 and receives 34 to 35. -/
theorem part30 {R : sProp 𝕄} {h0 h1 h2 w2 w1 w38 w39 w42 w43 xv758} {Q} (h : iprop(tabPts c ∗ St m κ c R 40 36 0) ⊢ Q ⟨⟩) :
    TP c iprop(tabPts c ∗ St m κ c R 38 34 0) (k0_part30 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 34) w38 (oW c 35) w39 (oW c 38) w42 (oW c 39) w43 xv758) Q := by
  rw [k0_part30_eq_skeleton]
  unfold k0_part30_skel
  refine tp_bind c (tp_recv m κ c 34 0 (by decide) (by decide) (by decide) (by decide) (N_slice _ _) ?_)
  refine tp_bind c (tp_start m κ c 38 35 0 (by decide) (by decide) (by decide) (by decide) (nbr_word c 0) (row_off c 38) (row_off c 38) (by decide) (by decide) ?_)
  refine tp_bind c (tp_recv m κ c 35 0 (by decide) (by decide) (by decide) (by decide) (N_slice _ _) ?_)
  refine tp_bind c (tp_start m κ c 39 36 0 (by decide) (by decide) (by decide) (by decide) (nbr_word c 1) (row_off c 39) (row_off c 39) (by decide) (by decide) ?_)
  exact tp_pure c h

/-- Part 31 starts transfer 40 and receives 36 to 37. -/
theorem part31 {R : sProp 𝕄} {h0 h1 h2 w2 w40 w41 w44 w45} {Q} (h : iprop(tabPts c ∗ St m κ c R 41 38 0) ⊢ Q ⟨⟩) :
    TP c iprop(tabPts c ∗ St m κ c R 40 36 0) (k0_part31 (F := F) (Memref.whole cc0_stg0_0) h0 (Memref.whole main_arg0) h1 (Memref.whole main_v49) h2 cc0_scratch0 cc0_scratch1 cc0_scratch2 cc0_scratch3 cc0_scratch4
      (nW c 0) w2 (nW c 1) (oW c 36) w40 (oW c 37) w41 (oW c 40) w44 (oW c 41) w45) Q := by
  rw [k0_part31_eq_skeleton]
  unfold k0_part31_skel
  refine tp_bind c (tp_recv m κ c 36 0 (by decide) (by decide) (by decide) (by decide) (N_slice _ _) ?_)
  refine tp_bind c (tp_start m κ c 40 37 0 (by decide) (by decide) (by decide) (by decide) (nbr_word c 0) (row_off c 40) (row_off c 40) (by decide) (by decide) ?_)
  refine tp_bind c (tp_recv m κ c 37 0 (by decide) (by decide) (by decide) (by decide) (N_slice _ _) ?_)
  exact tp_pure c h

/-- Part 32 starts transfers 41 to 42 and receives 38 to 39. -/
theorem part32 {R : sProp 𝕄} {h0 h1 h2 w2 w1 w42 w43 w45 w46} {Q} (h : iprop(tabPts c ∗ St m κ c R 43 40 0) ⊢ Q ⟨⟩) :
    TP c iprop(tabPts c ∗ St m κ c R 41 38 0) (k0_part32 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 38) w42 (oW c 39) w43 (oW c 41) w45 (oW c 42) w46) Q := by
  rw [k0_part32_eq_skeleton]
  unfold k0_part32_skel
  refine tp_bind c (tp_start m κ c 41 38 0 (by decide) (by decide) (by decide) (by decide) (nbr_word c 1) (row_off c 41) (row_off c 41) (by decide) (by decide) ?_)
  refine tp_bind c (tp_recv m κ c 38 0 (by decide) (by decide) (by decide) (by decide) (N_slice _ _) ?_)
  refine tp_bind c (tp_start m κ c 42 39 0 (by decide) (by decide) (by decide) (by decide) (nbr_word c 0) (row_off c 42) (row_off c 42) (by decide) (by decide) ?_)
  refine tp_bind c (tp_recv m κ c 39 0 (by decide) (by decide) (by decide) (by decide) (N_slice _ _) ?_)
  exact tp_pure c h

/-- Part 33 starts transfers 43 to 44 and receives 40 to 41. -/
theorem part33 {R : sProp 𝕄} {h0 h1 h2 w2 w1 w44 w45 w47 w48} {Q} (h : ∀ z0 z1, iprop(tabPts c ∗ St m κ c R 45 42 0) ⊢ Q ⟨z0, z1⟩) :
    TP c iprop(tabPts c ∗ St m κ c R 43 40 0) (k0_part33 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 40) w44 (oW c 41) w45 (oW c 43) w47 (oW c 44) w48) Q := by
  rw [k0_part33_eq_skeleton]
  unfold k0_part33_skel
  refine tp_bind c (tp_start m κ c 43 40 0 (by decide) (by decide) (by decide) (by decide) (nbr_word c 1) (row_off c 43) (row_off c 43) (by decide) (by decide) ?_)
  refine tp_bind c (tp_recv m κ c 40 0 (by decide) (by decide) (by decide) (by decide) (N_slice _ _) ?_)
  refine tp_bind c (tp_start m κ c 44 41 0 (by decide) (by decide) (by decide) (by decide) (nbr_word c 0) (row_off c 44) (row_off c 44) (by decide) (by decide) ?_)
  refine tp_bind c (tp_recv m κ c 41 0 (by decide) (by decide) (by decide) (by decide) (N_slice _ _) ?_)
  exact tp_pure c (h _ _)

/-- Part 34 starts transfers 45 to 46 and receives 42 to 43. -/
theorem part34 {R : sProp 𝕄} {h0 h1 h2 w2 w1 w46 w47 w49 w50 xv862 yc0i32913} {Q} (h : iprop(tabPts c ∗ St m κ c R 47 44 0) ⊢ Q ⟨⟩) :
    TP c iprop(tabPts c ∗ St m κ c R 45 42 0) (k0_part34 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 42) w46 (oW c 43) w47 (oW c 45) w49 (oW c 46) w50 xv862 yc0i32913) Q := by
  rw [k0_part34_eq_skeleton]
  unfold k0_part34_skel
  refine tp_bind c (tp_start m κ c 45 42 0 (by decide) (by decide) (by decide) (by decide) (nbr_word c 1) (row_off c 45) (row_off c 45) (by decide) (by decide) ?_)
  refine tp_bind c (tp_recv m κ c 42 0 (by decide) (by decide) (by decide) (by decide) (N_slice _ _) ?_)
  refine tp_bind c (tp_start m κ c 46 43 0 (by decide) (by decide) (by decide) (by decide) (nbr_word c 0) (row_off c 46) (row_off c 46) (by decide) (by decide) ?_)
  refine tp_bind c (tp_recv m κ c 43 0 (by decide) (by decide) (by decide) (by decide) (N_slice _ _) ?_)
  exact tp_pure c h

/-- Part 35 starts transfers 47 to 48 and receives 44. -/
theorem part35 {R : sProp 𝕄} {h0 h1 h2 w2 w1 w48 w49 w51 w52} {Q} (h : iprop(tabPts c ∗ St m κ c R 49 45 0) ⊢ Q ⟨⟩) :
    TP c iprop(tabPts c ∗ St m κ c R 47 44 0) (k0_part35 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 44) w48 (oW c 45) w49 (oW c 47) w51 (oW c 48) w52) Q := by
  rw [k0_part35_eq_skeleton]
  unfold k0_part35_skel
  refine tp_bind c (tp_start m κ c 47 44 0 (by decide) (by decide) (by decide) (by decide) (nbr_word c 1) (row_off c 47) (row_off c 47) (by decide) (by decide) ?_)
  refine tp_bind c (tp_recv m κ c 44 0 (by decide) (by decide) (by decide) (by decide) (N_slice _ _) ?_)
  refine tp_bind c (tp_start m κ c 48 45 0 (by decide) (by decide) (by decide) (by decide) (nbr_word c 0) (row_off c 48) (row_off c 48) (by decide) (by decide) ?_)
  exact tp_pure c h

/-- Part 36 starts transfers 49 to 50 and receives 45 to 46. -/
theorem part36 {R : sProp 𝕄} {h0 h1 h2 w2 w1 w49 w50 w53 w54} {Q} (h : iprop(tabPts c ∗ St m κ c R 51 47 0) ⊢ Q ⟨⟩) :
    TP c iprop(tabPts c ∗ St m κ c R 49 45 0) (k0_part36 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 45) w49 (oW c 46) w50 (oW c 49) w53 (oW c 50) w54) Q := by
  rw [k0_part36_eq_skeleton]
  unfold k0_part36_skel
  refine tp_bind c (tp_recv m κ c 45 0 (by decide) (by decide) (by decide) (by decide) (N_slice _ _) ?_)
  refine tp_bind c (tp_start m κ c 49 46 0 (by decide) (by decide) (by decide) (by decide) (nbr_word c 1) (row_off c 49) (row_off c 49) (by decide) (by decide) ?_)
  refine tp_bind c (tp_recv m κ c 46 0 (by decide) (by decide) (by decide) (by decide) (N_slice _ _) ?_)
  refine tp_bind c (tp_start m κ c 50 47 0 (by decide) (by decide) (by decide) (by decide) (nbr_word c 0) (row_off c 50) (row_off c 50) (by decide) (by decide) ?_)
  exact tp_pure c h

/-- Part 37 starts transfers 51 to 52 and receives 47 to 48. -/
theorem part37 {R : sProp 𝕄} {h0 h1 h2 w2 w1 w51 w52 w55 w56} {Q} (h : ∀ z0, iprop(tabPts c ∗ St m κ c R 53 49 0) ⊢ Q z0) :
    TP c iprop(tabPts c ∗ St m κ c R 51 47 0) (k0_part37 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 47) w51 (oW c 48) w52 (oW c 51) w55 (oW c 52) w56) Q := by
  rw [k0_part37_eq_skeleton]
  unfold k0_part37_skel
  refine tp_bind c (tp_recv m κ c 47 0 (by decide) (by decide) (by decide) (by decide) (N_slice _ _) ?_)
  refine tp_bind c (tp_start m κ c 51 48 0 (by decide) (by decide) (by decide) (by decide) (nbr_word c 1) (row_off c 51) (row_off c 51) (by decide) (by decide) ?_)
  refine tp_bind c (tp_recv m κ c 48 0 (by decide) (by decide) (by decide) (by decide) (N_slice _ _) ?_)
  refine tp_bind c (tp_start m κ c 52 49 0 (by decide) (by decide) (by decide) (by decide) (nbr_word c 0) (row_off c 52) (row_off c 52) (by decide) (by decide) ?_)
  exact tp_pure c (h _)

/-- Part 38 starts transfers 53 to 54 and receives 49 to 50. -/
theorem part38 {R : sProp 𝕄} {h0 h1 h2 w2 w1 w53 w54 w57 w58 xv968} {Q} (h : iprop(tabPts c ∗ St m κ c R 55 51 0) ⊢ Q ⟨⟩) :
    TP c iprop(tabPts c ∗ St m κ c R 53 49 0) (k0_part38 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 49) w53 (oW c 50) w54 (oW c 53) w57 (oW c 54) w58 xv968) Q := by
  rw [k0_part38_eq_skeleton]
  unfold k0_part38_skel
  refine tp_bind c (tp_recv m κ c 49 0 (by decide) (by decide) (by decide) (by decide) (N_slice _ _) ?_)
  refine tp_bind c (tp_start m κ c 53 50 0 (by decide) (by decide) (by decide) (by decide) (nbr_word c 1) (row_off c 53) (row_off c 53) (by decide) (by decide) ?_)
  refine tp_bind c (tp_recv m κ c 50 0 (by decide) (by decide) (by decide) (by decide) (N_slice _ _) ?_)
  refine tp_bind c (tp_start m κ c 54 51 0 (by decide) (by decide) (by decide) (by decide) (nbr_word c 0) (row_off c 54) (row_off c 54) (by decide) (by decide) ?_)
  exact tp_pure c h

/-- Part 39 starts transfer 55 and receives 51 to 52. -/
theorem part39 {R : sProp 𝕄} {h0 h1 h2 w1 w55 w56 w59 w60} {Q} (h : iprop(tabPts c ∗ St m κ c R 56 53 0) ⊢ Q ⟨⟩) :
    TP c iprop(tabPts c ∗ St m κ c R 55 51 0) (k0_part39 (F := F) (Memref.whole cc0_stg0_0) h0 (Memref.whole main_arg0) h1 (Memref.whole main_v49) h2 cc0_scratch0 cc0_scratch1 cc0_scratch2 cc0_scratch3 cc0_scratch4
      (nW c 0) (nW c 1) w1 (oW c 51) w55 (oW c 52) w56 (oW c 55) w59 (oW c 56) w60) Q := by
  rw [k0_part39_eq_skeleton]
  unfold k0_part39_skel
  refine tp_bind c (tp_recv m κ c 51 0 (by decide) (by decide) (by decide) (by decide) (N_slice _ _) ?_)
  refine tp_bind c (tp_start m κ c 55 52 0 (by decide) (by decide) (by decide) (by decide) (nbr_word c 1) (row_off c 55) (row_off c 55) (by decide) (by decide) ?_)
  refine tp_bind c (tp_recv m κ c 52 0 (by decide) (by decide) (by decide) (by decide) (N_slice _ _) ?_)
  exact tp_pure c h

/-- Part 40 starts transfers 56 to 57 and receives 53 to 54. -/
theorem part40 {R : sProp 𝕄} {h0 h1 h2 w2 w1 w57 w58 w60 w61} {Q} (h : iprop(tabPts c ∗ St m κ c R 58 55 0) ⊢ Q ⟨⟩) :
    TP c iprop(tabPts c ∗ St m κ c R 56 53 0) (k0_part40 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 53) w57 (oW c 54) w58 (oW c 56) w60 (oW c 57) w61) Q := by
  rw [k0_part40_eq_skeleton]
  unfold k0_part40_skel
  refine tp_bind c (tp_start m κ c 56 53 0 (by decide) (by decide) (by decide) (by decide) (nbr_word c 0) (row_off c 56) (row_off c 56) (by decide) (by decide) ?_)
  refine tp_bind c (tp_recv m κ c 53 0 (by decide) (by decide) (by decide) (by decide) (N_slice _ _) ?_)
  refine tp_bind c (tp_start m κ c 57 54 0 (by decide) (by decide) (by decide) (by decide) (nbr_word c 1) (row_off c 57) (row_off c 57) (by decide) (by decide) ?_)
  refine tp_bind c (tp_recv m κ c 54 0 (by decide) (by decide) (by decide) (by decide) (N_slice _ _) ?_)
  exact tp_pure c h

/-- Part 41 starts transfers 58 to 59 and receives 55 to 56. -/
theorem part41 {R : sProp 𝕄} {h0 h1 h2 w2 w1 w59 w60 w62 w63} {Q} (h : ∀ z0 z1, iprop(tabPts c ∗ St m κ c R 60 57 0) ⊢ Q ⟨z0, z1⟩) :
    TP c iprop(tabPts c ∗ St m κ c R 58 55 0) (k0_part41 (F := F) (Memref.whole cc0_stg0_0) h0 (Memref.whole main_arg0) h1 (Memref.whole main_v49) h2 cc0_scratch0 cc0_scratch1 cc0_scratch2 cc0_scratch3 cc0_scratch4
      (nW c 0) w2 (nW c 1) w1 (oW c 55) w59 (oW c 56) w60 (oW c 58) w62 (oW c 59) w63) Q := by
  rw [k0_part41_eq_skeleton]
  unfold k0_part41_skel
  refine tp_bind c (tp_start m κ c 58 55 0 (by decide) (by decide) (by decide) (by decide) (nbr_word c 0) (row_off c 58) (row_off c 58) (by decide) (by decide) ?_)
  refine tp_bind c (tp_recv m κ c 55 0 (by decide) (by decide) (by decide) (by decide) (N_slice _ _) ?_)
  refine tp_bind c (tp_start m κ c 59 56 0 (by decide) (by decide) (by decide) (by decide) (nbr_word c 1) (row_off c 59) (row_off c 59) (by decide) (by decide) ?_)
  refine tp_bind c (tp_recv m κ c 56 0 (by decide) (by decide) (by decide) (by decide) (N_slice _ _) ?_)
  exact tp_pure c (h _ _)

/-- Part 42 receives 57 to 59 and completes send 0. -/
theorem part42 {R : sProp 𝕄} {h0 h1 h2 w4 w61 w62 w63 xv1072 yc0i321150} {Q} (h : iprop(tabPts c ∗ St m κ c R 60 60 1) ⊢ Q ⟨⟩) :
    TP c iprop(tabPts c ∗ St m κ c R 60 57 0) (k0_part42 (F := F) (Memref.whole cc0_stg0_0) h0 (Memref.whole main_arg0) h1 (Memref.whole main_v49) h2 cc0_scratch0 cc0_scratch1 cc0_scratch2 cc0_scratch3 cc0_scratch4
      (nW c 0) (nW c 1) (oW c 0) w4 (oW c 57) w61 (oW c 58) w62 (oW c 59) w63 xv1072 yc0i321150) Q := by
  rw [k0_part42_eq_skeleton]
  unfold k0_part42_skel
  refine tp_bind c (tp_recv m κ c 57 0 (by decide) (by decide) (by decide) (by decide) (N_slice _ _) ?_)
  refine tp_bind c (tp_recv m κ c 58 0 (by decide) (by decide) (by decide) (by decide) (N_slice _ _) ?_)
  refine tp_bind c (tp_recv m κ c 59 0 (by decide) (by decide) (by decide) (by decide) (N_slice _ _) ?_)
  refine tp_bind c (tp_send m κ c 0 60 (by decide) (by decide) (N_slice_arg _ _) ?_)
  exact tp_pure c h

end Cert.KernelIdeal.Hand
-- ==== Proof.Sends.lean ====
/-
  The waits for the sends.
-/
module

public import proofs.«01_k».proof.Proof.Words

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-- Part 43 completes sends 1 to 5. -/
theorem part43 {R : sProp 𝕄} {h0 h1 h2 w5 w6 w7 w8 w9} {Q} (h : iprop(tabPts c ∗ St m κ c R 60 60 6) ⊢ Q ⟨⟩) :
    TP c iprop(tabPts c ∗ St m κ c R 60 60 1) (k0_part43 (F := F) (Memref.whole cc0_stg0_0) h0 (Memref.whole main_arg0) h1 (Memref.whole main_v49) h2 cc0_scratch0 cc0_scratch1 cc0_scratch2 cc0_scratch3 cc0_scratch4
      (oW c 1) w5 (oW c 2) w6 (oW c 3) w7 (oW c 4) w8 (oW c 5) w9) Q := by
  rw [k0_part43_eq_skeleton]
  unfold k0_part43_skel
  refine tp_bind c (tp_send m κ c 1 60 (by decide) (by decide) (N_slice_arg _ _) ?_)
  refine tp_bind c (tp_send m κ c 2 60 (by decide) (by decide) (N_slice_arg _ _) ?_)
  refine tp_bind c (tp_send m κ c 3 60 (by decide) (by decide) (N_slice_arg _ _) ?_)
  refine tp_bind c (tp_send m κ c 4 60 (by decide) (by decide) (N_slice _ _) ?_)
  refine tp_bind c (tp_send m κ c 5 60 (by decide) (by decide) (N_slice _ _) ?_)
  exact tp_pure c h

/-- Part 44 completes sends 6 to 10. -/
theorem part44 {R : sProp 𝕄} {h0 h1 h2 w10 w11 w12 w13 w14} {Q} (h : iprop(tabPts c ∗ St m κ c R 60 60 11) ⊢ Q ⟨⟩) :
    TP c iprop(tabPts c ∗ St m κ c R 60 60 6) (k0_part44 (F := F) (Memref.whole cc0_stg0_0) h0 (Memref.whole main_arg0) h1 (Memref.whole main_v49) h2 cc0_scratch0 cc0_scratch1 cc0_scratch2 cc0_scratch3 cc0_scratch4
      (oW c 6) w10 (oW c 7) w11 (oW c 8) w12 (oW c 9) w13 (oW c 10) w14) Q := by
  rw [k0_part44_eq_skeleton]
  unfold k0_part44_skel
  refine tp_bind c (tp_send m κ c 6 60 (by decide) (by decide) (N_slice _ _) ?_)
  refine tp_bind c (tp_send m κ c 7 60 (by decide) (by decide) (N_slice _ _) ?_)
  refine tp_bind c (tp_send m κ c 8 60 (by decide) (by decide) (N_slice _ _) ?_)
  refine tp_bind c (tp_send m κ c 9 60 (by decide) (by decide) (N_slice _ _) ?_)
  refine tp_bind c (tp_send m κ c 10 60 (by decide) (by decide) (N_slice _ _) ?_)
  exact tp_pure c h

/-- Part 45 completes sends 11 to 15. -/
theorem part45 {R : sProp 𝕄} {h0 h1 h2 w15 w16 w17 w18 w19} {Q} (h : iprop(tabPts c ∗ St m κ c R 60 60 16) ⊢ Q ⟨⟩) :
    TP c iprop(tabPts c ∗ St m κ c R 60 60 11) (k0_part45 (F := F) (Memref.whole cc0_stg0_0) h0 (Memref.whole main_arg0) h1 (Memref.whole main_v49) h2 cc0_scratch0 cc0_scratch1 cc0_scratch2 cc0_scratch3 cc0_scratch4
      (oW c 11) w15 (oW c 12) w16 (oW c 13) w17 (oW c 14) w18 (oW c 15) w19) Q := by
  rw [k0_part45_eq_skeleton]
  unfold k0_part45_skel
  refine tp_bind c (tp_send m κ c 11 60 (by decide) (by decide) (N_slice _ _) ?_)
  refine tp_bind c (tp_send m κ c 12 60 (by decide) (by decide) (N_slice _ _) ?_)
  refine tp_bind c (tp_send m κ c 13 60 (by decide) (by decide) (N_slice _ _) ?_)
  refine tp_bind c (tp_send m κ c 14 60 (by decide) (by decide) (N_slice _ _) ?_)
  refine tp_bind c (tp_send m κ c 15 60 (by decide) (by decide) (N_slice _ _) ?_)
  exact tp_pure c h

/-- Part 46 completes sends 16 to 20. -/
theorem part46 {R : sProp 𝕄} {h0 h1 h2 w20 w21 w22 w23 w24} {Q} (h : iprop(tabPts c ∗ St m κ c R 60 60 21) ⊢ Q ⟨⟩) :
    TP c iprop(tabPts c ∗ St m κ c R 60 60 16) (k0_part46 (F := F) (Memref.whole cc0_stg0_0) h0 (Memref.whole main_arg0) h1 (Memref.whole main_v49) h2 cc0_scratch0 cc0_scratch1 cc0_scratch2 cc0_scratch3 cc0_scratch4
      (oW c 16) w20 (oW c 17) w21 (oW c 18) w22 (oW c 19) w23 (oW c 20) w24) Q := by
  rw [k0_part46_eq_skeleton]
  unfold k0_part46_skel
  refine tp_bind c (tp_send m κ c 16 60 (by decide) (by decide) (N_slice _ _) ?_)
  refine tp_bind c (tp_send m κ c 17 60 (by decide) (by decide) (N_slice _ _) ?_)
  refine tp_bind c (tp_send m κ c 18 60 (by decide) (by decide) (N_slice _ _) ?_)
  refine tp_bind c (tp_send m κ c 19 60 (by decide) (by decide) (N_slice _ _) ?_)
  refine tp_bind c (tp_send m κ c 20 60 (by decide) (by decide) (N_slice _ _) ?_)
  exact tp_pure c h

/-- Part 47 completes sends 21 to 25. -/
theorem part47 {R : sProp 𝕄} {h0 h1 h2 w25 w26 w27 w28 w29} {Q} (h : iprop(tabPts c ∗ St m κ c R 60 60 26) ⊢ Q ⟨⟩) :
    TP c iprop(tabPts c ∗ St m κ c R 60 60 21) (k0_part47 (F := F) (Memref.whole cc0_stg0_0) h0 (Memref.whole main_arg0) h1 (Memref.whole main_v49) h2 cc0_scratch0 cc0_scratch1 cc0_scratch2 cc0_scratch3 cc0_scratch4
      (oW c 21) w25 (oW c 22) w26 (oW c 23) w27 (oW c 24) w28 (oW c 25) w29) Q := by
  rw [k0_part47_eq_skeleton]
  unfold k0_part47_skel
  refine tp_bind c (tp_send m κ c 21 60 (by decide) (by decide) (N_slice _ _) ?_)
  refine tp_bind c (tp_send m κ c 22 60 (by decide) (by decide) (N_slice _ _) ?_)
  refine tp_bind c (tp_send m κ c 23 60 (by decide) (by decide) (N_slice _ _) ?_)
  refine tp_bind c (tp_send m κ c 24 60 (by decide) (by decide) (N_slice _ _) ?_)
  refine tp_bind c (tp_send m κ c 25 60 (by decide) (by decide) (N_slice _ _) ?_)
  exact tp_pure c h

/-- Part 48 completes sends 26 to 30. -/
theorem part48 {R : sProp 𝕄} {h0 h1 h2 w30 w31 w32 w33 w34} {Q} (h : iprop(tabPts c ∗ St m κ c R 60 60 31) ⊢ Q ⟨⟩) :
    TP c iprop(tabPts c ∗ St m κ c R 60 60 26) (k0_part48 (F := F) (Memref.whole cc0_stg0_0) h0 (Memref.whole main_arg0) h1 (Memref.whole main_v49) h2 cc0_scratch0 cc0_scratch1 cc0_scratch2 cc0_scratch3 cc0_scratch4
      (oW c 26) w30 (oW c 27) w31 (oW c 28) w32 (oW c 29) w33 (oW c 30) w34) Q := by
  rw [k0_part48_eq_skeleton]
  unfold k0_part48_skel
  refine tp_bind c (tp_send m κ c 26 60 (by decide) (by decide) (N_slice _ _) ?_)
  refine tp_bind c (tp_send m κ c 27 60 (by decide) (by decide) (N_slice _ _) ?_)
  refine tp_bind c (tp_send m κ c 28 60 (by decide) (by decide) (N_slice _ _) ?_)
  refine tp_bind c (tp_send m κ c 29 60 (by decide) (by decide) (N_slice _ _) ?_)
  refine tp_bind c (tp_send m κ c 30 60 (by decide) (by decide) (N_slice _ _) ?_)
  exact tp_pure c h

/-- Part 49 completes sends 31 to 35. -/
theorem part49 {R : sProp 𝕄} {h0 h1 h2 w35 w36 w37 w38 w39} {Q} (h : iprop(tabPts c ∗ St m κ c R 60 60 36) ⊢ Q ⟨⟩) :
    TP c iprop(tabPts c ∗ St m κ c R 60 60 31) (k0_part49 (F := F) (Memref.whole cc0_stg0_0) h0 (Memref.whole main_arg0) h1 (Memref.whole main_v49) h2 cc0_scratch0 cc0_scratch1 cc0_scratch2 cc0_scratch3 cc0_scratch4
      (oW c 31) w35 (oW c 32) w36 (oW c 33) w37 (oW c 34) w38 (oW c 35) w39) Q := by
  rw [k0_part49_eq_skeleton]
  unfold k0_part49_skel
  refine tp_bind c (tp_send m κ c 31 60 (by decide) (by decide) (N_slice _ _) ?_)
  refine tp_bind c (tp_send m κ c 32 60 (by decide) (by decide) (N_slice _ _) ?_)
  refine tp_bind c (tp_send m κ c 33 60 (by decide) (by decide) (N_slice _ _) ?_)
  refine tp_bind c (tp_send m κ c 34 60 (by decide) (by decide) (N_slice _ _) ?_)
  refine tp_bind c (tp_send m κ c 35 60 (by decide) (by decide) (N_slice _ _) ?_)
  exact tp_pure c h

/-- Part 50 completes sends 36 to 40. -/
theorem part50 {R : sProp 𝕄} {h0 h1 h2 w40 w41 w42 w43 w44} {Q} (h : iprop(tabPts c ∗ St m κ c R 60 60 41) ⊢ Q ⟨⟩) :
    TP c iprop(tabPts c ∗ St m κ c R 60 60 36) (k0_part50 (F := F) (Memref.whole cc0_stg0_0) h0 (Memref.whole main_arg0) h1 (Memref.whole main_v49) h2 cc0_scratch0 cc0_scratch1 cc0_scratch2 cc0_scratch3 cc0_scratch4
      (oW c 36) w40 (oW c 37) w41 (oW c 38) w42 (oW c 39) w43 (oW c 40) w44) Q := by
  rw [k0_part50_eq_skeleton]
  unfold k0_part50_skel
  refine tp_bind c (tp_send m κ c 36 60 (by decide) (by decide) (N_slice _ _) ?_)
  refine tp_bind c (tp_send m κ c 37 60 (by decide) (by decide) (N_slice _ _) ?_)
  refine tp_bind c (tp_send m κ c 38 60 (by decide) (by decide) (N_slice _ _) ?_)
  refine tp_bind c (tp_send m κ c 39 60 (by decide) (by decide) (N_slice _ _) ?_)
  refine tp_bind c (tp_send m κ c 40 60 (by decide) (by decide) (N_slice _ _) ?_)
  exact tp_pure c h

/-- Part 51 completes sends 41 to 45. -/
theorem part51 {R : sProp 𝕄} {h0 h1 h2 w45 w46 w47 w48 w49} {Q} (h : iprop(tabPts c ∗ St m κ c R 60 60 46) ⊢ Q ⟨⟩) :
    TP c iprop(tabPts c ∗ St m κ c R 60 60 41) (k0_part51 (F := F) (Memref.whole cc0_stg0_0) h0 (Memref.whole main_arg0) h1 (Memref.whole main_v49) h2 cc0_scratch0 cc0_scratch1 cc0_scratch2 cc0_scratch3 cc0_scratch4
      (oW c 41) w45 (oW c 42) w46 (oW c 43) w47 (oW c 44) w48 (oW c 45) w49) Q := by
  rw [k0_part51_eq_skeleton]
  unfold k0_part51_skel
  refine tp_bind c (tp_send m κ c 41 60 (by decide) (by decide) (N_slice _ _) ?_)
  refine tp_bind c (tp_send m κ c 42 60 (by decide) (by decide) (N_slice _ _) ?_)
  refine tp_bind c (tp_send m κ c 43 60 (by decide) (by decide) (N_slice _ _) ?_)
  refine tp_bind c (tp_send m κ c 44 60 (by decide) (by decide) (N_slice _ _) ?_)
  refine tp_bind c (tp_send m κ c 45 60 (by decide) (by decide) (N_slice _ _) ?_)
  exact tp_pure c h

/-- Part 52 completes sends 46 to 50. -/
theorem part52 {R : sProp 𝕄} {h0 h1 h2 w50 w51 w52 w53 w54} {Q} (h : iprop(tabPts c ∗ St m κ c R 60 60 51) ⊢ Q ⟨⟩) :
    TP c iprop(tabPts c ∗ St m κ c R 60 60 46) (k0_part52 (F := F) (Memref.whole cc0_stg0_0) h0 (Memref.whole main_arg0) h1 (Memref.whole main_v49) h2 cc0_scratch0 cc0_scratch1 cc0_scratch2 cc0_scratch3 cc0_scratch4
      (oW c 46) w50 (oW c 47) w51 (oW c 48) w52 (oW c 49) w53 (oW c 50) w54) Q := by
  rw [k0_part52_eq_skeleton]
  unfold k0_part52_skel
  refine tp_bind c (tp_send m κ c 46 60 (by decide) (by decide) (N_slice _ _) ?_)
  refine tp_bind c (tp_send m κ c 47 60 (by decide) (by decide) (N_slice _ _) ?_)
  refine tp_bind c (tp_send m κ c 48 60 (by decide) (by decide) (N_slice _ _) ?_)
  refine tp_bind c (tp_send m κ c 49 60 (by decide) (by decide) (N_slice _ _) ?_)
  refine tp_bind c (tp_send m κ c 50 60 (by decide) (by decide) (N_slice _ _) ?_)
  exact tp_pure c h

/-- Part 53 completes sends 51 to 55. -/
theorem part53 {R : sProp 𝕄} {h0 h1 h2 w55 w56 w57 w58 w59} {Q} (h : iprop(tabPts c ∗ St m κ c R 60 60 56) ⊢ Q ⟨⟩) :
    TP c iprop(tabPts c ∗ St m κ c R 60 60 51) (k0_part53 (F := F) (Memref.whole cc0_stg0_0) h0 (Memref.whole main_arg0) h1 (Memref.whole main_v49) h2 cc0_scratch0 cc0_scratch1 cc0_scratch2 cc0_scratch3 cc0_scratch4
      (oW c 51) w55 (oW c 52) w56 (oW c 53) w57 (oW c 54) w58 (oW c 55) w59) Q := by
  rw [k0_part53_eq_skeleton]
  unfold k0_part53_skel
  refine tp_bind c (tp_send m κ c 51 60 (by decide) (by decide) (N_slice _ _) ?_)
  refine tp_bind c (tp_send m κ c 52 60 (by decide) (by decide) (N_slice _ _) ?_)
  refine tp_bind c (tp_send m κ c 53 60 (by decide) (by decide) (N_slice _ _) ?_)
  refine tp_bind c (tp_send m κ c 54 60 (by decide) (by decide) (N_slice _ _) ?_)
  refine tp_bind c (tp_send m κ c 55 60 (by decide) (by decide) (N_slice _ _) ?_)
  exact tp_pure c h

end Cert.KernelIdeal.Hand
-- ==== Proof.Body.lean ====
/-
  The kernel on one device: all its parts in turn.
-/
module

public import proofs.«01_k».proof.Proof.Enter1
public import proofs.«01_k».proof.Proof.Loads
public import proofs.«01_k».proof.Proof.Hops1
public import proofs.«01_k».proof.Proof.Hops2
public import proofs.«01_k».proof.Proof.Sends

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-- All parts: every transfer is started and received, and all sends but the last three are complete. -/
theorem part54 {R : sProp 𝕄} {h0 h1 h2} {Q}
    (h : iprop(tabPts c ∗ St m κ c (Rest c R) 60 60 57) ⊢ Q ⟨cW c, chk3 c, oW c 57, chk61 c, oW c 58, chk62 c, oW c 59, chk63 c⟩) :
    TP c iprop(tabPts c ∗ Start m κ c R) (k0_part54 (F := F) (Memref.whole cc0_stg0_0) h0 (Memref.whole main_arg0) h1 (Memref.whole main_v49) h2 cc0_scratch0 cc0_scratch1 cc0_scratch2 cc0_scratch3 cc0_scratch4) Q := by
  rw [k0_part54_eq_skeleton]
  unfold k0_part54_skel
  refine tp_bind c (part1 m κ c ?_)
  refine tp_bind c (part2 c ?_)
  refine tp_bind c (part3 c fun _ _ => ?_)
  refine tp_bind c (part4 c ?_)
  refine tp_bind c (part5 c ?_)
  refine tp_bind c (part6 c fun _ _ => ?_)
  refine tp_bind c (part7 c ?_)
  refine tp_bind c (part8 c ?_)
  refine tp_bind c (part9 c fun _ _ => ?_)
  refine tp_bind c (part10 m κ c ?_)
  refine tp_bind c (part11 m κ c ?_)
  refine tp_bind c (part12 m κ c ?_)
  refine tp_bind c (part13 m κ c fun _ => ?_)
  refine tp_bind c (part14 m κ c ?_)
  refine tp_bind c (part15 m κ c ?_)
  refine tp_bind c (part16 m κ c ?_)
  refine tp_bind c (part17 m κ c fun _ _ => ?_)
  refine tp_bind c (part18 m κ c ?_)
  refine tp_bind c (part19 m κ c ?_)
  refine tp_bind c (part20 m κ c ?_)
  refine tp_bind c (part21 m κ c fun _ => ?_)
  refine tp_bind c (part22 m κ c ?_)
  refine tp_bind c (part23 m κ c ?_)
  refine tp_bind c (part24 m κ c ?_)
  refine tp_bind c (part25 m κ c fun _ _ => ?_)
  refine tp_bind c (part26 m κ c ?_)
  refine tp_bind c (part27 m κ c ?_)
  refine tp_bind c (part28 m κ c ?_)
  refine tp_bind c (part29 m κ c fun _ => ?_)
  refine tp_bind c (part30 m κ c ?_)
  refine tp_bind c (part31 m κ c ?_)
  refine tp_bind c (part32 m κ c ?_)
  refine tp_bind c (part33 m κ c fun _ _ => ?_)
  refine tp_bind c (part34 m κ c ?_)
  refine tp_bind c (part35 m κ c ?_)
  refine tp_bind c (part36 m κ c ?_)
  refine tp_bind c (part37 m κ c fun _ => ?_)
  refine tp_bind c (part38 m κ c ?_)
  refine tp_bind c (part39 m κ c ?_)
  refine tp_bind c (part40 m κ c ?_)
  refine tp_bind c (part41 m κ c fun _ _ => ?_)
  refine tp_bind c (part42 m κ c ?_)
  refine tp_bind c (part43 m κ c ?_)
  refine tp_bind c (part44 m κ c ?_)
  refine tp_bind c (part45 m κ c ?_)
  refine tp_bind c (part46 m κ c ?_)
  refine tp_bind c (part47 m κ c ?_)
  refine tp_bind c (part48 m κ c ?_)
  refine tp_bind c (part49 m κ c ?_)
  refine tp_bind c (part50 m κ c ?_)
  refine tp_bind c (part51 m κ c ?_)
  refine tp_bind c (part52 m κ c ?_)
  refine tp_bind c (part53 m κ c ?_)
  refine tp_bind c (tp_send m κ c 56 60 (by decide) (by decide) (N_slice _ _) ?_)
  exact tp_pure c h

/-- What a device ends with. -/
def End (R : sProp 𝕄) : sProp 𝕄 :=
  iprop(St m κ c iprop(R ∗ atPos ER (barCell c) 1 ∅ 0 ∗ copyPay m c ∗ atPos ER (copyCell c) 1 ∅ 0) 60 60 60)

/-- The kernel on one device, from what it starts with to what it ends with. -/
theorem body_run {R : sProp 𝕄} {h0 h1 h2} {Q} (h : iprop(tabPts c ∗ End m κ c R) ⊢ Q ⟨⟩) :
    TP c iprop(tabPts c ∗ Start m κ c R) (cc0_body (F := F) (Memref.whole cc0_stg0_0) h0 (Memref.whole main_arg0) h1 (Memref.whole main_v49) h2 cc0_scratch0 cc0_scratch1 cc0_scratch2 cc0_scratch3 cc0_scratch4) Q := by
  rw [cc0_body_eq_skeleton]
  unfold cc0_body_skel
  refine tp_bind c (part54 m κ c ?_)
  refine tp_bind c (tp_send m κ c 57 60 (by decide) (by decide) (N_slice _ _) ?_)
  refine tp_bind c (tp_send m κ c 58 60 (by decide) (by decide) (N_slice _ _) ?_)
  refine tp_bind c (tp_send m κ c 59 60 (by decide) (by decide) (N_slice _ _) ?_)
  refine tp_mono c (P' := iprop((tabPts c ∗ R ∗ (bigSep Finset.univ fun i : Fin 60 => reached ER (sendCell c i) 0)
    ∗ atPos ER (barCell c) 1 ∅ 0 ∗ bigSep Finset.univ (colA c 60)
    ∗ bigSep Finset.univ (colB m c 60 60) ∗ bigSep Finset.univ (colC m c 60 60) ∗ bigSep Finset.univ (colD m c 60)) ∗ recs m κ ∗ levAts L lv
    ∗ (cred (tallyAt (copyCell c) () NC) ∗ atPos ER (copyCell c) 0 ∅ 0) ∗ ∃ W, owes (c : Thread nD τ) (Ow c 60) W)) ?_ ?_
  · unfold St Rest
    iintro ⟨$, ⟨$, $, $, $⟩, $, $, $, $, $, $, $, $⟩
  refine tp_bind c (tp_copied m κ c (by decide) (by unfold NC; rfl) ?_)
  refine tp_mono c (P' := iprop(tabPts c ∗ End m κ c R)) ?_ (tp_pure c h)
  unfold End St
  iintro ⟨⟨$, $, $, $, $, $, $, $⟩, $, $, $, $, $⟩

end Cert.KernelIdeal.Hand
-- ==== Proof.Cells.lean ====
/-
  The cells of the copies opened at the start and closed at the end, and what the end of the run leaves.
-/
module

public import proofs.«01_k».proof.Proof.Mem
public import proofs.«01_k».proof.Proof.Body

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-- The place of each counter among the 121: the copy's, the send side's, the receive side's. -/
def slotOf : Unit ⊕ Fin 60 ⊕ Fin 60 → Fin 121
  | .inl _ => ⟨120, by decide⟩
  | .inr (.inl i) => ⟨i.val / 2 + 60 * (i.val % 2), by have := i.isLt; omega⟩
  | .inr (.inr i) => ⟨30 + i.val / 2 + 60 * (i.val % 2), by have := i.isLt; omega⟩
/-- No two counters share a place. -/
theorem slotOf_inj : Function.Injective slotOf := by
  rintro (_ | i | i) (_ | j | j) h <;> have h' := congrArg Fin.val h
  · rfl
  · have h2 : 120 = j.val / 2 + 60 * (j.val % 2) := h'; omega
  · have h2 : 120 = 30 + j.val / 2 + 60 * (j.val % 2) := h'; omega
  · have h2 : i.val / 2 + 60 * (i.val % 2) = 120 := h'; omega
  · have h2 : i.val / 2 + 60 * (i.val % 2) = j.val / 2 + 60 * (j.val % 2) := h'
    exact congrArg (fun x => Sum.inr (Sum.inl x)) (Fin.ext (by omega))
  · have h2 : i.val / 2 + 60 * (i.val % 2) = 30 + j.val / 2 + 60 * (j.val % 2) := h'; omega
  · have h2 : 30 + i.val / 2 + 60 * (i.val % 2) = 120 := h'; omega
  · have h2 : 30 + i.val / 2 + 60 * (i.val % 2) = j.val / 2 + 60 * (j.val % 2) := h'; omega
  · have h2 : 30 + i.val / 2 + 60 * (i.val % 2) = 30 + j.val / 2 + 60 * (j.val % 2) := h'
    exact congrArg (fun x => Sum.inr (Sum.inr x)) (Fin.ext (by omega))
/-- The places as an equivalence. -/
def slotE : (Unit ⊕ Fin 60 ⊕ Fin 60) ≃ Fin 121 :=
  Equiv.ofBijective slotOf ((Fintype.bijective_iff_injective_and_card slotOf).mpr ⟨slotOf_inj, by simp⟩)

/-- The copy's counter in its place. -/
theorem osem_copy : osem (slotE (.inl ())) = .dma copyS := rfl
/-- A send counter in its place. -/
theorem osem_send (i : Fin 60) : osem (slotE (.inr (.inl i))) = .dma (sendS i) :=
  congrArg SemLoc.dma (Fin.ext (show i.val / 2 + 60 * (i.val % 2) + 1 = 1 + i.val / 2 + 60 * (i.val % 2) by omega))
/-- A receive counter in its place. -/
theorem osem_recv (i : Fin 60) : osem (slotE (.inr (.inr i))) = .dma (recvS i) :=
  congrArg SemLoc.dma (Fin.ext (show 30 + i.val / 2 + 60 * (i.val % 2) + 1 = 31 + i.val / 2 + 60 * (i.val % 2) by omega))

omit [FloatOps F] in
/-- A family over the counters is its member for the copy, those for the sends and those for the receives. -/
theorem cells_split (Φ : SemLoc sig → sProp 𝕄) : (bigSep Finset.univ fun k : Fin 121 => Φ (osem k))
    = iprop(Φ (.dma copyS) ∗ (bigSep Finset.univ fun i : Fin 60 => Φ (.dma (sendS i))) ∗ bigSep Finset.univ fun i : Fin 60 => Φ (.dma (recvS i))) := by
  rw [bigSep_univ_equiv slotE fun k : Fin 121 => Φ (osem k), bigSep_univ_sum, bigSep_univ_sum]
  refine congrArg₂ BI.sep ?_ (congrArg₂ BI.sep (bigSep_congr fun i _ => congrArg Φ (osem_send i)) (bigSep_congr fun i _ => congrArg Φ (osem_recv i)))
  exact bigSep_univ_eq_bigSepL [()] (by decide) (by decide) _

omit [FloatOps F] in
/-- The invariant of a counter is among the records. -/
theorem recs_k (k : Fin 121) : recs m κ ⊢ cellInv ER (Rd (F := F) m) (κ (kcell (c, k))) (kcell (c, k)) :=
  recs_dma m κ c ⟨k.val + 1, by show _ < 122; have := k.isLt; omega⟩ (Nat.succ_ne_zero _)

omit [FloatOps F] in
/-- Every cell is opened with its counter at zero. -/
theorem cells_open : iprop(recs m κ ∗ (bigSep Finset.univ fun k : Fin 121 => openTok ER (kcell (c, k))) ∗ Pipeline.ownSems0 osem c)
    ⊢ (|={Set.univ}=> bigSep Finset.univ fun k : Fin 121 => iprop(atPos ER (kcell (c, k)) 0 ∅ 0 ∗ reached ER (kcell (c, k)) 0) : sProp 𝕄) := by
  have h := bigSep_with_persistent (R := recs (F := F) m κ) (S := (Finset.univ : Finset (Fin 121)))
    (Φ := fun k => iprop(openTok ER (kcell (c, k)) ∗ semVal (kcell (c, k)) 0))
    (Ψ := fun k => iprop(|={Set.univ}=> (atPos ER (kcell (c, k)) 0 ∅ 0 ∗ reached ER (kcell (c, k)) 0))) fun k _ => by
      iintro ⟨#HI, Ho, Hv⟩
      iapply (Rounds.cell_open ER (Rd m) (g := kcell (c, k)) (Set.mem_univ (κ (kcell (c, k)))))
      isplitr; · iapply (recs_k m κ c k); iexact HI
      isplitl [Ho] <;> iassumption
  refine BI.Entails.trans ?_ (h.trans (bigSep_fupd _ _))
  unfold Pipeline.ownSems0
  rw [bigSep_sep']
  exact BI.Entails.refl _
omit [FloatOps F] in
/-- Every cell is closed after its round, and its counter is at zero again. -/
theorem cells_close : iprop(recs m κ ∗ bigSep Finset.univ fun k : Fin 121 => atPos ER (kcell (c, k)) 1 ∅ 0)
    ⊢ (|={Set.univ}=> Pipeline.ownSems0 osem c : sProp 𝕄) := by
  have h := bigSep_with_persistent (R := recs (F := F) m κ) (S := (Finset.univ : Finset (Fin 121)))
    (Φ := fun k => atPos ER (kcell (c, k)) 1 ∅ 0)
    (Ψ := fun k => iprop(|={Set.univ}=> semVal (kcell (c, k)) 0)) fun k _ => by
      iintro ⟨#HI, Ha⟩
      iapply (Rounds.cell_close ER (Rd m) (g := kcell (c, k)) (R := 1) (Set.mem_univ (κ (kcell (c, k)))) id (duties_later m (kcell (c, k))))
      isplitr; · iapply (recs_k m κ c k); iexact HI
      iexact Ha
  exact h.trans (bigSep_fupd _ _)
omit [FloatOps F] in
/-- So is the barrier cell. -/
theorem bar_close : iprop(recs m κ ∗ atPos ER (barCell c) 1 ∅ 0) ⊢ (|={Set.univ}=> semVal (barCell c) 0 : sProp 𝕄) := by
  iintro ⟨#HI, Ha⟩
  iapply (Rounds.cell_close ER (Rd m) (g := barCell c) (R := 1) (Set.mem_univ (κ (barCell c))) id (duties_later m (barCell c)))
  isplitr; · iapply (recs_bar m κ c); iexact HI
  iexact Ha

/-! ## The end of the run -/

omit [FloatOps F] in
/-- When all is done every source is back and every send cell is past its round. -/
theorem colC_end : bigSep Finset.univ (colC m c 60 60)
    = iprop((bigSep Finset.univ fun i : Fin 60 => sendPay m c i) ∗ bigSep Finset.univ fun i : Fin 60 => atPos ER (sendCell c i) 1 ∅ 0) := by
  rw [← bigSep_sep']
  exact bigSep_congr fun i _ => by unfold colC; exact if_pos i.isLt
omit [FloatOps F] in
/-- When all is done the tiles of the last hop are here and every receive cell is past its round. -/
theorem colD_end : bigSep Finset.univ (colD m c 60)
    = iprop((bigSep Finset.univ fun i : Fin 4 => recvPay m c ⟨56 + i.val, by omega⟩) ∗ bigSep Finset.univ fun i : Fin 60 => atPos ER (recvCell c i) 1 ∅ 0) := by
  have h : bigSep Finset.univ (colD m c 60) = bigSep Finset.univ fun i : Fin 60 =>
      iprop((if 56 ≤ i.val then recvPay m c i else iprop(emp)) ∗ atPos ER (recvCell c i) 1 ∅ 0) :=
    bigSep_congr fun i _ => by
      unfold colD
      rw [if_pos i.isLt]
      by_cases h : 56 ≤ i.val
      · rw [if_pos h, if_pos h]
      · rw [if_neg h, if_neg h]; exact (eq_of emp_sep).symm
  have h2 : (bigSep Finset.univ fun i : Fin 60 => (if 56 ≤ i.val then recvPay m c i else iprop(emp)))
      = bigSep Finset.univ fun i : Fin 4 => recvPay m c ⟨56 + i.val, by omega⟩ := by
    rw [last_four]
    have e1 : (bigSep Finset.univ fun i : Fin 56 => (if 56 ≤ (⟨i.val, by omega⟩ : Fin 60).val then recvPay m c ⟨i.val, by omega⟩ else iprop(emp))) = iprop(emp) :=
      (bigSep_congr fun i _ => by rw [if_neg (show ¬ 56 ≤ i.val by have := i.isLt; omega)]; rfl).trans (BI.bigSep_emp_const _)
    have e2 : (bigSep Finset.univ fun i : Fin 4 => (if 56 ≤ (⟨56 + i.val, by omega⟩ : Fin 60).val then recvPay m c ⟨56 + i.val, by omega⟩ else iprop(emp)))
        = bigSep Finset.univ fun i : Fin 4 => recvPay m c ⟨56 + i.val, by omega⟩ :=
      bigSep_congr fun i _ => if_pos (Nat.le_add_right _ _)
    rw [e1, e2]
    exact eq_of emp_sep
  rw [h, bigSep_sep', h2]

omit [FloatOps F] in
/-- From the end of the run: the result and the argument whole, every counter at zero, nothing owed. -/
theorem finish {R : sProp 𝕄} : End m κ c R
    ⊢ (|={Set.univ}=> ((((c : Thread nD τ).loc main_v49) ↦{fullShare} G m c) ∗ (((c : Thread nD τ).loc main_arg0) ↦{fullShare} X m c)
        ∗ semVal (barCell c) 0 ∗ Pipeline.ownSems0 osem c ∗ (∃ W, owes (c : Thread nD τ) 0 W) ∗ R) : sProp 𝕄) := by
  have hs : (bigSep Finset.univ fun i : Fin 60 => sendPay m c i)
      = iprop((bigSep Finset.univ fun k : Fin 4 => quartPts m c k) ∗ bigSep Finset.univ fun i : Fin 56 => sendPay m c ⟨i.val + 4, by omega⟩) := by
    rw [first_four, sources_first]
  have ha := cells_split (F := F) fun s => atPos ER ((c : Thread nD τ), s) 1 ∅ 0
  unfold End St
  rw [colC_end, colD_end, hs, out_split, arg_split, tiles_end, Ow_last]
  unfold copyPay
  iintro ⟨⟨HR, Hab, ⟨Hbl, Harg⟩, Hac⟩, #HI, -, -, -, -, ⟨⟨Hq, Hsd⟩, Has⟩, ⟨Hrv, Har⟩, HO⟩
  imod (bar_close m κ c) $$ [Hab] with Hb0
  · isplitr; · iexact HI
    iexact Hab
  ihave Hall := (Entails.of_eq ha.symm) $$ [Hac Has Har]
  · isplitl [Hac]; · iexact Hac
    isplitl [Has] <;> iassumption
  imod (cells_close m κ c) $$ [Hall] with Hk0
  · isplitr; · iexact HI
    iexact Hall
  imodintro
  isplitl [Hbl Hsd Hrv]
  · isplitl [Hbl]; · iexact Hbl
    isplitl [Hsd] <;> iassumption
  isplitl [Harg Hq]
  · isplitl [Harg] <;> iassumption
  isplitl [Hb0]; · iexact Hb0
  isplitl [Hk0]; · iexact Hk0
  isplitl [HO] <;> iassumption

end Cert.KernelIdeal.Hand
-- ==== Proof.Ready.lean ====
/-
  What a device brings to the kernel, and that the kernel can start from it.
-/
module

public import proofs.«01_k».proof.Proof.Cells

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

/-! ## What rides to the kernel -/

/-- What every device may consult: the invariants, and that every barrier cell is open. -/
def records : sProp 𝕄 := iprop(recs m κ ∗ bigSep Finset.univ fun d : Dev nD => reached ER (barCell d) 0)
instance records_persistent : BI.Persistent (records (F := F) m κ) := by unfold records; infer_instance
/-- The tokens of the payments a device makes. -/
def pays : sProp 𝕄 :=
  iprop(dutyTok ER (barCell (nbr 1 c)) 0 false ∗ dutyTok ER (barCell (nbr 0 c)) 0 true ∗ dutyTok ER (copyCell c) 0 false ∗ toks c)
/-- The credits it waits with. -/
def credits : sProp 𝕄 :=
  iprop(cred (tallyAt (barCell c) () 2) ∗ bigSep Finset.univ fun i : Fin 60 => cred (tallyAt (recvCell c i) () N))
/-- Before the cells of the copies are opened. -/
def Tk : sProp 𝕄 :=
  iprop((∃ κ, records m κ ∗ atPos ER (barCell c) 0 ∅ 0 ∗ (bigSep Finset.univ fun k : Fin 121 => openTok ER (kcell (c, k))) ∗ pays c) ∗ credits c)
/-- After. -/
def Xk : sProp 𝕄 :=
  iprop((∃ κ, records m κ ∗ atPos ER (barCell c) 0 ∅ 0
      ∗ (bigSep Finset.univ fun k : Fin 121 => iprop(atPos ER (kcell (c, k)) 0 ∅ 0 ∗ reached ER (kcell (c, k)) 0)) ∗ pays c)
    ∗ credits c ∗ levAts L lv)

omit [FloatOps F] in
/-- The cells are opened on entry. -/
theorem enter_open : iprop(Tk m c ∗ Pipeline.ownSems0 osem c ∗ levAts L lv) ⊢ (|={Set.univ}=> Xk m c : sProp 𝕄) := by
  unfold Tk Xk
  iintro ⟨⟨⟨%κ, #HR, Hb, Ho, Hp⟩, Hc⟩, Hs, Hl⟩
  imod (cells_open m κ c) $$ [Ho Hs] with Hk
  · unfold records
    icases HR with ⟨#HI, -⟩
    isplitr; · iexact HI
    isplitl [Ho] <;> iassumption
  imodintro
  isplitl [Hb Hk Hp]
  · iexists κ
    isplitr; · iexact HR
    isplitl [Hb]; · iexact Hb
    isplitl [Hk] <;> iassumption
  isplitl [Hc] <;> iassumption

omit [FloatOps F] in
/-- The tiles of the device's own result, for the neighbours to write. -/
theorem hands : iprop((bigSep Finset.univ fun i : Fin 60 => iprop(∃ f, outPts (F := F) c (rcv c i) f)) ∗ bigSep Finset.univ fun i : Fin 60 => reached ER (recvCell c i) 0)
    ⊢ iprop(barPay (F := F) (nbr 1 c) false ∗ barPay (nbr 0 c) true) := by
  unfold barPay
  rw [← bigSep_sep', ← bigSep_sep']
  refine bigSep_mono fun i _ => ?_
  rcases Nat.mod_two_eq_zero_or_one i.val with h | h
  · have e : hand (F := F) (nbr 1 c) i = iprop((∃ f, outPts (F := F) c (rcv c i) f) ∗ reached ER (recvCell c i) 0) := by
      have ht : tgt (nbr 1 c) i = c := by unfold tgt; rw [h]; exact nbr_src 0 c
      have hr : snd (nbr 1 c) i = rcv c i := by rw [← rcv_tgt, ht]
      unfold hand
      rw [hr, ht]
    rw [if_pos (show i.val % 2 = dn false from h), if_neg (show ¬ i.val % 2 = dn true by rw [h]; decide), e]
    exact (sep_emp (PROP := sProp 𝕄)).2
  · have e : hand (F := F) (nbr 0 c) i = iprop((∃ f, outPts (F := F) c (rcv c i) f) ∗ reached ER (recvCell c i) 0) := by
      have ht : tgt (nbr 0 c) i = c := by unfold tgt; rw [h]; exact nbr_src 1 c
      have hr : snd (nbr 0 c) i = rcv c i := by rw [← rcv_tgt, ht]
      unfold hand
      rw [hr, ht]
    rw [if_neg (show ¬ i.val % 2 = dn false by rw [h]; decide), if_pos (show i.val % 2 = dn true from h), e]
    exact (emp_sep (PROP := sProp 𝕄)).2

omit [FloatOps F] in
/-- At the start every send cell waits. -/
theorem colC_start₀ : bigSep Finset.univ (colC m c 0 0) = bigSep Finset.univ fun i : Fin 60 => atPos ER (sendCell c i) 0 ∅ 0 :=
  bigSep_congr fun i _ => by unfold colC; rw [if_neg (Nat.not_lt_zero _), if_neg (Nat.not_lt_zero _)]
omit [FloatOps F] in
/-- At the start every receive cell waits, with its credit. -/
theorem colD_start₀ : bigSep Finset.univ (colD m c 0)
    = iprop((bigSep Finset.univ fun i : Fin 60 => cred (tallyAt (recvCell c i) () N)) ∗ bigSep Finset.univ fun i : Fin 60 => atPos ER (recvCell c i) 0 ∅ 0) := by
  rw [← bigSep_sep']
  exact bigSep_congr fun i _ => by unfold colD; rw [if_neg (Nat.not_lt_zero _)]

omit [FloatOps F] in
/-- A barrier cell is open. -/
theorem bar_open (d : Dev nD) : (bigSep Finset.univ fun d : Dev nD => (reached ER (barCell d) 0 : sProp 𝕄)) ⊢ reached ER (barCell d) 0 :=
  bigSep_elim (Finset.mem_univ d)
omit [FloatOps F] in
/-- Tiles at one contents are tiles at some. -/
theorem tiles_any (f : Buf (Elt F) ((c : Thread nD τ).loc main_v49)) : (bigSep Finset.univ fun i : Fin 60 => outPts (F := F) c (rcv c i) f)
    ⊢ bigSep Finset.univ fun i : Fin 60 => iprop(∃ f, outPts (F := F) c (rcv c i) f) :=
  bigSep_mono fun i _ => by
    show outPts (F := F) c (rcv c i) f ⊢ iprop(∃ f, outPts (F := F) c (rcv c i) f)
    iintro H
    iexists f
    iexact H

omit [FloatOps F] in
/-- With the result and the argument whole the kernel can start. -/
theorem start_intro {R : sProp 𝕄} (f : Buf (Elt F) ((c : Thread nD τ).loc main_v49)) :
    iprop((((c : Thread nD τ).loc main_v49) ↦{fullShare} f) ∗ (((c : Thread nD τ).loc main_arg0) ↦{fullShare} X m c)
      ∗ (records m κ ∗ atPos ER (barCell c) 0 ∅ 0
        ∗ (bigSep Finset.univ fun k : Fin 121 => iprop(atPos ER (kcell (c, k)) 0 ∅ 0 ∗ reached ER (kcell (c, k)) 0)) ∗ pays c)
      ∗ credits c ∗ levAts L lv ∗ (∃ W, owes (c : Thread nD τ) (O₀ c) W) ∗ R)
    ⊢ Start m κ c R := by
  have ha := cells_split (F := F) fun s => atPos ER ((c : Thread nD τ), s) 0 ∅ 0
  have hr := cells_split (F := F) fun s => reached ER ((c : Thread nD τ), s) 0
  unfold Start pays credits records barDuty
  rw [out_split, arg_split, bigSep_sep', sources_start, colC_start₀, colD_start₀]
  iintro ⟨⟨Hbl, Hts⟩, ⟨Harg, Hq⟩, ⟨⟨#HI, #HB⟩, Hab, ⟨Hat, Hre⟩, Hd1, Hd0, Hdc, Htk⟩, ⟨Hcb, Hcr⟩, Hl, HO, HR⟩
  ihave Hat := (Entails.of_eq ha) $$ Hat
  icases Hat with ⟨Hac, Has, Har⟩
  ihave Hre := (Entails.of_eq hr) $$ Hre
  icases Hre with ⟨Hrc, Hrs, Hrr⟩
  ihave Hts := (tiles_any c f) $$ Hts
  ihave Hh := (hands c) $$ [Hts Hrr]
  · isplitl [Hts] <;> iassumption
  icases Hh with ⟨Hh1, Hh0⟩
  isplitl [HR]; · iexact HR
  isplitr; · iexact HI
  isplitl [Hl]; · iexact Hl
  isplitl [Hrs]; · iexact Hrs
  isplitl [Hd1 Hh1 Hd0 Hh0]
  · isplitl [Hd1 Hh1]
    · isplitl [Hd1]; · iexact Hd1
      isplitl [Hh1]; · iexact Hh1
      iapply (bar_open (F := F) (nbr 1 c)) $$ HB
    · isplitl [Hd0]; · iexact Hd0
      isplitl [Hh0]; · iexact Hh0
      iapply (bar_open (F := F) (nbr 0 c)) $$ HB
  isplitl [Hcb Hab]
  · isplitl [Hcb] <;> iassumption
  isplitl [Hbl Harg Hdc Hrc]
  · isplitl [Hbl]; · iexists f; iexact Hbl
    isplitl [Harg]; · iexact Harg
    isplitl [Hdc] <;> iassumption
  isplitl [Hac]; · iexact Hac
  isplitl [Htk]; · iexact Htk
  isplitl [Hq]; · iexact Hq
  isplitl [Has]; · iexact Has
  isplitl [Hcr Har]
  · isplitl [Hcr] <;> iassumption
  iexact HO

end Cert.KernelIdeal.Hand
-- ==== Proof.Meta.lean ====
/-
  What the host operations before the kernel leave in the table: the words of `Table.lean`, on every device, whatever the memory held.
-/
module

public import proofs.«01_k».proof.Proof.Table
public import proofs.«01_k».proof.Proof.Gen.KernelIdeal.Regions
public import Idealize.ShloMosaic.Lib.StableHlo.RunRead

@[expose] public section

noncomputable section

namespace Cert.KernelIdeal.Hand

open Cert.KernelIdeal Cert.KernelIdeal.Gen
open Idealize.ShloMosaic Idealize.ShloMosaic.TcCoe StableHlo

variable {F : FTy → Type} [FloatOps F]

/-! ## The host functions, over words alone -/

/-- The remainder function, word by word. -/
def remT (x n : BitVec 32) : BitVec 32 :=
  Scalar.select
    (IntOp.andi
      (IntOp.cmpi .ne (IntOp.cmpi .slt (IntOp.remsi .host x (Scalar.select (IntOp.cmpi .eq n 0#32) 1#32 n)) 0#32)
        (IntOp.cmpi .slt (Scalar.select (IntOp.cmpi .eq n 0#32) 1#32 n) 0#32))
      (IntOp.cmpi .ne (IntOp.remsi .host x (Scalar.select (IntOp.cmpi .eq n 0#32) 1#32 n)) 0#32))
    (IntOp.addi (IntOp.remsi .host x (Scalar.select (IntOp.cmpi .eq n 0#32) 1#32 n)) (Scalar.select (IntOp.cmpi .eq n 0#32) 1#32 n))
    (IntOp.remsi .host x (Scalar.select (IntOp.cmpi .eq n 0#32) 1#32 n))

/-- The table lookup at sixteen places. -/
def gatherT (x y : IVec S16 32) : IVec S16 32 :=
  Host.gather gather_S16_S16x1_S16_n_0_n_n_0_1_1 x (broadcastInDim S16x1 ![0] bcast_S16_S16x1_0
    (select (cmpi .slt y (broadcastInDim S16 ![] bcast_S_S16 (constantI S_ 32 0#32)))
      (addi y (broadcastInDim S16 ![] bcast_S_S16 (constantI S_ 32 16#32))) y))

/-- The table lookup at one place. -/
def sliceT (x : IVec S16 32) (y : IVec S_ 32) : IVec S_ 32 := fun i =>
  shapeCast S_ (Host.dynamicSlice S1 x (fun _ => (select (cmpi .slt y (constantI S_ 32 0#32)) (addi y (constantI S_ 32 16#32)) y (Shape.Idx.first h_S_)).toInt)
    sliceFits_S16_S1) shapeCasts_S1_S_ i

/-- A slice of one element depends only on where it starts. -/
theorem slice_congr (x : IVec S16 32) (a b : Fin 1 → ℤ) (h : a 0 = b 0) :
    Host.dynamicSlice S1 x a sliceFits_S16_S1 = Host.dynamicSlice S1 x b sliceFits_S16_S1 := by
  rw [show a = b from funext fun k => by rw [Subsingleton.elim k 0]; exact h]

/-! ## The stretches -/

/-- Looking up a device's own number in the table of places gives its place. -/
theorem place_word : ∀ c : Dev nD, shapeCast S_ (Host.dynamicSlice S1 (fun i => lit1 (S16.rowMajor i)) (fun _ => (c.val : ℤ)) sliceFits_S16_S1) shapeCasts_S1_S_
    (Shape.Idx.first h_S_) = BitVec.ofNat 32 (place c) := by
  decide +kernel
/-- The first stretch leaves the device's place. -/
theorem read0_v9 (c : Dev nD) (V : Valuation τ sig (Elt F)) : after (hostOps0 c) V (Proc.devRef .tc main_v9) = fun _ => BitVec.ofNat 32 (place c) := by
  after_reads_simp
  funext i
  rw [← place_word c, show Shape.Idx.first h_S_ = i from funext fun a => a.elim0]
  refine congrFun (congrArg (fun z => shapeCast S_ z shapeCasts_S1_S_) (slice_congr _ _ _ ?_)) i
  show BitVec.toInt (upto (hostOps0 c) V 13 (Proc.devRef .tc main_v7) (Shape.Idx.first h_S_)) = _
  after_reads_simp
  fin_cases c <;> rfl
/-- It leaves the place less each of 0 to 15. -/
theorem read0_v12 (c : Dev nD) (V : Valuation τ sig (Elt F)) : after (hostOps0 c) V (Proc.devRef .tc main_v12) = fun i => BitVec.ofNat 32 (place c) - BitVec.ofNat 32 (i 0).val := by
  have h : after (hostOps0 c) V (Proc.devRef .tc main_v12)
      = subi (broadcastInDim S16 ![] bcast_S_S16 (after (hostOps0 c) V (Proc.devRef .tc main_v9) : IVec S_ 32)) (iotaInDim S16 32 0) := by
    after_reads_simp
  rw [h, read0_v9]
  rfl
/-- It leaves the order of the ring. -/
theorem read0_c (c : Dev nD) (V : Valuation τ sig (Elt F)) : after (hostOps0 c) V (Proc.devRef .tc main_c) = fun i => lit0 (S16.rowMajor i) := by
  after_reads_simp
  rfl
/-- It leaves the divisor 16. -/
theorem read0_c5 (c : Dev nD) (V : Valuation τ sig (Elt F)) : after (hostOps0 c) V (Proc.devRef .tc main_c_5) = constantI S_ 32 16#32 := by
  after_reads_simp

/-- The second stretch leaves the remainders of the forward places. -/
theorem read1_v13 (V : Valuation τ sig (Elt F)) (x : IVec S16 32) (h : V (Proc.devRef .tc main_c_5) = constantI S_ 32 16#32)
    (hx : V (Proc.devRef .tc main_v12) = x) :
    after hostOps0_1 V (Proc.devRef .tc main_v13) = fun i => remT (x i) 16#32 := by
  after_reads_simp
  rw [h, hx]
  rfl
/-- The fourth leaves the remainders of the backward places. -/
theorem read3_v24 (V : Valuation τ sig (Elt F)) (x : IVec S16 32) (h : V (Proc.devRef .tc main_c_8) = constantI S_ 32 16#32)
    (hx : V (Proc.devRef .tc main_v23) = x) :
    after hostOps0_3 V (Proc.devRef .tc main_v24) = fun i => remT (x i) 16#32 := by
  after_reads_simp
  rw [h, hx]
  rfl
/-- The sixth leaves the remainder of the next place. -/
theorem read5_v33 (V : Valuation τ sig (Elt F)) (x : IVec S_ 32) (h : V (Proc.devRef .tc main_c_12) = constantI S_ 32 16#32)
    (hx : V (Proc.devRef .tc main_v32) = x) :
    after hostOps0_5 V (Proc.devRef .tc main_v33) = fun i => remT (x i) 16#32 := by
  after_reads_simp
  rw [h, hx]
  rfl
/-- The eighth leaves the remainder of the place before. -/
theorem read7_v40 (V : Valuation τ sig (Elt F)) (x : IVec S_ 32) (h : V (Proc.devRef .tc main_c_16) = constantI S_ 32 16#32)
    (hx : V (Proc.devRef .tc main_v39) = x) :
    after hostOps0_7 V (Proc.devRef .tc main_v40) = fun i => remT (x i) 16#32 := by
  after_reads_simp
  rw [h, hx]
  rfl
/-- The third leaves the forward origins. -/
theorem read2_v20 (V : Valuation τ sig (Elt F)) (x y : IVec S16 32) (hx : V (Proc.devRef .tc main_c) = x) (hy : V (Proc.devRef .tc main_v13) = y) :
    after hostOps0_2 V (Proc.devRef .tc main_v20) = gatherT x y := by
  after_reads_simp
  rw [hx, hy]
  rfl
/-- It leaves the place plus each of 0 to 15. -/
theorem read2_v23 (V : Valuation τ sig (Elt F)) (x : BitVec 32) (hx : V (Proc.devRef .tc main_v9) = fun _ => x) :
    after hostOps0_2 V (Proc.devRef .tc main_v23) = fun i => x + BitVec.ofNat 32 (i 0).val := by
  after_reads_simp
  rw [hx]
  rfl
/-- It leaves the divisor 16. -/
theorem read2_c8 (V : Valuation τ sig (Elt F)) : after hostOps0_2 V (Proc.devRef .tc main_c_8) = constantI S_ 32 16#32 := by
  after_reads_simp
/-- The fifth leaves the backward origins. -/
theorem read4_v31 (V : Valuation τ sig (Elt F)) (x y : IVec S16 32) (hx : V (Proc.devRef .tc main_c) = x) (hy : V (Proc.devRef .tc main_v24) = y) :
    after hostOps0_4 V (Proc.devRef .tc main_v31) = gatherT x y := by
  after_reads_simp
  rw [hx, hy]
  rfl
/-- It leaves the place plus one. -/
theorem read4_v32 (V : Valuation τ sig (Elt F)) (x : BitVec 32) (hx : V (Proc.devRef .tc main_v9) = fun _ => x) :
    after hostOps0_4 V (Proc.devRef .tc main_v32) = fun _ => x + 1#32 := by
  after_reads_simp
  rw [hx]
  rfl
/-- It leaves the divisor 16. -/
theorem read4_c12 (V : Valuation τ sig (Elt F)) : after hostOps0_4 V (Proc.devRef .tc main_c_12) = constantI S_ 32 16#32 := by
  after_reads_simp
/-- The seventh leaves the next device. -/
theorem read6_v38 (V : Valuation τ sig (Elt F)) (x : IVec S16 32) (y : IVec S_ 32) (hx : V (Proc.devRef .tc main_c) = x) (hy : V (Proc.devRef .tc main_v33) = y) :
    after hostOps0_6 V (Proc.devRef .tc main_v38) = sliceT x y := by
  after_reads_simp
  rw [hx]
  unfold sliceT
  funext i
  refine congrFun (congrArg (fun z => shapeCast S_ z shapeCasts_S1_S_) (slice_congr x _ _ ?_)) i
  show BitVec.toInt (upto hostOps0_6 V 5 (Proc.devRef .tc main_v36) (Shape.Idx.first h_S_)) = _
  after_reads_simp
  rw [hy]
/-- It leaves the place less one. -/
theorem read6_v39 (V : Valuation τ sig (Elt F)) (x : BitVec 32) (hx : V (Proc.devRef .tc main_v9) = fun _ => x) :
    after hostOps0_6 V (Proc.devRef .tc main_v39) = fun _ => x - 1#32 := by
  after_reads_simp
  rw [hx]
  rfl
/-- It leaves the divisor 16. -/
theorem read6_c16 (V : Valuation τ sig (Elt F)) : after hostOps0_6 V (Proc.devRef .tc main_c_16) = constantI S_ 32 16#32 := by
  after_reads_simp
/-- The last leaves the device before. -/
theorem read8_v45 (V : Valuation τ sig (Elt F)) (x : IVec S16 32) (y : IVec S_ 32) (hx : V (Proc.devRef .tc main_c) = x) (hy : V (Proc.devRef .tc main_v40) = y) :
    after hostOps0_8 V (Proc.devRef .tc main_v47) = broadcastInDim S1 ![] bcast_S_S1 (sliceT x y) := by
  after_reads_simp
  rw [hx]
  unfold sliceT
  refine congrArg _ (funext fun i => ?_)
  refine congrFun (congrArg (fun z => shapeCast S_ z shapeCasts_S1_S_) (slice_congr x _ _ ?_)) i
  show BitVec.toInt (upto hostOps0_8 V 5 (Proc.devRef .tc main_v43) (Shape.Idx.first h_S_)) = _
  after_reads_simp
  rw [hy]
/-- It leaves the four parts of the table one after the other. -/
theorem read8_v48 (V : Valuation τ sig (Elt F)) :
    after hostOps0_8 V (Proc.devRef .tc main_v48) = concatenate S34 0 [⟨S16, (V (Proc.devRef .tc main_v20) : IVec S16 32)⟩, ⟨S16, (V (Proc.devRef .tc main_v31) : IVec S16 32)⟩,
      ⟨S1, broadcastInDim S1 ![] bcast_S_S1 (V (Proc.devRef .tc main_v38) : IVec S_ 32)⟩, ⟨S1, (after hostOps0_8 V (Proc.devRef .tc main_v47) : IVec S1 32)⟩] concatenates_S16_S16_S1_S1_S34_d0 := by
  rfl
/-! ## The words, device by device -/

/-- The table of `c` as the host operations make it. -/
def metaT (c : Dev nD) : IVec S34 32 :=
  concatenate S34 0 [⟨S16, gatherT (fun i => lit0 (S16.rowMajor i)) (fun i => remT (BitVec.ofNat 32 (place c) - BitVec.ofNat 32 (i 0).val) 16#32)⟩,
    ⟨S16, gatherT (fun i => lit0 (S16.rowMajor i)) (fun i => remT (BitVec.ofNat 32 (place c) + BitVec.ofNat 32 (i 0).val) 16#32)⟩,
    ⟨S1, broadcastInDim S1 ![] bcast_S_S1 (sliceT (fun i => lit0 (S16.rowMajor i)) (fun _ => remT (BitVec.ofNat 32 (place c) + 1#32) 16#32))⟩,
    ⟨S1, broadcastInDim S1 ![] bcast_S_S1 (sliceT (fun i => lit0 (S16.rowMajor i)) (fun _ => remT (BitVec.ofNat 32 (place c) - 1#32) 16#32))⟩]
    concatenates_S16_S16_S1_S1_S34_d0

set_option backward.proofsInPublic true in
/-- The index of a word of the table. -/
def idx34 (j : Fin 34) : S34.Idx := fun a => ⟨j.val, by rw [Subsingleton.elim a 0]; exact j.isLt⟩

set_option maxRecDepth 100000 in
/-- Each word of the table is the one the ring asks for: checked for all devices and all words. -/
theorem metaT_words : ∀ (c : Dev nD) (j : Fin 34), metaT c (idx34 j) = metaW c j.val := by
  decide +kernel

/-- The words of the table, whatever the device held before. -/
theorem metaT_eq (c : Dev nD) (i : S34.Idx) : metaT c i = metaW c (i 0).val := by
  rw [← metaT_words c (i 0), show idx34 (i 0) = i from funext fun a => by rw [Subsingleton.elim a 0]; rfl]

variable (m : (ℓ : Loc nD τ sig) → Buf (Elt F) ℓ)

/-- The table the region is given. -/
theorem meta_eq (c : Dev nD) : V9 m c (Proc.devRef .tc main_v48) = metaT c := by
  have h13 := read1_v13 (V1 m c) _ (read0_c5 c (V0 m c)) (read0_v12 c (V0 m c))
  have h20 := read2_v20 (V2 m c) _ _ ((V2_of m c main_c (by decide)).trans (read0_c c (V0 m c))) h13
  have h24 := read3_v24 (V3 m c) _ (read2_c8 (V2 m c)) (read2_v23 (V2 m c) _ ((V2_of m c main_v9 (by decide)).trans (read0_v9 c (V0 m c))))
  have h31 := read4_v31 (V4 m c) _ _ ((V4_of m c main_c (by decide)).trans ((V3_of m c main_c (by decide)).trans ((V2_of m c main_c (by decide)).trans (read0_c c (V0 m c))))) h24
  have h33 := read5_v33 (V5 m c) _ (read4_c12 (V4 m c)) (read4_v32 (V4 m c) _ ((V4_of m c main_v9 (by decide)).trans ((V3_of m c main_v9 (by decide)).trans ((V2_of m c main_v9 (by decide)).trans (read0_v9 c (V0 m c))))))
  have h38 := read6_v38 (V6 m c) _ _ ((V6_of m c main_c (by decide)).trans ((V5_of m c main_c (by decide)).trans ((V4_of m c main_c (by decide)).trans ((V3_of m c main_c (by decide)).trans ((V2_of m c main_c (by decide)).trans (read0_c c (V0 m c))))))) h33
  have h40 := read7_v40 (V7 m c) _ (read6_c16 (V6 m c)) (read6_v39 (V6 m c) _ ((V6_of m c main_v9 (by decide)).trans ((V5_of m c main_v9 (by decide)).trans ((V4_of m c main_v9 (by decide)).trans ((V3_of m c main_v9 (by decide)).trans ((V2_of m c main_v9 (by decide)).trans (read0_v9 c (V0 m c))))))))
  have h47 := read8_v45 (V8 m c) _ _ ((V8_of m c main_c (by decide)).trans ((V7_of m c main_c (by decide)).trans ((V6_of m c main_c (by decide)).trans ((V5_of m c main_c (by decide)).trans ((V4_of m c main_c (by decide)).trans ((V3_of m c main_c (by decide)).trans ((V2_of m c main_c (by decide)).trans (read0_c c (V0 m c))))))))) h40
  rw [show V9 m c (Proc.devRef .tc main_v48) = _ from read8_v48 (V8 m c), h47]
  rw [show V8 m c (Proc.devRef .tc main_v20) = _ from ((V8_of m c main_v20 (by decide)).trans ((V7_of m c main_v20 (by decide)).trans ((V6_of m c main_v20 (by decide)).trans ((V5_of m c main_v20 (by decide)).trans ((V4_of m c main_v20 (by decide)).trans (h20))))))]
  rw [show V8 m c (Proc.devRef .tc main_v31) = _ from ((V8_of m c main_v31 (by decide)).trans ((V7_of m c main_v31 (by decide)).trans ((V6_of m c main_v31 (by decide)).trans (h31))))]
  rw [show V8 m c (Proc.devRef .tc main_v38) = _ from ((V8_of m c main_v38 (by decide)).trans (h38))]
  rfl

/-- Word `j` of it. -/
theorem meta_read (c : Dev nD) (i : S34.Idx) : (V9 m c (Proc.devRef .tc main_v48) : IVec S34 32) i = metaW c (i 0).val := by
  rw [meta_eq, metaT_eq]

/-- The host operations leave the argument as it is. -/
theorem arg_eq (c : Dev nD) : V9 m c (Proc.devRef .tc main_arg0) = m (c, Proc.devRef .tc main_arg0) := by
  rw [V9_of m c main_arg0 (by decide), V8_of m c main_arg0 (by decide), V7_of m c main_arg0 (by decide), V6_of m c main_arg0 (by decide), V5_of m c main_arg0 (by decide), V4_of m c main_arg0 (by decide), V3_of m c main_arg0 (by decide), V2_of m c main_arg0 (by decide), V1_of m c main_arg0 (by decide)]

end Cert.KernelIdeal.Hand
-- ==== Proof.Region.lean ====
/-
  The call of the kernel: its proof data and the run of its body.
-/
module

public import proofs.«01_k».proof.Proof.Ready
public import proofs.«01_k».proof.Proof.Meta

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (c : Dev nD)

/-! ## The proof data of the call -/

/-- The table the call stages. -/
def tab : (cc0_stg0_0 : Ref sig .tc).ty.Contents (Elt F) := fun i : S34.Idx => metaW c (i 0).val

/-- What the call leaves. -/
def Left : sProp 𝕄 :=
  iprop((((c : Thread nD τ).loc main_v49) ↦{fullShare} G m c) ∗ (((c : Thread nD τ).loc main_arg0) ↦{fullShare} X m c)
    ∗ semVal (barCell c) 0 ∗ Pipeline.ownSems0 osem c ∗ ∃ r, prngReg c r)
/-- What it enters with. -/
def Entry : sProp 𝕄 :=
  iprop((∃ f, ((c : Thread nD τ).loc main_v49) ↦{fullShare} f) ∗ (((c : Thread nD τ).loc main_arg0) ↦{fullShare} X m c) ∗ Xk m c ∗ ∃ r, prngReg c r)

/-- The call: its table, its invariant before and after its one point, what the core owes before and after. -/
def dat : Dat τ (Elt F) Unit ℕ UU ℕ cfg0 c where
  A w := V9 m c (Proc.devRef .tc (Pipeline.arrRef spec0 w))
  after w _ := match w with
    | ⟨0, _⟩ => tab c
  Φ t := if t.val = 0 then Entry m c else Left m c
  q _ := fullShare
  owed t := if t.val = 0 then O₀ c else 0

/-- The call before its point owes everything. -/
theorem owed_zero : (dat (F := F) m c).owed 0 = O₀ c := by
  show (if ((0 : Fin (cfg0.N + 1)).val = 0) then O₀ c else 0) = O₀ c
  exact if_pos rfl
/-- So it does on entry to the point. -/
theorem owed_first : (dat (F := F) m c).owed t0_0.castSucc = O₀ c := by
  show (if (t0_0.castSucc : Fin (cfg0.N + 1)).val = 0 then O₀ c else 0) = O₀ c
  exact if_pos rfl
/-- After the point nothing. -/
theorem owed_last : (dat (F := F) m c).owed (Fin.last _) = 0 := by
  show (if (Fin.last cfg0.N).val = 0 then O₀ c else 0) = 0
  rw [Fin.val_last, if_neg (by rw [show cfg0.N = 1 from N_0]; decide)]
/-- The point's end is the last. -/
theorem t0_succ : (t0_0.succ : Fin (cfg0.N + 1)) = Fin.last _ := Fin.ext (by rw [Fin.val_last]; exact (N_0).symm)
/-- The invariant before. -/
theorem inv_first : (dat (F := F) m c).Φ t0_0.castSucc = Entry m c := by
  show (if (t0_0.castSucc : Fin (cfg0.N + 1)).val = 0 then Entry m c else Left m c) = _
  exact if_pos rfl
/-- The invariant before, at the start. -/
theorem inv_zero : (dat (F := F) m c).Φ 0 = Entry m c := by
  show (if ((0 : Fin (cfg0.N + 1)).val = 0) then Entry m c else Left m c) = _
  exact if_pos rfl
/-- The invariant after. -/
theorem inv_last : (dat (F := F) m c).Φ (Fin.last _) = Left m c := by
  show (if (Fin.last cfg0.N).val = 0 then Entry m c else Left m c) = _
  rw [Fin.val_last, if_neg (by rw [show cfg0.N = 1 from N_0]; decide)]

/-- What the core owes, as the call holds it. -/
theorem owes_in (t : Fin (cfg0.N + 1)) (O : CellTallies nD τ sig Unit) (h0 : (dat (F := F) m c).owed t = O) (W : Waits sig Unit) :
    (owes (c : Thread nD τ) O W : sProp 𝕄) ⊢ (dat (F := F) m c).owesAt () t := by
  unfold Dat.owesAt Pipeline.owesWithin Dat.bound
  rw [h0]
  iintro HO
  iexists W
  isplitr
  · ipureintro; exact fun _ _ => Or.inl trivial
  iexact HO
/-- What the call holds, as the core owes it. -/
theorem owes_out (t : Fin (cfg0.N + 1)) (O : CellTallies nD τ sig Unit) (h0 : (dat (F := F) m c).owed t = O) :
    ((dat (F := F) m c).owesAt () t : sProp 𝕄) ⊢ iprop(∃ W, owes (c : Thread nD τ) O W) := by
  unfold Dat.owesAt Pipeline.owesWithin
  rw [h0]
  iintro ⟨%W, -, HO⟩
  iexists W
  iexact HO

/-- A whole buffer, as it is held. -/
theorem owns_whole (b : Ref sig .tc) (Y : b.ty.Contents (Elt F)) :
    (owns (Ix := Unit) (Name := ℕ) (U := UU) (Lvl := ℕ) (c : Thread nD τ) (Memref.whole b) fullShare Y : sProp 𝕄)
      ⊣⊢ (((c : Thread nD τ).loc b) ↦{fullShare} Y) := by
  unfold owns
  simp only [Memref.view_whole, View.read_whole, View.set_whole]
  constructor
  · iintro ⟨%f, %h, H⟩
    subst h
    iexact H
  · iintro H
    iexists Y
    isplitr
    · ipureintro; rfl
    iexact H

/-- The staged table is the one computed. -/
theorem staged (d) : (dat (F := F) m c).before (0 : Fin 1) t0_0 d = tab c := by
  unfold Dat.before
  rw [if_pos (fetch0_0 t0_0)]
  have e1 : (dat (F := F) m c).fetched (0 : Fin 1) t0_0 d = (win0_0.blk t0_0).view.read (Elt F) (V9 m c (Proc.devRef .tc main_v48)) := rfl
  rw [e1]
  funext i
  have e2 : ((win0_0.blk t0_0).view.emb i : S34.Idx) = i := funext fun a => Fin.ext (by fin_cases a; show 0 * 34 + 1 * (i 0).val = (i 0).val; omega)
  exact (congrArg (V9 m c (Proc.devRef .tc main_v48) : IVec S34 32) e2).trans (meta_read m c i)

/-- The table, held by its memory reference or by its buffer. -/
theorem tab_held : (tabPts (F := F) c) ⊣⊢ (((c : Thread nD τ).loc cc0_stg0_0) ↦{fullShare} tab (F := F) c : sProp 𝕄) := ⟨BI.Entails.refl _, BI.Entails.refl _⟩

/-- What the body leaves is what the call leaves. -/
theorem body_end (κ : GSem nD τ sig → ℕ) : iprop(tabPts (F := F) c ∗ End m κ c iprop(∃ r, prngReg c r))
    ⊢ (|={Set.univ}=> (Left m c ∗ (dat (F := F) m c).owesAt () (Fin.last _) ∗ owns (c : Thread nD τ) (Memref.whole cc0_stg0_0) fullShare (tab (F := F) c)) : sProp 𝕄) := by
  unfold Left
  iintro ⟨Hw, HE⟩
  imod (finish m κ c) $$ HE with ⟨Ho, Ha, Hb, Hk, ⟨%W, HO⟩, Hp⟩
  imodintro
  isplitl [Ho Ha Hb Hk Hp]
  · isplitl [Ho]; · iexact Ho
    isplitl [Ha]; · iexact Ha
    isplitl [Hb]; · iexact Hb
    isplitl [Hk] <;> iassumption
  isplitl [HO]
  · iapply (owes_in m c (Fin.last _) 0 (owed_last m c) W)
    iexact HO
  iapply (owns_whole c cc0_stg0_0 (tab c)).2
  iapply (tab_held c).1
  iexact Hw

set_option maxRecDepth 40000 in
/-- The kernel runs at the call's one point. -/
theorem body_ok : BodyObligation (dat (F := F) m c) defs₀ 𝒱₀ () Set.univ := fun t => by
  obtain rfl := fin_N0 t
  rw [bigSep_W0, bigSep_W0, inv_first, t0_succ, inv_last]
  show iprop(Entry m c ∗ (dat (F := F) m c).owesAt () t0_0.castSucc
      ∗ ∃ d, owns (c : Thread nD τ) (Memref.whole cc0_stg0_0) fullShare ((dat (F := F) m c).before (0 : Fin 1) t0_0 d))
    ⊢ wp frame (wpE (defs₀ (F := F)) 𝒱₀ c none) Set.univ (bodyAt0 t0_0) fun _ =>
      iprop(Left m c ∗ (dat (F := F) m c).owesAt () (Fin.last _) ∗ owns (c : Thread nD τ) (Memref.whole cc0_stg0_0) fullShare (tab c))
  unfold Entry Xk
  iintro ⟨⟨⟨%f, Hout⟩, Harg, ⟨⟨%κ, Hk⟩, Hcr, Hl⟩, Hp⟩, HO, ⟨%d, Hw⟩⟩
  ihave HO := (owes_out m c _ (O₀ c) (owed_first m c)) $$ HO
  ihave Hw := (Entails.of_eq (congrArg (fun Y => (owns (c : Thread nD τ) (Memref.whole cc0_stg0_0) fullShare Y : sProp 𝕄)) (staged m c d))) $$ Hw
  ihave Hw := (owns_whole c cc0_stg0_0 (tab c)).1 $$ Hw
  ihave HS := (start_intro m κ c (R := iprop(∃ r, prngReg c r)) f) $$ [Hout Harg Hk Hcr Hl HO Hp]
  · isplitl [Hout]; · iexact Hout
    isplitl [Harg]; · iexact Harg
    isplitl [Hk]; · iexact Hk
    isplitl [Hcr]; · iexact Hcr
    isplitl [Hl]; · iexact Hl
    isplitl [HO] <;> iassumption
  iapply (wp_fupd frame (wpE (defs₀ (F := F)) 𝒱₀ (c : Thread nD τ) none))
  iapply (body_run m κ c (R := iprop(∃ r, prngReg c r)) (body_end m c κ))
  isplitl [Hw]
  · iapply (tab_held c).2
    iexact Hw
  iexact HS

end Cert.KernelIdeal.Hand
-- ==== Proof.Call.lean ====
/-
  The call as a segment of the program.
-/
module

public import proofs.«01_k».proof.Proof.Region
public import proofs.«01_k».proof.Proof.Gen.KernelIdeal.Regions
public import Idealize.ShloMosaic.Lib.Pipeline.RegionTalk

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (c : Dev nD)

/-- The proof data, by call: there is one. -/
def pdats : (p : Fin 1) → (c : Dev nD) → Dat τ (Elt F) Unit ℕ UU ℕ (cfgs p) c := fun _ c => dat m c

/-- What the call leaves in its result. -/
def outs : Outs (F := F) := fun _ r c => Function.update (V9 m c) (Proc.devRef .tc main_v49) (G m c) (Proc.devRef .tc r)

/-- The result's buffer. -/
abbrev bOut : DevRef τ sig := Proc.devRef .tc main_v49
/-- The argument's buffer. -/
abbrev bArg : DevRef τ sig := Proc.devRef .tc main_arg0
/-- The buffers the kernel works on. -/
def Hs : Finset (DevRef τ sig) := {bOut, bArg}
/-- The buffers that are no window's array. -/
def Sr : Finset (DevRef τ sig) := Pipeline.ucRefs τ sig \ Pipeline.arrRefs (τ := τ) spec0

/-- The only window's array is the table. -/
theorem arrs : Pipeline.arrRefs (τ := τ) spec0 = {Proc.devRef .tc main_v48} := by
  unfold Pipeline.arrRefs
  rw [show (Finset.univ : Finset (Fin 1)) = {0} from rfl, Finset.image_singleton, Finset.map_singleton]
  rfl
/-- The result and the argument differ. -/
theorem out_ne_arg : bOut ≠ bArg := by decide
/-- The result is not the table. -/
theorem out_ne_tab : bOut ≠ Proc.devRef .tc main_v48 := by decide
/-- The argument is not the table. -/
theorem arg_ne_tab : bArg ≠ Proc.devRef .tc main_v48 := by decide

/-- The kernel's buffers are no window's array. -/
theorem Hs_sub : Hs ⊆ Sr := by
  intro b hb
  unfold Sr
  rw [arrs, Finset.mem_sdiff, Finset.mem_singleton]
  rcases Finset.mem_insert.mp hb with rfl | hb
  · exact ⟨Finset.mem_filter.mpr ⟨StableHlo.devRef_mem_tcRefs main_v49, by decide⟩, out_ne_tab⟩
  · obtain rfl := Finset.mem_singleton.mp hb
    exact ⟨Finset.mem_filter.mpr ⟨StableHlo.devRef_mem_tcRefs main_arg0, by decide⟩, arg_ne_tab⟩

/-- The result after the call. -/
theorem V10_out : V10 m (outs m) c bOut = G m c := by
  unfold V10 outs
  rw [Function.update_self, Function.update_self]
/-- No other buffer is changed. -/
theorem V10_else (b : DevRef τ sig) (h : b ≠ bOut) : V10 m (outs m) c b = V9 m c b := by
  unfold V10
  exact Function.update_of_ne h _ _

/-- The kernel's buffers, held. -/
theorem held_Hs (V : Valuation τ sig (Elt F)) : (StableHlo.held (c : Thread nD τ) Hs V : sProp 𝕄)
    = iprop((((c : Thread nD τ).loc main_v49) ↦{fullShare} V bOut) ∗ (((c : Thread nD τ).loc main_arg0) ↦{fullShare} V bArg)) := by
  unfold StableHlo.held Hs
  rw [bigSep_insert (fun h => out_ne_arg (Finset.mem_singleton.mp h)), bigSep_singleton]
  rfl

/-- On entry. -/
theorem call_in : iprop(Pipeline.scopedRest (Pipeline.pin (pcfgs (F := F)) adm 0).spec c ∗ (∃ r, prngReg c r) ∗ StableHlo.held (c.tc : Thread nD τ) Hs (V9 m c) ∗ Xk m c)
    ⊢ (pdats m 0 c).Φ 0 := by
  rw [show (pdats m 0 c).Φ 0 = Entry m c from inv_zero m c, held_Hs, show V9 m c bArg = X m c from arg_eq m c]
  unfold Entry
  iintro ⟨-, Hp, ⟨Ho, Ha⟩, HX⟩
  isplitl [Ho]; · iexists _; iexact Ho
  isplitl [Ha]; · iexact Ha
  isplitl [HX] <;> iassumption

/-- On exit. -/
theorem call_out : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V10 m (outs m) c)
      ∗ Pipeline.ownSems0 osem c ∗ semVal (barCell c) 0) := by
  rw [show (pdats m 0 c).Φ (Fin.last _) = Left m c from inv_last m c, held_Hs, V10_out,
    show V10 m (outs m) c bArg = X m c from (V10_else m c bArg out_ne_arg.symm).trans (arg_eq m c),
    show Pipeline.scopedRest (Pipeline.pin (pcfgs (F := F)) adm 0).spec c = (iprop(emp) : sProp 𝕄) from scopedRest0_eq c]
  unfold Left
  iintro ⟨Ho, Ha, Hb, Hk, Hp⟩
  isplitr; · iempintro
  isplitl [Hp]; · iexact Hp
  isplitl [Ho Ha]
  · isplitl [Ho] <;> iassumption
  isplitl [Hk] <;> iassumption

/-- The counters of the copies are the call's own, one each, and none is the pipeline's. -/
theorem own_sems : Pipeline.OwnSemFacts spec0 osem where
  isScoped := by decide +kernel
  inj j k h := osem_inj j k h
  disj k w s h := by
    have hw : w = 0 := Subsingleton.elim _ _
    subst hw
    have h1 := congrArg Fin.val (SemLoc.dma.inj h)
    have h2 : k.val + 1 = 0 := h1
    omega

/-- What the launch of the call needs of its windows. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Whatever a core owes is of a higher level than the pipeline's cells. -/
theorem cut (t : Fin (cfg0.N + 1)) (g : GSem nD τ sig) (i : Unit) (h : 0 < (dat (F := F) m c).owed t g i) : i ∈ L g ∧ (0 : ℕ) < lv g i := by
  have e : (dat (F := F) m c).owed t = if t.val = 0 then O₀ c else 0 := rfl
  rw [e] at h
  split at h
  · rcases O₀_pos h with ⟨j, rfl⟩ | ⟨d, rfl⟩
    · exact ⟨by rw [L_tc]; exact Finset.mem_singleton_self _, by rw [show i = () from rfl, lv_recv]; omega⟩
    · exact ⟨by rw [L_tc]; exact Finset.mem_singleton_self _, by rw [show i = () from rfl, lv_bar]; decide⟩
  · exact absurd h (Nat.lt_irrefl 0)

/-- The call leaves its table. -/
theorem arr_last (w : Fin cfg0.W) : (dat (F := F) m c).arrAt w cfg0.N = V10 m (outs m) c (Proc.devRef .tc (Pipeline.arrRef spec0 w)) := by
  have hw : w = (0 : Fin 1) := Subsingleton.elim (α := Fin 1) _ _
  subst hw
  rw [show cfg0.N = 1 from N_0]
  have h1 : (dat (F := F) m c).arrAt (0 : Fin 1) 1 = (dat (F := F) m c).arrAt (0 : Fin 1) 0 := by
    conv_lhs => rw [Dat.arrAt]
    split
    · rw [if_neg (by decide +revert)]
    · rfl
  exact h1.trans (V10_else m c (Proc.devRef .tc main_v48) (Ne.symm out_ne_tab)).symm

local notation "ℝ𝕊" => Pipeline.RegionSeg (pcfgs (F := F)) adm (pdats m) () defs₀ 𝒱₀ L lv

set_option backward.isDefEq.respectTransparency.types false in
/-- The call as a segment. -/
def call : ℝ𝕊 0 :=
  Pipeline.RegionSeg.ofTalk (pcfgs (F := F)) adm (pdats m) () defs₀ 𝒱₀ L lv 0 osem own_sems
    Hs Sr Hs_sub kitP rfl (fun c => (body_ok m c).loose)
    (fun _ => 0) O₀ (fun c => (owed_zero m c).trans (zero_add _).symm) (owed_last m) (fun _ => rfl) (fun c w => by unfold Dat.share; split <;> rfl)
    (V9 m) (V10 m (outs m)) (fun c b hb => V10_else m c b (fun h => (Finset.mem_sdiff.mp hb).2 (by rw [h]; exact Finset.mem_insert_self _ _)))
    (Tk m) (fun c => semVal (barCell c) 0) (Xk m) (fun c => semVal (barCell c) 0) (enter_open m) (call_in m) (call_out m)
    (fun c => by iintro H; imodintro; iexact H)
    (fun _ => 0)
    ⟨fun c w s => by show () ∈ L ((c : Thread nD τ), _); rw [L_tc]; exact Finset.mem_singleton_self _,
      fun c w s => by have hw : w = (0 : Fin 1) := Subsingleton.elim (α := Fin 1) _ _; subst hw; exact Nat.le_refl 0,
      fun c t g i h => cut m c t g i h⟩
    (fun _ => iprop(emp))
    (fun _ _ => rfl) (arr_last m)

/-- What rides beside the buffers before the call. -/
def Ride : sProp 𝕄 := iprop(Tk m c ∗ (∃ r, prngReg c r) ∗ ∃ W, owes (c : Thread nD τ) (O₀ c) W)

/-- All buffers, split into the table and the others. -/
theorem held_all (V : Valuation τ sig (Elt F)) : (StableHlo.held (c : Thread nD τ) (Pipeline.ucRefs τ sig) V : sProp 𝕄)
    = iprop(StableHlo.held (c : Thread nD τ) (Pipeline.arrRefs (τ := τ) spec0) V ∗ StableHlo.held (c : Thread nD τ) Sr V) :=
  StableHlo.held_sub_split (c : Thread nD τ) (Pipeline.arrRefs_sub_ucRefs spec0 (by decide)) V

/-- The call is entered from the buffers and what rides beside them. -/
theorem call_pre : iprop(StableHlo.held (c : Thread nD τ) (Pipeline.ucRefs τ sig) (V9 m c) ∗ Ride m c) ⊢ (call m).pre c := by
  show _ ⊢ iprop(StableHlo.held (c.tc : Thread nD τ) (Pipeline.arrRefs (τ := τ) (pcfgs (F := F) 0).spec) (V9 m c) ∗ (∃ r, prngReg c r)
    ∗ (StableHlo.held (c.tc : Thread nD τ) Sr (V9 m c) ∗ emp) ∗ Tk m c ∗ ∃ Wd, owes (c : Thread nD τ) (0 + O₀ c) Wd)
  rw [held_all, zero_add]
  unfold Ride
  iintro ⟨⟨Ha, Hs⟩, HT, Hp, HO⟩
  isplitl [Ha]; · iexact Ha
  isplitl [Hp]; · iexact Hp
  isplitl [Hs]
  · isplitl [Hs]; · iexact Hs
    iempintro
  isplitl [HT] <;> iassumption

/-- The call is left with the buffers, the barrier counter at zero, and nothing owed. -/
theorem call_post : (call m).post c ⊢ iprop((StableHlo.held (c : Thread nD τ) (Pipeline.ucRefs τ sig) (V10 m (outs m) c) ∗ semVal (barCell c) 0)
    ∗ ∃ W, owes (c : Thread nD τ) (0 : CellTallies nD τ sig Unit) W) := by
  show iprop(StableHlo.held (c.tc : Thread nD τ) (Pipeline.arrRefs (τ := τ) (pcfgs (F := F) 0).spec) (V10 m (outs m) c) ∗ (∃ r, prngReg c r)
    ∗ (StableHlo.held (c.tc : Thread nD τ) Sr (V10 m (outs m) c) ∗ emp) ∗ semVal (barCell c) 0 ∗ ∃ Wd, owes (c : Thread nD τ) (0 : CellTallies nD τ sig Unit) Wd) ⊢ _
  rw [held_all]
  iintro ⟨Ha, -, ⟨Hs, -⟩, Hb, HO⟩
  isplitr [HO]
  · isplitr [Hb]
    · isplitl [Ha] <;> iassumption
    iexact Hb
  iexact HO

end Cert.KernelIdeal.Hand
-- ==== Proof.Launch.lean ====
/-
  What the launch gives out, and that it makes what every device brings to the call.
-/
module

public import proofs.«01_k».proof.Proof.Call

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The credit of a cell is what the devices owe it at launch -/

/-- Barrier cells of different devices differ. -/
theorem bar_inj {a b : Dev nD} (h : barCell a = barCell b) : a = b := barEmb.injective h
/-- A receive cell determines its device and its transfer. -/
theorem recv_inj {a b : Dev nD} {i j : Fin 60} (h : recvCell a i = recvCell b j) : a = b ∧ i = j := by
  have h1 : (a : Thread nD τ) = (b : Thread nD τ) := congrArg Prod.fst h
  refine ⟨congrArg Prod.fst h1, ?_⟩
  have h3 := congrArg role (SemLoc.dma.inj (congrArg Prod.snd h))
  rw [role_recv, role_recv] at h3
  exact congrArg Prod.snd (Option.some.inj h3)
/-- No barrier cell is a receive cell. -/
theorem recv_ne_bar (a b : Dev nD) (i : Fin 60) : recvCell a i ≠ barCell b := fun h => dma_ne_bar (recvS i) (congrArg Prod.snd h)

/-- The neighbour sent to and the neighbour received from. -/
theorem nbr_iff (d : Fin 2) (a c : Dev nD) : c = nbr d.val a ↔ a = src d.val c :=
  ⟨fun h => by rw [h, src_nbr], fun h => by rw [h, nbr_src]⟩

/-- The transfers owe the barrier cells nothing. -/
theorem Ow_bar (d : Dev nD) : Ow d 0 (barCell c) () = 0 := by
  by_contra h
  obtain ⟨i, -, e⟩ := Ow_pos (Nat.pos_of_ne_zero h)
  exact recv_ne_bar _ _ _ e.symm
/-- What device `d` owes the barrier cell of `c`. -/
theorem owed_bar (d : Dev nD) : O₀ d (barCell c) () = (if d = src 0 c then 1 else 0) + (if d = src 1 c then 1 else 0) := by
  unfold O₀ O₁
  rw [Pi.add_apply, Finsupp.add_apply, Pi.add_apply, Finsupp.add_apply, Ow_bar, Nat.zero_add, tallyAt_apply, tallyAt_apply]
  refine congrArg₂ (· + ·) (if_congr ⟨fun h => ?_, fun h => ?_⟩ rfl rfl) (if_congr ⟨fun h => ?_, fun h => ?_⟩ rfl rfl)
  · exact (nbr_iff 0 d c).mp (bar_inj h.1)
  · exact ⟨congrArg barCell ((nbr_iff 0 d c).mpr h), rfl⟩
  · exact (nbr_iff 1 d c).mp (bar_inj h.1)
  · exact ⟨congrArg barCell ((nbr_iff 1 d c).mpr h), rfl⟩
/-- What device `d` owes a receive cell of `c`. -/
theorem owed_recv (d : Dev nD) (i : Fin 60) : O₀ d (recvCell c i) () = if d = src (i.val % 2) c then N else 0 := by
  unfold O₀ O₁
  rw [Pi.add_apply, Finsupp.add_apply, Pi.add_apply, Finsupp.add_apply, tallyAt_ne_cell (recv_ne_bar _ _ _), tallyAt_ne_cell (recv_ne_bar _ _ _),
    Finsupp.zero_apply, Nat.add_zero, Nat.add_zero]
  unfold Ow
  rw [Finset.sum_apply, Finsupp.finset_sum_apply, Finset.sum_eq_single i]
  · rw [tallyAt_apply]
    refine if_congr ⟨fun h => ?_, fun h => ?_⟩ rfl rfl
    · exact (nbr_iff ⟨i.val % 2, Nat.mod_lt _ (by decide)⟩ d c).mp (recv_inj h.1).1
    · exact ⟨congrArg (fun x => recvCell x i) ((nbr_iff ⟨i.val % 2, Nat.mod_lt _ (by decide)⟩ d c).mpr h), rfl⟩
  · intro j _ hj
    rw [tallyAt_apply, if_neg fun h => hj (recv_inj h.1).2.symm]
  · intro h
    exact absurd (by simp) h

/-- The credit of a barrier cell at launch. -/
theorem launch_bar : tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar c d, Finset.sum_add_distrib,
    Finset.sum_ite_eq' Finset.univ (src 0 c) fun _ => 1, Finset.sum_ite_eq' Finset.univ (src 1 c) fun _ => 1, if_pos (Finset.mem_univ _), if_pos (Finset.mem_univ _)]
/-- The credit of a receive cell at launch. -/
theorem launch_recv (i : Fin 60) :
    tallyOn (recvCell c i) (launchCredit (Pipeline.owing O₀) 0 (recvCell c i)) = (tallyAt (recvCell c i) () N : CellTallies nD τ sig Unit) := by
  unfold tallyAt
  refine congrArg _ (Finsupp.ext fun u => ?_)
  cases u
  rw [Pipeline.launchCredit_owing, Finsupp.single_eq_same, Finset.sum_congr rfl fun d _ => owed_recv c d i,
    Finset.sum_ite_eq' Finset.univ (src (i.val % 2) c) fun _ => N, if_pos (Finset.mem_univ _)]

/-- The receive semaphores as an embedding. -/
def recvEmb : Fin 60 ↪ SemLoc sig := ⟨fun i => .dma (recvS i), fun i j h => (recv_inj (a := 0) (b := 0) (congrArg (fun s => ((0 : Dev nD).tc, s)) h)).2⟩

omit [FloatOps F] in
/-- The credits a device waits with, out of those it gets at launch. -/
theorem creds : (Pipeline.launchCred O₀ c : sProp 𝕄) ⊢ credits c := by
  unfold Pipeline.launchCred credits
  rw [bigSep_univ_at _ (SemLoc.reg barS), launch_bar]
  refine sep_mono_right ((bigSep_subset (t := Finset.univ.map recvEmb) fun s hs => ?_).trans ?_)
  · obtain ⟨i, -, rfl⟩ := Finset.mem_map.mp hs
    exact Finset.mem_erase.mpr ⟨dma_ne_bar _, Finset.mem_univ _⟩
  · have e := (bigSep_map (s := Finset.univ) recvEmb (Φ := fun sm : SemLoc sig =>
      (cred (tallyOn ((c : Thread nD τ), sm) (launchCredit (Pipeline.owing O₀) 0 ((c : Thread nD τ), sm))) : sProp 𝕄))).trans
      (bigSep_congr fun i _ => congrArg cred (launch_recv c i))
    rw [e]
    exact BI.Entails.refl _

/-! ## The tokens of all payments -/

/-- The payments to the cells of one device: the two to the barrier cell, the one to each copy's. -/
def payment : Dev nD × (Bool ⊕ Fin 121) → GSem nD τ sig × ℕ × Bool
  | (c, .inl b) => (barCell c, 0, b)
  | (c, .inr k) => (kcell (c, k), 0, false)
/-- No payment is listed twice. -/
theorem payment_inj : Function.Injective payment := by
  rintro ⟨a, x | x⟩ ⟨b, y | y⟩ h
  · have h1 : barCell a = barCell b := congrArg Prod.fst h
    have h2 : x = y := congrArg (fun t => t.2.2) h
    rw [bar_inj h1, h2]
  · exact absurd (congrArg (fun t => t.1.2) h) (fun e => by cases e)
  · exact absurd (congrArg (fun t => t.1.2) h) (fun e => by cases e)
  · have h1 : kEmb (a, x) = kEmb (b, y) := congrArg Prod.fst h
    have h2 := kEmb.injective h1
    cases h2
    rfl
/-- The tokens made at launch. -/
def talk : Finset (GSem nD τ sig × ℕ × Bool) := Finset.univ.map ⟨payment, payment_inj⟩

omit [FloatOps F] in
/-- A family over the two directions. -/
theorem both (Φ : Bool → sProp 𝕄) : bigSep Finset.univ Φ = iprop(Φ false ∗ Φ true) :=
  (bigSep_univ_eq_bigSepL [false, true] (by decide) (by decide) Φ)

/-- The tokens of the payments to the cells of device `c`. -/
def paid : sProp 𝕄 :=
  iprop((dutyTok ER (barCell c) 0 false ∗ dutyTok ER (barCell c) 0 true) ∗ dutyTok ER (copyCell c) 0 false
    ∗ (bigSep Finset.univ fun i : Fin 60 => dutyTok ER (sendCell c i) 0 false) ∗ bigSep Finset.univ fun i : Fin 60 => dutyTok ER (recvCell c i) 0 false)

omit [FloatOps F] in
/-- The tokens made at launch, device by device. -/
theorem talk_eq : bigSep talk (fun x => (dutyTok ER x.1 x.2.1 x.2.2 : sProp 𝕄)) = bigSep Finset.univ fun c : Dev nD => paid (F := F) c := by
  unfold talk
  rw [bigSep_map, bigSep_univ_prod]
  refine bigSep_congr fun c _ => ?_
  rw [bigSep_univ_sum, both]
  unfold paid
  exact congrArg₂ BI.sep rfl (cells_split (F := F) fun s => dutyTok ER ((c : Thread nD τ), s) 0 false)

/-- The devices, each to its neighbour. -/
def around (d : Fin 2) : Dev nD ≃ Dev nD := ⟨nbr d.val, src d.val, src_nbr d, nbr_src d⟩
/-- The transfers, each to the cell it ends in. -/
def across : Dev nD × Fin 60 ≃ Dev nD × Fin 60 where
  toFun p := (tgt p.1 p.2, p.2)
  invFun p := (src (p.2.val % 2) p.1, p.2)
  left_inv p := Prod.ext (src_nbr ⟨p.2.val % 2, Nat.mod_lt _ (by decide)⟩ p.1) rfl
  right_inv p := Prod.ext (nbr_src ⟨p.2.val % 2, Nat.mod_lt _ (by decide)⟩ p.1) rfl

omit [FloatOps F] in
/-- The receive tokens, each with the device that pays. -/
theorem recv_across : (bigSep Finset.univ fun c : Dev nD => bigSep Finset.univ fun i : Fin 60 => (dutyTok ER (recvCell c i) 0 false : sProp 𝕄))
    = bigSep Finset.univ fun c : Dev nD => bigSep Finset.univ fun i : Fin 60 => dutyTok ER (recvCell (tgt c i) i) 0 false := by
  have h1 := bigSep_univ_prod (fun p : Dev nD × Fin 60 => (dutyTok ER (recvCell p.1 p.2) 0 false : sProp 𝕄))
  have h2 := bigSep_univ_prod (fun p : Dev nD × Fin 60 => (dutyTok ER (recvCell (tgt p.1 p.2) p.2) 0 false : sProp 𝕄))
  exact h1.symm.trans ((bigSep_univ_equiv across _).trans h2)

omit [FloatOps F] in
/-- Every token to the device that makes the payment. -/
theorem talk_around : (bigSep Finset.univ fun c : Dev nD => paid (F := F) c) ⊢ bigSep Finset.univ fun c : Dev nD => pays (F := F) c := by
  have hb0 := bigSep_univ_equiv (around 1) (fun c : Dev nD => (dutyTok ER (barCell c) 0 false : sProp 𝕄))
  have hb1 := bigSep_univ_equiv (around 0) (fun c : Dev nD => (dutyTok ER (barCell c) 0 true : sProp 𝕄))
  have hr := recv_across (F := F)
  have e : ∀ c, toks (F := F) c = iprop((bigSep Finset.univ fun i : Fin 60 => dutyTok ER (recvCell (tgt c i) i) 0 false)
      ∗ bigSep Finset.univ fun i : Fin 60 => dutyTok ER (sendCell c i) 0 false) := fun c => by unfold toks; rw [bigSep_sep']
  unfold paid pays
  simp only [e]
  rw [bigSep_sep', bigSep_sep', bigSep_sep', bigSep_sep', bigSep_sep', bigSep_sep', bigSep_sep', bigSep_sep', hr]
  iintro ⟨⟨H0, H1⟩, Hc, Hs, Hr⟩
  ihave H0 := (Entails.of_eq hb0) $$ H0
  ihave H1 := (Entails.of_eq hb1) $$ H1
  isplitl [H0]; · iexact H0
  isplitl [H1]; · iexact H1
  isplitl [Hc]; · iexact Hc
  isplitl [Hr] <;> iassumption

/-! ## The launch -/

/-- Barrier cells are no copies' cells. -/
theorem disjoint_cells : Disjoint barCells kCells := by
  rw [Finset.disjoint_left]
  rintro g h₁ h₂
  obtain ⟨c, -, rfl⟩ := Finset.mem_map.mp h₁
  obtain ⟨ck, -, h⟩ := Finset.mem_map.mp h₂
  exact dma_ne_bar _ (congrArg Prod.snd h)

/-- The ghost state at launch: the pipeline's and the protocol's. -/
def u₀ : UU :=
  (initOf (Pipeline.cells (Pipeline.pin (pcfgs (F := F)) adm) cellOf_inj) (Pipeline.launchToks (Pipeline.pin (pcfgs (F := F)) adm) cellOf_inj),
    launchOf barCells kCells talk)
/-- A resource on one device. -/
def onDev (c₀ : Dev nD) (P : sProp 𝕄) (c : Dev nD) : sProp 𝕄 := if c = c₀ then P else iprop(emp)
omit [FloatOps F] in
/-- Over all devices it is the resource. -/
theorem bigSep_onDev (c₀ : Dev nD) (P : sProp 𝕄) : bigSep Finset.univ (onDev c₀ P) = P := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev
  rw [if_pos rfl]
  exact eq_of sep_emp
/-- The protocol's ghost state, kept on device 0 until the launch's common step. -/
def ghost : Dev nD → sProp 𝕄 := onDev 0 (BI.own (ER (launchOf barCells kCells talk)))

/-- The ghost state is the pipeline's and the protocol's. -/
theorem ghost_start : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (ghost (F := F))) := by
  unfold u₀ ghost
  iintro Hu
  ihave H := (ownU_pair _ _) $$ Hu
  icases H with ⟨HP, HX⟩
  imodintro
  isplitl [HP]; · iexact HP
  rw [bigSep_onDev]
  iexact HX

/-- The only counter outside the call is the barrier's. -/
theorem unscoped_eq : ∀ sm : SemLoc sig, sm.isScoped .tc = false → sm = .reg barS := by decide +kernel
/-- So the set of those is that one. -/
theorem unscoped_set : (Finset.univ.filter fun sm : SemLoc sig => ¬ sm.isScoped .tc) = {SemLoc.reg barS} := by
  ext s
  rw [Finset.mem_filter, Finset.mem_singleton]
  constructor
  · intro h
    exact unscoped_eq s (Bool.eq_false_iff.mpr h.2)
  · rintro rfl
    exact ⟨Finset.mem_univ _, by decide⟩
omit [FloatOps F] in
/-- The counters outside the call, at zero. -/
theorem unscopedSems0_eq : (unscopedSems0 c : sProp 𝕄) = semVal (barCell c) 0 := by
  unfold unscopedSems0
  rw [unscoped_set, bigSep_singleton]

/-- What a device keeps of its ghost state. -/
def keeps : sProp 𝕄 :=
  iprop(atPos ER (barCell c) 0 ∅ 0 ∗ (bigSep Finset.univ fun k : Fin 121 => openTok ER (kcell (c, k))) ∗ pays c)
/-- What it has besides. -/
def rest : sProp 𝕄 := iprop(credits c ∗ owes (c : Thread nD τ) (O₀ c) ∅ ∗ ∃ r, prngReg c r)

omit [FloatOps F] in
/-- That is what rides to the call. -/
theorem ride_intro (κ : GSem nD τ sig → ℕ) : iprop(records m κ ∗ (keeps c ∗ rest c)) ⊢ Ride m c := by
  unfold keeps rest Ride Tk
  iintro ⟨#HR, ⟨Ha, Ho, Hp⟩, Hc, HO, Hr⟩
  isplitl [Ha Ho Hp Hc]
  · isplitr [Hc]
    · iexists κ
      isplitr; · iexact HR
      isplitl [Ha]; · iexact Ha
      isplitl [Ho] <;> iassumption
    · iexact Hc
  isplitl [Hr]; · iexact Hr
  iexists ∅
  iexact HO

omit [FloatOps F] in
/-- Two families over the devices are one family of pairs. -/
theorem pair (Φ Ψ : Dev nD → sProp 𝕄) : iprop(bigSep Finset.univ Φ ∗ bigSep Finset.univ Ψ) ⊢ bigSep Finset.univ fun d => iprop(Φ d ∗ Ψ d) :=
  Entails.of_eq (bigSep_sep' _ _ _).symm

omit [FloatOps F] in
/-- All devices' holdings at launch make what rides to the call. -/
theorem launch (ρ : Dev nD → PrngReg) :
    (bigSep Finset.univ fun c : Dev nD => iprop(unscopedSems0 c ∗ owes (c : Thread nD τ) (O₀ c) ∅ ∗ Pipeline.launchCred O₀ c ∗ prngReg c (ρ c) ∗ ghost c))
      ⊢ (|={Set.univ}=> bigSep Finset.univ (Ride m) : sProp 𝕄) := by
  have hcore (c : Dev nD) : iprop(unscopedSems0 c ∗ owes (c : Thread nD τ) (O₀ c) ∅ ∗ Pipeline.launchCred O₀ c ∗ prngReg c (ρ c) ∗ ghost c)
      ⊢ (iprop(rest c ∗ (semVal (barCell c) 0 ∗ ghost c)) : sProp 𝕄) := by
    rw [unscopedSems0_eq]
    unfold rest
    iintro ⟨Hus, HO, Hcr, Hp, HG⟩
    ihave Hc := (creds (F := F) c) $$ Hcr
    isplitl [Hc HO Hp]
    · isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep kCells (fun g => (openTok ER g : sProp 𝕄))
      ⊢ bigSep Finset.univ (fun c : Dev nD => bigSep Finset.univ fun k : Fin 121 => (openTok ER (kcell (c, k)) : sProp 𝕄)) :=
    Entails.of_eq ((bigSep_map (s := Finset.univ) kEmb (Φ := fun g : GSem nD τ sig => (openTok ER g : sProp 𝕄))).trans (bigSep_univ_prod _))
  have hghost : bigSep Finset.univ (ghost (F := F)) ⊢ BI.own (ER (launchOf barCells kCells talk)) := Entails.of_eq (bigSep_onDev (F := F) 0 _)
  have hall : (bigSep Finset.univ fun c : Dev nD => iprop(unscopedSems0 c ∗ owes (c : Thread nD τ) (O₀ c) ∅ ∗ Pipeline.launchCred O₀ c ∗ prngReg c (ρ c) ∗ ghost c))
      ⊢ (iprop((bigSep Finset.univ fun c : Dev nD => rest c) ∗ (bigSep Finset.univ fun c : Dev nD => semVal (barCell c) 0) ∗ bigSep Finset.univ fun c : Dev nD => ghost (F := F) c) : sProp 𝕄) := by
    rw [← bigSep_sep', ← bigSep_sep']
    exact bigSep_mono fun c _ => hcore c
  iintro H
  ihave H' := hall $$ H
  icases H' with ⟨HB, Hv, HG⟩
  ihave Hu := hghost $$ HG
  imod (Rounds.fund_launch ER (Rd m) disjoint_cells (fun g _ h => h) talk) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(keeps c ∗ rest c)) fun c _ => ride_intro m c κ)
  isplitr
  · unfold records recs
    isplitr; · iexact Hinv
    iapply hre
    iexact Hr
  iapply (pair _ _)
  isplitr [HB]
  · unfold keeps
    iapply (pair _ _); isplitl [Hat]; · iapply hat $$ Hat
    iapply (pair _ _); isplitl [Hopen]; · iapply hopen $$ Hopen
    iapply (talk_around (F := F))
    iapply (Entails.of_eq (talk_eq (F := F))) $$ Htok
  · iexact HB

end Cert.KernelIdeal.Hand
-- ==== Proof.Run.lean ====
/-
  The run of the program.
-/
module

public import proofs.«01_k».proof.Proof.Launch

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- What rides beside the buffers before and after the call. -/
def Beside : Fin 2 → Dev nD → sProp 𝕄 := fun k c => if k = 0 then Ride m c else iprop(semVal (barCell c) 0 ∗ ∃ W, owes (c : Thread nD τ) (0 : CellTallies nD τ sig Unit) W)
omit [FloatOps F] in
/-- Before. -/
theorem beside_zero : Beside m 0 c = Ride m c := by unfold Beside; exact if_pos rfl

/-- What a device holds at the end. -/
abbrev Last : sProp 𝕄 := iprop(StableHlo.held (c : Thread nD τ) (Pipeline.ucRefs τ sig) (V10 m (outs m) c) ∗ semVal (barCell c) 0)

/-- The result is held at the end, and the argument as it was. -/
theorem last_out : V10 m (outs m) c (Proc.devRef .tc main_v49) = G m c := V10_out m c

/-- All buffers at launch, and what rides beside them. -/
theorem start (ρ : Dev nD → PrngReg) :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ ghost c)) ∗ levAts L lv)
      ⊢ (|={Set.univ}=> bigSep Finset.univ fun c : Dev nD => iprop(StableHlo.held (c : Thread nD τ) (Pipeline.ucRefs τ sig) (V0 m c) ∗ Beside m 0 c) : sProp 𝕄) := by
  have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ ghost c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ ghost c))
          : sProp 𝕄) := by
    rw [← bigSep_sep']
    exact bigSep_mono fun c _ => by rw [← Pipeline.unscopedBufs_held (Ix := Unit) (Name := ℕ) (U := UU) (Lvl := ℕ) c (V0 m c)]; exact BI.Entails.refl _
  simp only [beside_zero]
  iintro ⟨H, -⟩
  ihave H' := hsplit $$ H
  icases H' with ⟨Hh, Hr⟩
  imod (launch m ρ) $$ Hr with HE
  imodintro
  rw [bigSep_sep']
  isplitl [Hh]; · iexact Hh
  iexact HE

/-- What is read off a device at the end. -/
def Read (c : Dev nD) (s : MemSt nD τ sig (Elt F)) : Prop :=
  (s.mem ((c.tc : Thread nD τ).loc main_v49) = G m c ∧ s.mem ((c.tc : Thread nD τ).loc main_arg0) = m ((c.tc : Thread nD τ).loc main_arg0)) ∧ s.sem (barCell c) = 0

/-- A device's holdings at the end fix what is read. -/
theorem finished (s' : Phys nD τ sig (Elt F)) : iprop(Last m c ∗ SI s') ⊢ (|={Set.univ}=> iprop(⌜Read m c s'.mem⌝ ∗ SI s') : sProp 𝕄) := by
  unfold Last StableHlo.held
  iintro ⟨⟨Hh, Hb⟩, HSI⟩
  icombine HSI Hb gives %hb
  ihave Hr := (pointsTo_read_all (Pipeline.ucRefs τ sig) (fun b => ((c : Thread nD τ).1, b)) (V10 m (outs m) c) s') $$ [Hh HSI]
  · isplitl [Hh] <;> iassumption
  icases Hr with ⟨%h, HSI⟩
  imodintro
  isplitr
  · ipureintro
    exact ⟨⟨(h (Proc.devRef .tc main_v49) (Finset.mem_filter.mpr ⟨StableHlo.devRef_mem_tcRefs main_v49, by decide⟩)).trans (V10_out m c),
      (h (Proc.devRef .tc main_arg0) (Finset.mem_filter.mpr ⟨StableHlo.devRef_mem_tcRefs main_arg0, by decide⟩)).trans (V10_main_arg0 m (outs m) c)⟩,
      by simpa using hb⟩
  · iexact HSI

set_option backward.isDefEq.respectTransparency.types false in
/-- THE RUN: from any memory with zero counters every fair execution on the sixteen devices ends; each device's result then holds all
    devices' arguments one after the other, its argument is unchanged, and every counter is at zero. -/
theorem run_main (ρ : Dev nD → PrngReg) : θ_run (defs (F := F)) (onTc (τ := τ) (main (F := F))) ⟨m, fun _ => 0, ρ⟩ (fun r =>
    (∀ c : Dev nD, r.2.mem ((c.tc : Thread nD τ).loc main_v49) = G m c
      ∧ r.2.mem ((c.tc : Thread nD τ).loc main_arg0) = m ((c.tc : Thread nD τ).loc main_arg0)) ∧ r.2.sem = fun _ => 0) :=
  Pipeline.θ_run_regions_kit_dev_sems (pcfgs (F := F)) adm (pdats m) () cellOf_inj EP defs₀ 𝒱₀ L lv m ρ main
    (segs m 𝒱₀ L lv (Beside m) () (pdats m) (call m))
    (fun c Q => by
      rewrite [main_chain c, Pipeline.Seg.run_eq_chain,
        show (segs m 𝒱₀ L lv (Beside m) () (pdats m) (call m) c).map Pipeline.Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne (ghost (F := F)) (u₀ (F := F)) ghost_start
    (T₀ := fun c => iprop(StableHlo.held (c : Thread nD τ) (Pipeline.ucRefs τ sig) (V0 m c) ∗ Beside m 0 c))
    (Tₙ := fun c => Last m c)
    (hch := fun c => ⟨.rfl, .rfl, .rfl, .rfl, .rfl, .rfl, .rfl, .rfl, .rfl,
      by have h := call_pre m c; rw [← beside_zero] at h; exact h, call_post m c⟩)
    (hinit := start m ρ) (QY := Read m) (hfin := finished m)
    (hQ := fun s h hs => ⟨fun c => (h c).1, sem_eq_zero hs fun c sm hsm => by
      obtain rfl := unscoped_eq sm hsm
      exact (h c).2⟩)

end Cert.KernelIdeal.Hand
-- ==== Proof.Same.lean ====
/-
  The program and its reading at ideal values have the same text: body, call and host operations are equal, over any float values.
-/
module

public import proofs.«01_k».proof.Proof.Gen.Kernel
public import proofs.«01_k».proof.Proof.Gen.KernelIdeal

@[expose] public section

noncomputable section

namespace Cert.Hand

open Idealize.ShloMosaic

variable {F : FTy → Type} [FloatOps F]

set_option maxHeartbeats 4000000 in
/-- The bodies of the call are equal. -/
theorem body_same : Cert.Kernel.cc0_body (F := F) = Cert.KernelIdeal.cc0_body (F := F) := rfl

set_option maxHeartbeats 4000000 in
/-- So are the tables of bodies. -/
theorem table_same : Cert.Kernel.defs₀ (F := F) = Cert.KernelIdeal.defs₀ (F := F) := by
  unfold Cert.Kernel.defs₀ Cert.KernelIdeal.defs₀
  refine congrArg Defs.onTc (funext fun l => funext fun x => ?_)
  match l, x with
  | ⟨0, _⟩, (t, s) =>
    show Cert.Kernel.cc0_body _ _ _ _ _ _ _ _ _ _ _ = Cert.KernelIdeal.cc0_body _ _ _ _ _ _ _ _ _ _ _
    rw [body_same]

set_option maxHeartbeats 4000000 in
/-- So are the tables with the pipeline. -/
theorem defs_same : Cert.Kernel.defs (F := F) = Cert.KernelIdeal.defs (F := F) := by
  unfold Cert.Kernel.defs Cert.KernelIdeal.defs
  exact congrArg _ table_same

set_option maxHeartbeats 4000000 in
/-- So are the main functions. -/
theorem main_same : Cert.Kernel.main (F := F) = Cert.KernelIdeal.main (F := F) := rfl

end Cert.Hand

end
-- ==== Proof.Value.lean ====
/-
  The result as one array, the run of the reference, and the claims.
-/
module

public import proofs.«01_k».proof.Defs
public import proofs.«01_k».proof.Proof.Run
public import proofs.«01_k».proof.Proof.Same
public import proofs.«01_k».proof.Proof.Gen.Kernel
public import proofs.«01_k».proof.Proof.Gen.KernelIdeal
public import proofs.«01_k».proof.Proof.Gen.ReferenceIdeal
public import Idealize.ShloMosaic.Lib.Claim

@[expose] public section

noncomputable section

namespace Cert.Hand

open Idealize.ShloMosaic Idealize.ShloMosaic.TcCoe Idealize.SL.Sem

section Whole
open Cert.KernelIdeal

/-- When the devices' arguments are the blocks of one array, each device's result is that array. -/
theorem whole {F : FTy → Type} [FloatOps F] (m : (ℓ : Loc nD τ sig) → Buf (Elt F) ℓ) (v : Shape.Idx ⟨2, ![65536, 1024]⟩ → Elt F .f32)
    (h : ∀ c : Dev nD, m ((c.tc : Thread nD τ).loc main_arg0) = Layout.block ⟨2, ![4096, 1024]⟩ ⟨2, ![65536, 1024]⟩ 0 16 c v) (c : Dev nD) :
    Cert.KernelIdeal.Hand.G m c = v := by
  funext j
  unfold Cert.KernelIdeal.Hand.G Cert.KernelIdeal.Hand.X
  refine (congrFun (h _) _).trans ?_
  rw [Layout.block_apply]
  refine congrArg v (funext fun b => Fin.ext ?_)
  rw [Layout.Tiles.idx_val]
  fin_cases b
  · exact (congrArg (· + (j 0).val % 4096) (Nat.mul_comm _ _)).trans (Nat.div_add_mod (j 0).val 4096)
  · rfl

end Whole

section Reference
open Cert.ReferenceIdeal

/-- The reference has no counters. -/
theorem no_counter (s : SemLoc sig) : False := by
  cases s with
  | reg q => exact Fin.elim0 q
  | dma q => exact Fin.elim0 q

/-- The reference leaves its argument. -/
theorem run_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)) ∧ r.2.sem = fun _ => 0) :=
  (θ_run (defs (F := Ideal)) _ _).mono (fun r h => ⟨fun c => h c main_arg0, funext fun s => (no_counter s.2).elim⟩)
    (StableHlo.run_hlo (defs (F := Ideal)) (main (F := Ideal)) (ops := []) (by hlo_seq) (by decide) (by decide) (by simp) (by intro _ h; exact nomatch h) m g)

end Reference

/-- The kernel runs, leaves its argument and ends with every counter at zero. -/
theorem frame_kernel : Cert.quiescent_Kernel := fun m ρ _ => by
  have h := (θ_run Cert.KernelIdeal.defs _ _).mono (fun _ h => And.intro (fun c => (h.1 c).2) h.2) (Cert.KernelIdeal.Hand.run_main (F := Bits) m ρ)
  rw [defs_same, main_same]
  exact h

/-- So does its reading at ideal values. -/
theorem frame_ideal : Cert.quiescent_KernelIdeal := fun m ρ _ =>
  (θ_run Cert.KernelIdeal.defs _ _).mono (fun _ h => And.intro (fun c => (h.1 c).2) h.2) (Cert.KernelIdeal.Hand.run_main (F := Ideal) m ρ)

/-- So does the reference. -/
theorem frame_reference : Cert.quiescent_ReferenceIdeal := fun m ρ _ => run_reference m ρ

/-- The kernel's result on every device is the reference's. -/
theorem value : Cert.algebraic_KernelIdeal_ReferenceIdeal := fun m ρ m' ρ' _ h =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ hr c => ⟨(hr.1 c).1.trans (whole m _ h c), (hr.1 c).2⟩) (Cert.KernelIdeal.Hand.run_main (F := Ideal) m ρ),
    (θ_run Cert.ReferenceIdeal.defs _ _).mono (fun _ hr => ⟨hr.1 0, hr.1 0⟩) (run_reference m' ρ')⟩

end Cert.Hand

end
-- ==== Proof.lean ====
/- The five claims together: the frames of the kernel, of the idealized kernel and of the reference, that the idealized kernel stands for the kernel, and that its result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  Cert.Hand.frame_kernel, Cert.Hand.frame_ideal, Cert.Hand.frame_reference, trivial, Cert.Hand.value⟩

end Cert.Proof

end
